-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v15) = v0 c
          ∧ r.2.mem ((c.tc : Thread Cert.Reference22Ideal.nD Cert.Reference22Ideal.τ).loc Cert.Reference22Ideal.main_v16) = v1 c
          ∧ r.2.mem ((c.tc : Thread Cert.Reference22Ideal.nD Cert.Reference22Ideal.τ).loc Cert.Reference22Ideal.main_v17) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v15) = v0 c
          ∧ r.2.mem ((c.tc : Thread Cert.Reference23Ideal.nD Cert.Reference23Ideal.τ).loc Cert.Reference23Ideal.main_v16) = v1 c
          ∧ r.2.mem ((c.tc : Thread Cert.Reference23Ideal.nD Cert.Reference23Ideal.τ).loc Cert.Reference23Ideal.main_v17) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)) (v2 : (c : Dev Cert.Kernel24Ideal.nD) → Buf (Elt Ideal) ((c.tc : Thread Cert.Kernel24Ideal.nD Cert.Kernel24Ideal.τ).loc Cert.Kernel24Ideal.main_v1_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_v1_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v15) = v0 c
          ∧ r.2.mem ((c.tc : Thread Cert.Reference24Ideal.nD Cert.Reference24Ideal.τ).loc Cert.Reference24Ideal.main_v16) = v1 c
          ∧ r.2.mem ((c.tc : Thread Cert.Reference24Ideal.nD Cert.Reference24Ideal.τ).loc Cert.Reference24Ideal.main_v17) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v15) = v0 c
          ∧ r.2.mem ((c.tc : Thread Cert.Reference25Ideal.nD Cert.Reference25Ideal.τ).loc Cert.Reference25Ideal.main_v16) = v1 c
          ∧ r.2.mem ((c.tc : Thread Cert.Reference25Ideal.nD Cert.Reference25Ideal.τ).loc Cert.Reference25Ideal.main_v17) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v9) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v10) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v10) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v10) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite_inputs.lean ====
abbrev S16512x3072 : Shape := ⟨2, ![16512, 3072]⟩
abbrev S16512x1024 : Shape := ⟨2, ![16512, 1024]⟩
abbrev S_ : Shape := ⟨0, ![]⟩

class Facts : Prop where
  bitsLt_bf16_f32 : FTy.bits .bf16 < FTy.bits .f32
  bcast_S_S16512x3072 : S_.BroadcastsInDim S16512x3072 (![] : Fin 0 → Fin S16512x3072.rank)
  bcast_S_S16512x1024 : S_.BroadcastsInDim S16512x1024 (![] : Fin 0 → Fin S16512x1024.rank)

variable [Facts]

def fn {F : FTy → Type} [FloatOps F] (main_arg0 : FVec F S16512x3072 .bf16) (main_arg1 : FVec F S16512x1024 .f32) : IVec S16512x3072 1 × IVec S16512x1024 1 :=
  let main_v0 : FVec F S16512x3072 .f32 := (extf .f32 · bitsLt_bf16_f32) main_arg0
  let main_v1 : FVec F S16512x3072 .f32 := Host.absf main_v0
  let main_cst : FVec F S_ .f32 := constant S_ .f32 0x7F800000#32
  let main_v2 : FVec F S16512x3072 .f32 := broadcastInDim S16512x3072 ![] bcast_S_S16512x3072 main_cst
  let main_v3 : IVec S16512x3072 1 := cmpf .olt main_v1 main_v2
  let main_v4 : FVec F S16512x1024 .f32 := Host.absf main_arg1
  let main_cst_0 : FVec F S_ .f32 := constant S_ .f32 0x7F800000#32
  let main_v5 : FVec F S16512x1024 .f32 := broadcastInDim S16512x1024 ![] bcast_S_S16512x1024 main_cst_0
  let main_v6 : IVec S16512x1024 1 := cmpf .olt main_v4 main_v5
  (main_v3, main_v6)
-- ==== Kernel.lean ====
abbrev S16512x3072 : Shape := ⟨2, ![16512, 3072]⟩
abbrev S16512x1024 : Shape := ⟨2, ![16512, 1024]⟩
abbrev S16512x8x128 : Shape := ⟨3, ![16512, 8, 128]⟩
abbrev S16512 : Shape := ⟨1, ![16512]⟩
abbrev S8x16512x16512 : Shape := ⟨3, ![8, 16512, 16512]⟩
abbrev S_ : Shape := ⟨0, ![]⟩
abbrev S1x16512 : Shape := ⟨2, ![1, 16512]⟩
abbrev S16512x1 : Shape := ⟨2, ![16512, 1]⟩
abbrev S16512x16512 : Shape := ⟨2, ![16512, 16512]⟩
abbrev S8x16512 : Shape := ⟨2, ![8, 16512]⟩
abbrev S8x43x3x128 : Shape := ⟨4, ![8, 43, 3, 128]⟩
abbrev S8x43x8x128 : Shape := ⟨4, ![8, 43, 8, 128]⟩
abbrev S8x43 : Shape := ⟨2, ![8, 43]⟩
abbrev S384x128 : Shape := ⟨2, ![384, 128]⟩
abbrev S16512x128 : Shape := ⟨2, ![16512, 128]⟩
abbrev S1x1x8x128 : Shape := ⟨4, ![1, 1, 8, 128]⟩
abbrev S1x1 : Shape := ⟨2, ![1, 1]⟩
abbrev S128x128 : Shape := ⟨2, ![128, 128]⟩
abbrev S1x1x1x128 : Shape := ⟨4, ![1, 1, 1, 128]⟩
abbrev S1x128 : Shape := ⟨2, ![1, 128]⟩
abbrev S128x256 : Shape := ⟨2, ![128, 256]⟩
abbrev S256x128 : Shape := ⟨2, ![256, 128]⟩
abbrev S128x384 : Shape := ⟨2, ![128, 384]⟩

abbrev nBuf : Space → Nat
  | .hbm => 57
  | .vmem => 16
  | .smem => 1
  | _ => 0

abbrev bufTy : (tb : Table) → Fin (tcTables nBuf tb) → BufTy
  | .hbm, ⟨0, _⟩ => ⟨S16512x3072, .bf16⟩
  | .hbm, ⟨1, _⟩ => ⟨S16512x1024, .f32⟩
  | .hbm, ⟨2, _⟩ => ⟨S16512x1024, .bf16⟩
  | .hbm, ⟨3, _⟩ => ⟨S16512x1024, .f32⟩
  | .hbm, ⟨4, _⟩ => ⟨S16512x8x128, .f32⟩
  | .hbm, ⟨5, _⟩ => ⟨S16512x1024, .bf16⟩
  | .hbm, ⟨6, _⟩ => ⟨S16512x1024, .f32⟩
  | .hbm, ⟨7, _⟩ => ⟨S16512x8x128, .f32⟩
  | .hbm, ⟨8, _⟩ => ⟨S16512, .i32⟩
  | .hbm, ⟨9, _⟩ => ⟨S8x16512x16512, .f32⟩
  | .hbm, ⟨10, _⟩ => ⟨S_, .f32⟩
  | .hbm, ⟨11, _⟩ => ⟨S8x16512x16512, .f32⟩
  | .hbm, ⟨12, _⟩ => ⟨S8x16512x16512, .f32⟩
  | .hbm, ⟨13, _⟩ => ⟨S1x16512, .i32⟩
  | .hbm, ⟨14, _⟩ => ⟨S16512x1, .i32⟩
  | .hbm, ⟨15, _⟩ => ⟨S16512x16512, .i32⟩
  | .hbm, ⟨16, _⟩ => ⟨S16512x16512, .i32⟩
  | .hbm, ⟨17, _⟩ => ⟨S16512x16512, .i1⟩
  | .hbm, ⟨18, _⟩ => ⟨S_, .i32⟩
  | .hbm, ⟨19, _⟩ => ⟨S16512, .i32⟩
  | .hbm, ⟨20, _⟩ => ⟨S16512, .i1⟩
  | .hbm, ⟨21, _⟩ => ⟨S1x16512, .i1⟩
  | .hbm, ⟨22, _⟩ => ⟨S16512x16512, .i1⟩
  | .hbm, ⟨23, _⟩ => ⟨S16512x16512, .i1⟩
  | .hbm, ⟨24, _⟩ => ⟨S8x16512x16512, .f32⟩
  | .hbm, ⟨25, _⟩ => ⟨S8x16512x16512, .f32⟩
  | .hbm, ⟨26, _⟩ => ⟨S_, .f32⟩
  | .hbm, ⟨27, _⟩ => ⟨S8x16512x16512, .f32⟩
  | .hbm, ⟨28, _⟩ => ⟨S8x16512x16512, .f32⟩
  | .hbm, ⟨29, _⟩ => ⟨S8x16512x16512, .f32⟩
  | .hbm, ⟨30, _⟩ => ⟨S8x16512x16512, .f32⟩
  | .hbm, ⟨31, _⟩ => ⟨S8x16512x16512, .i1⟩
  | .hbm, ⟨32, _⟩ => ⟨S8x16512x16512, .f32⟩
  | .hbm, ⟨33, _⟩ => ⟨S8x16512x16512, .f32⟩
  | .hbm, ⟨34, _⟩ => ⟨S8x16512x16512, .f32⟩
  | .hbm, ⟨35, _⟩ => ⟨S8x16512x16512, .f32⟩
  | .hbm, ⟨36, _⟩ => ⟨S8x16512x16512, .f32⟩
  | .hbm, ⟨37, _⟩ => ⟨S8x16512x16512, .f32⟩
  | .hbm, ⟨38, _⟩ => ⟨S8x16512x16512, .f32⟩
  | .hbm, ⟨39, _⟩ => ⟨S8x16512x16512, .f32⟩
  | .hbm, ⟨40, _⟩ => ⟨S8x16512x16512, .f32⟩
  | .hbm, ⟨41, _⟩ => ⟨S_, .f32⟩
  | .hbm, ⟨42, _⟩ => ⟨S_, .f32⟩
  | .hbm, ⟨43, _⟩ => ⟨S8x16512x16512, .i1⟩
  | .hbm, ⟨44, _⟩ => ⟨S8x16512x16512, .f32⟩
  | .hbm, ⟨45, _⟩ => ⟨S8x16512x16512, .f32⟩
  | .hbm, ⟨46, _⟩ => ⟨S_, .f32⟩
  | .hbm, ⟨47, _⟩ => ⟨S8x16512, .f32⟩
  | .hbm, ⟨48, _⟩ => ⟨S8x43x3x128, .f32⟩
  | .hbm, ⟨49, _⟩ => ⟨S_, .i32⟩
  | .hbm, ⟨50, _⟩ => ⟨S_, .f32⟩
  | .hbm, ⟨51, _⟩ => ⟨S8x43x8x128, .f32⟩
  | .hbm, ⟨52, _⟩ => ⟨S_, .i32⟩
  | .hbm, ⟨53, _⟩ => ⟨S8x43, .i32⟩
  | .hbm, ⟨54, _⟩ => ⟨S16512x1024, .f32⟩
  | .hbm, ⟨55, _⟩ => ⟨S16512x1024, .f32⟩
  | .hbm, ⟨56, _⟩ => ⟨S16512x1024, .f32⟩
  | .local _ .vmem, ⟨0, _⟩ => ⟨S384x128, .bf16⟩
  | .local _ .vmem, ⟨1, _⟩ => ⟨S384x128, .bf16⟩
  | .local _ .vmem, ⟨2, _⟩ => ⟨S16512x128, .bf16⟩
  | .local _ .vmem, ⟨3, _⟩ => ⟨S16512x128, .bf16⟩
  | .local _ .vmem, ⟨4, _⟩ => ⟨S16512x128, .bf16⟩
  | .local _ .vmem, ⟨5, _⟩ => ⟨S16512x128, .bf16⟩
  | .local _ .vmem, ⟨6, _⟩ => ⟨S1x1x8x128, .f32⟩
  | .local _ .vmem, ⟨7, _⟩ => ⟨S1x1x8x128, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S16512x128, .f32⟩
  | .local _ .vmem, ⟨13, _⟩ => ⟨S16512x128, .f32⟩
  | .local _ .vmem, ⟨14, _⟩ => ⟨S16512x128, .f32⟩
  | .local _ .vmem, ⟨15, _⟩ => ⟨S16512x128, .f32⟩
  | .local _ .smem, ⟨0, _⟩ => ⟨S8x43, .i32⟩
  | _, _ => ⟨S16512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v21 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_c_2 : Ref sig .tc := ⟨.hbm, 49, rfl⟩
abbrev main_call2_v0 : Ref sig .tc := ⟨.hbm, 50, rfl⟩
abbrev main_v25 : Ref sig .tc := ⟨.hbm, 51, rfl⟩
abbrev main_c_3 : Ref sig .tc := ⟨.hbm, 52, rfl⟩
abbrev main_v26 : Ref sig .tc := ⟨.hbm, 53, rfl⟩
abbrev main_v27_0 : Ref sig .tc := ⟨.hbm, 54, rfl⟩
abbrev main_v27_1 : Ref sig .tc := ⟨.hbm, 55, rfl⟩
abbrev main_v27_2 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 43], ![false, false]⟩

def k0_off1 (i : grid0.Coords) : Fin 2 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat]
@[reducible] def k0_t1_loop (i : grid0.Coords) (v5 : BitVec 32) : Scf.Loop 32 :=
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.muli v0 c3_i32
  let c1_i32_0 : BitVec 32 := 1#32
  let v2 : BitVec 32 := Scalar.subi v1 c1_i32_0
  let c2_i32 : BitVec 32 := 2#32
  let v57 : BitVec 32 := Scalar.addi v2 c2_i32
  let v58 : BitVec 32 := Scalar.subi v57 v5
  let c1_i32_27 : BitVec 32 := 1#32
  let v60 : BitVec 32 := Scalar.divsi v58 c1_i32_27
  let v61 : BitVec 32 := Scalar.muli v60 c1_i32_27
  let v62 : BitVec 32 := Scalar.addi v5 v61
  let c1_i32_28 : BitVec 32 := 1#32
  ⟨v5, v62, c1_i32_28⟩

def k0_mult1 (i : grid0.Coords) (v5 : BitVec 32) (k0_t1 : Fin (k0_t1_loop i v5).trips) : BitVec 32 :=
  let c128_i32 : BitVec 32 := 128#32
  let c0_i32_36 : BitVec 32 := 0#32
  let c1_i32_28 : BitVec 32 := 1#32
  let arg11 : BitVec 32 := Scf.iv v5 c1_i32_28 k0_t1
  let v68 : BitVec 32 := Scalar.maxsi c0_i32_36 arg11
  let v69 : BitVec 32 := Scalar.minsi c128_i32 v68
  let c128_i32_37 : BitVec 32 := 128#32
  let v70 : BitVec 32 := Scalar.muli v69 c128_i32_37
  v70
def k0_off2 (i : grid0.Coords) (v5 : BitVec 32) (k0_t1 : Fin (k0_t1_loop i v5).trips) : Fin 2 → Nat :=
  let c128_i32 : BitVec 32 := 128#32
  let c0_i32_36 : BitVec 32 := 0#32
  let c1_i32_28 : BitVec 32 := 1#32
  let arg11 : BitVec 32 := Scf.iv v5 c1_i32_28 k0_t1
  let v68 : BitVec 32 := Scalar.maxsi c0_i32_36 arg11
  let v69 : BitVec 32 := Scalar.minsi c128_i32 v68
  let c128_i32_37 : BitVec 32 := 128#32
  let v70 : BitVec 32 := Scalar.muli v69 c128_i32_37
  let v71 : BitVec 32 := v70
  let v72 : Index := Scalar.indexCast v71
  let c0_38 : Index := 0#32
  ![v72.toNat, 0]
def k0_mult2 (i : grid0.Coords) (v5 : BitVec 32) (k0_t1 : Fin (k0_t1_loop i v5).trips) : BitVec 32 :=
  let c128_i32_51 : BitVec 32 := 128#32
  let c0_i32_50 : BitVec 32 := 0#32
  let c1_i32_28 : BitVec 32 := 1#32
  let arg11 : BitVec 32 := Scf.iv v5 c1_i32_28 k0_t1
  let c1_i32_49 : BitVec 32 := 1#32
  let v88 : BitVec 32 := Scalar.subi arg11 c1_i32_49
  let v89 : BitVec 32 := Scalar.maxsi c0_i32_50 v88
  let v90 : BitVec 32 := Scalar.minsi c128_i32_51 v89
  let c128_i32_52 : BitVec 32 := 128#32
  let v91 : BitVec 32 := Scalar.muli v90 c128_i32_52
  v91
def k0_off3 (i : grid0.Coords) (v5 : BitVec 32) (k0_t1 : Fin (k0_t1_loop i v5).trips) : Fin 2 → Nat :=
  let c128_i32_51 : BitVec 32 := 128#32
  let c0_i32_50 : BitVec 32 := 0#32
  let c1_i32_28 : BitVec 32 := 1#32
  let arg11 : BitVec 32 := Scf.iv v5 c1_i32_28 k0_t1
  let c1_i32_49 : BitVec 32 := 1#32
  let v88 : BitVec 32 := Scalar.subi arg11 c1_i32_49
  let v89 : BitVec 32 := Scalar.maxsi c0_i32_50 v88
  let v90 : BitVec 32 := Scalar.minsi c128_i32_51 v89
  let c128_i32_52 : BitVec 32 := 128#32
  let v91 : BitVec 32 := Scalar.muli v90 c128_i32_52
  let v92 : BitVec 32 := v91
  let v93 : Index := Scalar.indexCast v92
  let c0_53 : Index := 0#32
  ![v93.toNat, 0]
@[reducible] def k0_t2_loop (i : grid0.Coords) (v5 : BitVec 32) : Scf.Loop 32 :=
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.muli v0 c3_i32
  let c1_i32_0 : BitVec 32 := 1#32
  let v2 : BitVec 32 := Scalar.subi v1 c1_i32_0
  let c2_i32 : BitVec 32 := 2#32
  let v57 : BitVec 32 := Scalar.addi v2 c2_i32
  let v58 : BitVec 32 := Scalar.subi v57 v5
  let c1_i32_27 : BitVec 32 := 1#32
  let v60 : BitVec 32 := Scalar.divsi v58 c1_i32_27
  let v61 : BitVec 32 := Scalar.muli v60 c1_i32_27
  let v62 : BitVec 32 := Scalar.addi v5 v61
  let v59 : BitVec 32 := Scalar.addi v5 v58
  let c1_i32_29 : BitVec 32 := 1#32
  ⟨v62, v59, c1_i32_29⟩
def k0_mult3 (i : grid0.Coords) (v5 : BitVec 32) (k0_t2 : Fin (k0_t2_loop i v5).trips) : BitVec 32 :=
  let c128_i32 : BitVec 32 := 128#32
  let c0_i32_36 : BitVec 32 := 0#32
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.muli v0 c3_i32
  let c1_i32_0 : BitVec 32 := 1#32
  let v2 : BitVec 32 := Scalar.subi v1 c1_i32_0
  let c2_i32 : BitVec 32 := 2#32
  let v57 : BitVec 32 := Scalar.addi v2 c2_i32
  let v58 : BitVec 32 := Scalar.subi v57 v5
  let c1_i32_27 : BitVec 32 := 1#32
  let v60 : BitVec 32 := Scalar.divsi v58 c1_i32_27
  let v61 : BitVec 32 := Scalar.muli v60 c1_i32_27
  let v62 : BitVec 32 := Scalar.addi v5 v61
  let c1_i32_29 : BitVec 32 := 1#32
  let arg11 : BitVec 32 := Scf.iv v62 c1_i32_29 k0_t2
  let v68 : BitVec 32 := Scalar.maxsi c0_i32_36 arg11
  let v69 : BitVec 32 := Scalar.minsi c128_i32 v68
  let c128_i32_37 : BitVec 32 := 128#32
  let v70 : BitVec 32 := Scalar.muli v69 c128_i32_37
  v70
def k0_off4 (i : grid0.Coords) (v5 : BitVec 32) (k0_t2 : Fin (k0_t2_loop i v5).trips) : Fin 2 → Nat :=
  let c128_i32 : BitVec 32 := 128#32
  let c0_i32_36 : BitVec 32 := 0#32
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.muli v0 c3_i32
  let c1_i32_0 : BitVec 32 := 1#32
  let v2 : BitVec 32 := Scalar.subi v1 c1_i32_0
  let c2_i32 : BitVec 32 := 2#32
  let v57 : BitVec 32 := Scalar.addi v2 c2_i32
  let v58 : BitVec 32 := Scalar.subi v57 v5
  let c1_i32_27 : BitVec 32 := 1#32
  let v60 : BitVec 32 := Scalar.divsi v58 c1_i32_27
  let v61 : BitVec 32 := Scalar.muli v60 c1_i32_27
  let v62 : BitVec 32 := Scalar.addi v5 v61
  let c1_i32_29 : BitVec 32 := 1#32
  let arg11 : BitVec 32 := Scf.iv v62 c1_i32_29 k0_t2
  let v68 : BitVec 32 := Scalar.maxsi c0_i32_36 arg11
  let v69 : BitVec 32 := Scalar.minsi c128_i32 v68
  let c128_i32_37 : BitVec 32 := 128#32
  let v70 : BitVec 32 := Scalar.muli v69 c128_i32_37
  let v71 : BitVec 32 := v70
  let v72 : Index := Scalar.indexCast v71
  let c0_38 : Index := 0#32
  ![v72.toNat, 0]
def k0_mult4 (i : grid0.Coords) (v5 : BitVec 32) (k0_t2 : Fin (k0_t2_loop i v5).trips) : BitVec 32 :=
  let c128_i32_51 : BitVec 32 := 128#32
  let c0_i32_50 : BitVec 32 := 0#32
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.muli v0 c3_i32
  let c1_i32_0 : BitVec 32 := 1#32
  let v2 : BitVec 32 := Scalar.subi v1 c1_i32_0
  let c2_i32 : BitVec 32 := 2#32
  let v57 : BitVec 32 := Scalar.addi v2 c2_i32
  let v58 : BitVec 32 := Scalar.subi v57 v5
  let c1_i32_27 : BitVec 32 := 1#32
  let v60 : BitVec 32 := Scalar.divsi v58 c1_i32_27
  let v61 : BitVec 32 := Scalar.muli v60 c1_i32_27
  let v62 : BitVec 32 := Scalar.addi v5 v61
  let c1_i32_29 : BitVec 32 := 1#32
  let arg11 : BitVec 32 := Scf.iv v62 c1_i32_29 k0_t2
  let c1_i32_49 : BitVec 32 := 1#32
  let v88 : BitVec 32 := Scalar.subi arg11 c1_i32_49
  let v89 : BitVec 32 := Scalar.maxsi c0_i32_50 v88
  let v90 : BitVec 32 := Scalar.minsi c128_i32_51 v89
  let c128_i32_52 : BitVec 32 := 128#32
  let v91 : BitVec 32 := Scalar.muli v90 c128_i32_52
  v91
def k0_off5 (i : grid0.Coords) (v5 : BitVec 32) (k0_t2 : Fin (k0_t2_loop i v5).trips) : Fin 2 → Nat :=
  let c128_i32_51 : BitVec 32 := 128#32
  let c0_i32_50 : BitVec 32 := 0#32
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.muli v0 c3_i32
  let c1_i32_0 : BitVec 32 := 1#32
  let v2 : BitVec 32 := Scalar.subi v1 c1_i32_0
  let c2_i32 : BitVec 32 := 2#32
  let v57 : BitVec 32 := Scalar.addi v2 c2_i32
  let v58 : BitVec 32 := Scalar.subi v57 v5
  let c1_i32_27 : BitVec 32 := 1#32
  let v60 : BitVec 32 := Scalar.divsi v58 c1_i32_27
  let v61 : BitVec 32 := Scalar.muli v60 c1_i32_27
  let v62 : BitVec 32 := Scalar.addi v5 v61
  let c1_i32_29 : BitVec 32 := 1#32
  let arg11 : BitVec 32 := Scf.iv v62 c1_i32_29 k0_t2
  let c1_i32_49 : BitVec 32 := 1#32
  let v88 : BitVec 32 := Scalar.subi arg11 c1_i32_49
  let v89 : BitVec 32 := Scalar.maxsi c0_i32_50 v88
  let v90 : BitVec 32 := Scalar.minsi c128_i32_51 v89
  let c128_i32_52 : BitVec 32 := 128#32
  let v91 : BitVec 32 := Scalar.muli v90 c128_i32_52
  let v92 : BitVec 32 := v91
  let v93 : Index := Scalar.indexCast v92
  let c0_53 : Index := 0#32
  ![v93.toNat, 0]

def k0_chk1 (i : grid0.Coords) (v5 : BitVec 32) : Prop :=
  ((k0_t1_loop i v5).OK) ∧
  (∀ k0_t1 : Fin (k0_t1_loop i v5).trips, 128 ∣ (k0_mult1 i v5 k0_t1).toNat) ∧
  (∀ k0_t1 : Fin (k0_t1_loop i v5).trips, ∀ a, (k0_off2 i v5 k0_t1) a + S128x128.size a ≤ S16512x128.size a) ∧
  (∀ k0_t1 : Fin (k0_t1_loop i v5).trips, 128 ∣ (k0_mult2 i v5 k0_t1).toNat) ∧
  (∀ k0_t1 : Fin (k0_t1_loop i v5).trips, ∀ a, (k0_off3 i v5 k0_t1) a + S128x128.size a ≤ S16512x128.size a) ∧
  ((k0_t2_loop i v5).OK) ∧
  (∀ k0_t2 : Fin (k0_t2_loop i v5).trips, 128 ∣ (k0_mult3 i v5 k0_t2).toNat) ∧
  (∀ k0_t2 : Fin (k0_t2_loop i v5).trips, ∀ a, (k0_off4 i v5 k0_t2) a + S128x128.size a ≤ S16512x128.size a) ∧
  (∀ k0_t2 : Fin (k0_t2_loop i v5).trips, 128 ∣ (k0_mult4 i v5 k0_t2).toNat) ∧
  (∀ k0_t2 : Fin (k0_t2_loop i v5).trips, ∀ a, (k0_off5 i v5 k0_t2) a + S128x128.size a ≤ S16512x128.size a)
theorem k0_t1_ok : ∀ (i : grid0.Coords) (v5 : BitVec 32) (k0_hw1 : k0_chk1 i v5), (k0_t1_loop i v5).OK := fun i v5 k0_hw1 => k0_hw1.1
theorem k0_mult1_dvd : ∀ (i : grid0.Coords) (v5 : BitVec 32) (k0_hw1 : k0_chk1 i v5) (k0_t1 : Fin (k0_t1_loop i v5).trips), 128 ∣ (k0_mult1 i v5 k0_t1).toNat := fun i v5 k0_hw1 k0_t1 => k0_hw1.2.1 k0_t1
theorem k0_off2_inb : ∀ (i : grid0.Coords) (v5 : BitVec 32) (k0_hw1 : k0_chk1 i v5) (k0_t1 : Fin (k0_t1_loop i v5).trips), ∀ a, (k0_off2 i v5 k0_t1) a + S128x128.size a ≤ S16512x128.size a := fun i v5 k0_hw1 k0_t1 => k0_hw1.2.2.1 k0_t1
theorem k0_mult2_dvd : ∀ (i : grid0.Coords) (v5 : BitVec 32) (k0_hw1 : k0_chk1 i v5) (k0_t1 : Fin (k0_t1_loop i v5).trips), 128 ∣ (k0_mult2 i v5 k0_t1).toNat := fun i v5 k0_hw1 k0_t1 => k0_hw1.2.2.2.1 k0_t1
theorem k0_off3_inb : ∀ (i : grid0.Coords) (v5 : BitVec 32) (k0_hw1 : k0_chk1 i v5) (k0_t1 : Fin (k0_t1_loop i v5).trips), ∀ a, (k0_off3 i v5 k0_t1) a + S128x128.size a ≤ S16512x128.size a := fun i v5 k0_hw1 k0_t1 => k0_hw1.2.2.2.2.1 k0_t1
theorem k0_t2_ok : ∀ (i : grid0.Coords) (v5 : BitVec 32) (k0_hw1 : k0_chk1 i v5), (k0_t2_loop i v5).OK := fun i v5 k0_hw1 => k0_hw1.2.2.2.2.2.1
theorem k0_mult3_dvd : ∀ (i : grid0.Coords) (v5 : BitVec 32) (k0_hw1 : k0_chk1 i v5) (k0_t2 : Fin (k0_t2_loop i v5).trips), 128 ∣ (k0_mult3 i v5 k0_t2).toNat := fun i v5 k0_hw1 k0_t2 => k0_hw1.2.2.2.2.2.2.1 k0_t2
theorem k0_off4_inb : ∀ (i : grid0.Coords) (v5 : BitVec 32) (k0_hw1 : k0_chk1 i v5) (k0_t2 : Fin (k0_t2_loop i v5).trips), ∀ a, (k0_off4 i v5 k0_t2) a + S128x128.size a ≤ S16512x128.size a := fun i v5 k0_hw1 k0_t2 => k0_hw1.2.2.2.2.2.2.2.1 k0_t2
theorem k0_mult4_dvd : ∀ (i : grid0.Coords) (v5 : BitVec 32) (k0_hw1 : k0_chk1 i v5) (k0_t2 : Fin (k0_t2_loop i v5).trips), 128 ∣ (k0_mult4 i v5 k0_t2).toNat := fun i v5 k0_hw1 k0_t2 => k0_hw1.2.2.2.2.2.2.2.2.1 k0_t2
theorem k0_off5_inb : ∀ (i : grid0.Coords) (v5 : BitVec 32) (k0_hw1 : k0_chk1 i v5) (k0_t2 : Fin (k0_t2_loop i v5).trips), ∀ a, (k0_off5 i v5 k0_t2) a + S128x128.size a ≤ S16512x128.size a := fun i v5 k0_hw1 k0_t2 => k0_hw1.2.2.2.2.2.2.2.2.2 k0_t2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S8x43 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16512x3072 : Shape := ⟨2, ![16512, 3072]⟩
abbrev S16512x1024 : Shape := ⟨2, ![16512, 1024]⟩
abbrev S16512x8x128 : Shape := ⟨3, ![16512, 8, 128]⟩
abbrev S16512 : Shape := ⟨1, ![16512]⟩
abbrev S8x16512x16512 : Shape := ⟨3, ![8, 16512, 16512]⟩
abbrev S_ : Shape := ⟨0, ![]⟩
abbrev S1x16512 : Shape := ⟨2, ![1, 16512]⟩
abbrev S16512x1 : Shape := ⟨2, ![16512, 1]⟩
abbrev S16512x16512 : Shape := ⟨2, ![16512, 16512]⟩
abbrev S8x128x16512 : Shape := ⟨3, ![8, 128, 16512]⟩
abbrev S8x16512x128 : Shape := ⟨3, ![8, 16512, 128]⟩

abbrev nBuf : Space → Nat
  | .hbm => 182
  | .vmem => 0
  | .smem => 0
  | _ => 0

abbrev hbmTy0_0 (i : Nat) : BufTy := match i % 128 with
  | 0 => ⟨S16512x3072, .bf16⟩
  | 1 => ⟨S16512x1024, .f32⟩
  | 2 => ⟨S16512x1024, .bf16⟩
  | 3 => ⟨S16512x1024, .f32⟩
  | 4 => ⟨S16512x1024, .bf16⟩
  | 5 => ⟨S16512x1024, .f32⟩
  | 6 => ⟨S16512x1024, .bf16⟩
  | 7 => ⟨S16512x1024, .f32⟩
  | 8 => ⟨S16512x8x128, .f32⟩
  | 9 => ⟨S16512x8x128, .f32⟩
  | 10 => ⟨S16512x8x128, .f32⟩
  | 11 => ⟨S16512, .i32⟩
  | 12 => ⟨S8x16512x16512, .f32⟩
  | 13 => ⟨S_, .f32⟩
  | 14 => ⟨S8x16512x16512, .f32⟩
  | 15 => ⟨S8x16512x16512, .f32⟩
  | 16 => ⟨S1x16512, .i32⟩
  | 17 => ⟨S16512x1, .i32⟩
  | 18 => ⟨S16512x16512, .i32⟩
  | 19 => ⟨S16512x16512, .i32⟩
  | 20 => ⟨S16512x16512, .i1⟩
  | 21 => ⟨S_, .i32⟩
  | 22 => ⟨S16512, .i32⟩
  | 23 => ⟨S16512, .i1⟩
  | 24 => ⟨S1x16512, .i1⟩
  | 25 => ⟨S16512x16512, .i1⟩
  | 26 => ⟨S16512x16512, .i1⟩
  | 27 => ⟨S8x16512x16512, .f32⟩
  | 28 => ⟨S8x16512x16512, .f32⟩
  | 29 => ⟨S_, .f32⟩
  | 30 => ⟨S8x16512x16512, .f32⟩
  | 31 => ⟨S8x16512x16512, .f32⟩
  | 32 => ⟨S8x16512x16512, .f32⟩
  | 33 => ⟨S8x16512x16512, .f32⟩
  | 34 => ⟨S8x16512x16512, .i1⟩
  | 35 => ⟨S8x16512x16512, .f32⟩
  | 36 => ⟨S8x16512x16512, .f32⟩
  | 37 => ⟨S8x16512x16512, .f32⟩
  | 38 => ⟨S8x16512x16512, .f32⟩
  | 39 => ⟨S8x16512x16512, .f32⟩
  | 40 => ⟨S8x16512x16512, .f32⟩
  | 41 => ⟨S8x16512x16512, .f32⟩
  | 42 => ⟨S8x16512x16512, .f32⟩
  | 43 => ⟨S_, .f32⟩
  | 44 => ⟨S8x16512x16512, .f32⟩
  | 45 => ⟨S8x16512x16512, .i1⟩
  | 46 => ⟨S_, .f32⟩
  | 47 => ⟨S8x16512x16512, .f32⟩
  | 48 => ⟨S8x16512x16512, .f32⟩
  | 49 => ⟨S_, .f32⟩
  | 50 => ⟨S8x16512x16512, .f32⟩
  | 51 => ⟨S8x16512x16512, .i1⟩
  | 52 => ⟨S_, .f32⟩
  | 53 => ⟨S8x16512x16512, .f32⟩
  | 54 => ⟨S8x16512x16512, .f32⟩
  | 55 => ⟨S8x16512x16512, .f32⟩
  | 56 => ⟨S8x16512x16512, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S8x16512x16512, .f32⟩
  | 65 => ⟨S8x16512x16512, .i1⟩
  | 66 => ⟨S_, .f32⟩
  | 67 => ⟨S8x16512x16512, .f32⟩
  | 68 => ⟨S8x16512x16512, .f32⟩
  | 69 => ⟨S8x16512x16512, .f32⟩
  | 70 => ⟨S8x16512x16512, .f32⟩
  | 71 => ⟨S8x16512x16512, .f32⟩
  | 72 => ⟨S_, .f32⟩
  | 73 => ⟨S8x16512x16512, .f32⟩
  | 74 => ⟨S8x16512x16512, .f32⟩
  | 75 => ⟨S8x16512x16512, .f32⟩
  | 76 => ⟨S_, .f32⟩
  | 77 => ⟨S_, .f32⟩
  | 78 => ⟨S8x16512x16512, .i1⟩
  | 79 => ⟨S8x16512x16512, .f32⟩
  | 80 => ⟨S8x16512x16512, .f32⟩
  | 81 => ⟨S_, .f32⟩
  | 82 => ⟨S8x16512x16512, .f32⟩
  | 83 => ⟨S8x16512x16512, .f32⟩
  | 84 => ⟨S_, .f32⟩
  | 85 => ⟨S8x16512x16512, .f32⟩
  | 86 => ⟨S8x16512x16512, .f32⟩
  | 87 => ⟨S8x16512x16512, .f32⟩
  | 88 => ⟨S8x16512x16512, .f32⟩
  | 89 => ⟨S8x16512x16512, .i1⟩
  | 90 => ⟨S8x16512x16512, .f32⟩
  | 91 => ⟨S8x16512x16512, .f32⟩
  | 92 => ⟨S8x16512x16512, .f32⟩
  | 93 => ⟨S8x16512x16512, .f32⟩
  | 94 => ⟨S8x16512x16512, .f32⟩
  | 95 => ⟨S8x16512x16512, .f32⟩
  | 96 => ⟨S8x16512x16512, .f32⟩
  | 97 => ⟨S8x16512x16512, .f32⟩
  | 98 => ⟨S_, .f32⟩
  | 99 => ⟨S8x16512x16512, .f32⟩
  | 100 => ⟨S8x16512x16512, .i1⟩
  | 101 => ⟨S_, .f32⟩
  | 102 => ⟨S8x16512x16512, .f32⟩
  | 103 => ⟨S8x16512x16512, .f32⟩
  | 104 => ⟨S_, .f32⟩
  | 105 => ⟨S8x16512x16512, .f32⟩
  | 106 => ⟨S8x16512x16512, .i1⟩
  | 107 => ⟨S_, .f32⟩
  | 108 => ⟨S8x16512x16512, .f32⟩
  | 109 => ⟨S8x16512x16512, .f32⟩
  | 110 => ⟨S8x16512x16512, .f32⟩
  | 111 => ⟨S8x16512x16512, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S8x16512x16512, .f32⟩
  | 120 => ⟨S8x16512x16512, .i1⟩
  | 121 => ⟨S_, .f32⟩
  | 122 => ⟨S8x16512x16512, .f32⟩
  | 123 => ⟨S8x16512x16512, .f32⟩
  | 124 => ⟨S8x16512x16512, .f32⟩
  | 125 => ⟨S8x16512x16512, .f32⟩
  | 126 => ⟨S8x16512x16512, .f32⟩
  | 127 => ⟨S_, .f32⟩
  | _ => ⟨S16512x3072, .bf16⟩

abbrev hbmTy0_1 (i : Nat) : BufTy := match i % 128 with
  | 0 => ⟨S8x16512x16512, .f32⟩
  | 1 => ⟨S8x16512x16512, .f32⟩
  | 2 => ⟨S8x16512x16512, .f32⟩
  | 3 => ⟨S_, .f32⟩
  | 4 => ⟨S_, .f32⟩
  | 5 => ⟨S8x16512x16512, .f32⟩
  | 6 => ⟨S8x16512x16512, .f32⟩
  | 7 => ⟨S8x16512x16512, .f32⟩
  | 8 => ⟨S8x16512x16512, .f32⟩
  | 9 => ⟨S_, .f32⟩
  | 10 => ⟨S_, .f32⟩
  | 11 => ⟨S8x16512x16512, .i1⟩
  | 12 => ⟨S8x16512x16512, .f32⟩
  | 13 => ⟨S8x16512x16512, .f32⟩
  | 14 => ⟨S_, .f32⟩
  | 15 => ⟨S8x16512x16512, .f32⟩
  | 16 => ⟨S8x128x16512, .f32⟩
  | 17 => ⟨S16512x8x128, .f32⟩
  | 18 => ⟨S16512x1024, .f32⟩
  | 19 => ⟨S16512x8x128, .f32⟩
  | 20 => ⟨S8x128x16512, .f32⟩
  | 21 => ⟨S8x16512x16512, .f32⟩
  | 22 => ⟨S8x128x16512, .f32⟩
  | 23 => ⟨S16512x8x128, .f32⟩
  | 24 => ⟨S_, .f32⟩
  | 25 => ⟨S8x16512x16512, .f32⟩
  | 26 => ⟨S8x16512x16512, .f32⟩
  | 27 => ⟨S8x16512x16512, .f32⟩
  | 28 => ⟨S8x16512x16512, .f32⟩
  | 29 => ⟨S_, .f32⟩
  | 30 => ⟨S_, .f32⟩
  | 31 => ⟨S8x16512x16512, .f32⟩
  | 32 => ⟨S8x16512x16512, .f32⟩
  | 33 => ⟨S8x16512x16512, .f32⟩
  | 34 => ⟨S8x16512x16512, .f32⟩
  | 35 => ⟨S8x16512x16512, .f32⟩
  | 36 => ⟨S_, .f32⟩
  | 37 => ⟨S8x16512x16512, .f32⟩
  | 38 => ⟨S8x16512x16512, .f32⟩
  | 39 => ⟨S8x16512x16512, .f32⟩
  | 40 => ⟨S8x16512x16512, .f32⟩
  | 41 => ⟨S8x16512x16512, .f32⟩
  | 42 => ⟨S8x16512x16512, .f32⟩
  | 43 => ⟨S8x16512x16512, .f32⟩
  | 44 => ⟨S_, .f32⟩
  | 45 => ⟨S8x16512x16512, .f32⟩
  | 46 => ⟨S8x16512x16512, .f32⟩
  | 47 => ⟨S8x16512x128, .f32⟩
  | 48 => ⟨S16512x8x128, .f32⟩
  | 49 => ⟨S8x16512x128, .f32⟩
  | 50 => ⟨S16512x8x128, .f32⟩
  | 51 => ⟨S16512x1024, .f32⟩
  | 52 => ⟨S16512x1024, .f32⟩
  | 53 => ⟨S16512x1024, .f32⟩
  | _ => ⟨S16512x3072, .bf16⟩

abbrev hbmTy (i : Nat) : BufTy := match i / 128 with
  | 0 => hbmTy0_0 i
  | 1 => hbmTy0_1 i
  | _ => ⟨S16512x3072, .bf16⟩

abbrev bufTy : (tb : Table) → Fin (tcTables nBuf tb) → BufTy
  | .hbm, ⟨i, _⟩ => hbmTy i
  | _, _ => ⟨S16512x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1_0 : Ref sig .tc := ⟨.hbm, 42, rfl⟩
abbrev main_call0_call0_cst_0 : Ref sig .tc := ⟨.hbm, 43, rfl⟩
abbrev main_call0_call0_v13 : Ref sig .tc := ⟨.hbm, 44, rfl⟩
abbrev main_call0_call0_v14 : Ref sig .tc := ⟨.hbm, 45, rfl⟩
abbrev main_call0_call0_cst_1 : Ref sig .tc := ⟨.hbm, 46, rfl⟩
abbrev main_call0_call0_v15 : Ref sig .tc := ⟨.hbm, 47, rfl⟩
abbrev main_call0_call0_v16 : Ref sig .tc := ⟨.hbm, 48, rfl⟩
abbrev main_call0_call0_cst_2 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_cst_3 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_v21 : Ref sig .tc := ⟨.hbm, 55, rfl⟩
abbrev main_v24_1 : Ref sig .tc := ⟨.hbm, 56, rfl⟩
abbrev main_call0_call0_cst_4 : Ref sig .tc := ⟨.hbm, 57, rfl⟩
abbrev main_call0_call0_cst_5 : Ref sig .tc := ⟨.hbm, 58, rfl⟩
abbrev main_call0_call0_v23 : Ref sig .tc := ⟨.hbm, 59, rfl⟩
abbrev main_call0_call0_cst_6 : Ref sig .tc := ⟨.hbm, 60, rfl⟩
abbrev main_call0_call0_cst_7 : Ref sig .tc := ⟨.hbm, 61, rfl⟩
abbrev main_call0_call0_v24 : Ref sig .tc := ⟨.hbm, 62, rfl⟩
abbrev main_call0_call0_cst_8 : Ref sig .tc := ⟨.hbm, 63, rfl⟩
abbrev main_call0_call0_v25 : Ref sig .tc := ⟨.hbm, 64, rfl⟩
abbrev main_call0_call0_v26 : Ref sig .tc := ⟨.hbm, 65, rfl⟩
abbrev main_call0_call0_cst_9 : Ref sig .tc := ⟨.hbm, 66, rfl⟩
abbrev main_call0_call0_v27 : Ref sig .tc := ⟨.hbm, 67, rfl⟩
abbrev main_call0_call0_v28 : Ref sig .tc := ⟨.hbm, 68, rfl⟩
abbrev main_call0_call0_v29 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_cst_10 : Ref sig .tc := ⟨.hbm, 72, rfl⟩
abbrev main_call0_call0_v32 : Ref sig .tc := ⟨.hbm, 73, rfl⟩
abbrev main_v24_2 : Ref sig .tc := ⟨.hbm, 74, rfl⟩
abbrev main_v24_0 : Ref sig .tc := ⟨.hbm, 75, rfl⟩
abbrev main_cst_0 : Ref sig .tc := ⟨.hbm, 76, rfl⟩
abbrev main_call1_v0 : Ref sig .tc := ⟨.hbm, 77, rfl⟩
abbrev main_v25_1 : Ref sig .tc := ⟨.hbm, 78, rfl⟩
abbrev main_call1_v2 : Ref sig .tc := ⟨.hbm, 79, rfl⟩
abbrev main_v25_0 : Ref sig .tc := ⟨.hbm, 80, rfl⟩
abbrev main_call1_cst : Ref sig .tc := ⟨.hbm, 81, rfl⟩
abbrev main_v25_2 : Ref sig .tc := ⟨.hbm, 82, rfl⟩
abbrev main_call2_v0 : Ref sig .tc := ⟨.hbm, 83, rfl⟩
abbrev main_call2_call0_cst : Ref sig .tc := ⟨.hbm, 84, rfl⟩
abbrev main_call2_call0_v0 : Ref sig .tc := ⟨.hbm, 85, rfl⟩
abbrev main_call2_call0_v1 : Ref sig .tc := ⟨.hbm, 86, rfl⟩
abbrev main_call2_call0_v2 : Ref sig .tc := ⟨.hbm, 87, rfl⟩
abbrev main_call2_call0_v3 : Ref sig .tc := ⟨.hbm, 88, rfl⟩
abbrev main_call2_call0_v4 : Ref sig .tc := ⟨.hbm, 89, rfl⟩
abbrev main_call2_call0_v5 : Ref sig .tc := ⟨.hbm, 90, rfl⟩
abbrev main_call2_call0_v6 : Ref sig .tc := ⟨.hbm, 91, rfl⟩
abbrev main_call2_call0_v7 : Ref sig .tc := ⟨.hbm, 92, rfl⟩
abbrev main_call2_call0_v8 : Ref sig .tc := ⟨.hbm, 93, rfl⟩
abbrev main_call2_call0_v9 : Ref sig .tc := ⟨.hbm, 94, rfl⟩
abbrev main_call2_call0_v10 : Ref sig .tc := ⟨.hbm, 95, rfl⟩
abbrev main_call2_call0_v11 : Ref sig .tc := ⟨.hbm, 96, rfl⟩
abbrev main_call2_v1_0 : Ref sig .tc := ⟨.hbm, 97, rfl⟩
abbrev main_call2_call0_cst_0 : Ref sig .tc := ⟨.hbm, 98, rfl⟩
abbrev main_call2_call0_v13 : Ref sig .tc := ⟨.hbm, 99, rfl⟩
abbrev main_call2_call0_v14 : Ref sig .tc := ⟨.hbm, 100, rfl⟩
abbrev main_call2_call0_cst_1 : Ref sig .tc := ⟨.hbm, 101, rfl⟩
abbrev main_call2_call0_v15 : Ref sig .tc := ⟨.hbm, 102, rfl⟩
abbrev main_call2_call0_v16 : Ref sig .tc := ⟨.hbm, 103, rfl⟩
abbrev main_call2_call0_cst_2 : Ref sig .tc := ⟨.hbm, 104, rfl⟩
abbrev main_call2_call0_v17 : Ref sig .tc := ⟨.hbm, 105, rfl⟩
abbrev main_call2_call0_v18 : Ref sig .tc := ⟨.hbm, 106, rfl⟩
abbrev main_call2_call0_cst_3 : Ref sig .tc := ⟨.hbm, 107, rfl⟩
abbrev main_call2_call0_v19 : Ref sig .tc := ⟨.hbm, 108, rfl⟩
abbrev main_call2_call0_v20 : Ref sig .tc := ⟨.hbm, 109, rfl⟩
abbrev main_call2_call0_v21 : Ref sig .tc := ⟨.hbm, 110, rfl⟩
abbrev main_v26_1 : Ref sig .tc := ⟨.hbm, 111, rfl⟩
abbrev main_call2_call0_cst_4 : Ref sig .tc := ⟨.hbm, 112, rfl⟩
abbrev main_call2_call0_cst_5 : Ref sig .tc := ⟨.hbm, 113, rfl⟩
abbrev main_call2_call0_v23 : Ref sig .tc := ⟨.hbm, 114, rfl⟩
abbrev main_call2_call0_cst_6 : Ref sig .tc := ⟨.hbm, 115, rfl⟩
abbrev main_call2_call0_cst_7 : Ref sig .tc := ⟨.hbm, 116, rfl⟩
abbrev main_call2_call0_v24 : Ref sig .tc := ⟨.hbm, 117, rfl⟩
abbrev main_call2_call0_cst_8 : Ref sig .tc := ⟨.hbm, 118, rfl⟩
abbrev main_call2_call0_v25 : Ref sig .tc := ⟨.hbm, 119, rfl⟩
abbrev main_call2_call0_v26 : Ref sig .tc := ⟨.hbm, 120, rfl⟩
abbrev main_call2_call0_cst_9 : Ref sig .tc := ⟨.hbm, 121, rfl⟩
abbrev main_call2_call0_v27 : Ref sig .tc := ⟨.hbm, 122, rfl⟩
abbrev main_call2_call0_v28 : Ref sig .tc := ⟨.hbm, 123, rfl⟩
abbrev main_call2_call0_v29 : Ref sig .tc := ⟨.hbm, 124, rfl⟩
abbrev main_call2_call0_v30 : Ref sig .tc := ⟨.hbm, 125, rfl⟩
abbrev main_call2_call0_v31 : Ref sig .tc := ⟨.hbm, 126, rfl⟩
abbrev main_call2_call0_cst_10 : Ref sig .tc := ⟨.hbm, 127, rfl⟩
abbrev main_call2_call0_v32 : Ref sig .tc := ⟨.hbm, 128, rfl⟩
abbrev main_v26_2 : Ref sig .tc := ⟨.hbm, 129, rfl⟩
abbrev main_v26_0 : Ref sig .tc := ⟨.hbm, 130, rfl⟩
abbrev main_call3_cst : Ref sig .tc := ⟨.hbm, 131, rfl⟩
abbrev main_call3_v0 : Ref sig .tc := ⟨.hbm, 132, rfl⟩
abbrev main_v27 : Ref sig .tc := ⟨.hbm, 133, rfl⟩
abbrev main_v28 : Ref sig .tc := ⟨.hbm, 134, rfl⟩
abbrev main_v29 : Ref sig .tc := ⟨.hbm, 135, rfl⟩
abbrev main_v30 : Ref sig .tc := ⟨.hbm, 136, rfl⟩
abbrev main_cst_1 : Ref sig .tc := ⟨.hbm, 137, rfl⟩
abbrev main_call4_v0 : Ref sig .tc := ⟨.hbm, 138, rfl⟩
abbrev main_v31_1 : Ref sig .tc := ⟨.hbm, 139, rfl⟩
abbrev main_call4_v2 : Ref sig .tc := ⟨.hbm, 140, rfl⟩
abbrev main_v31_0 : Ref sig .tc := ⟨.hbm, 141, rfl⟩
abbrev main_call4_cst : Ref sig .tc := ⟨.hbm, 142, rfl⟩
abbrev main_v31_2 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_call5_cst : Ref sig .tc := ⟨.hbm, 152, rfl⟩
abbrev main_call5_v0 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_call6_cst : Ref sig .tc := ⟨.hbm, 157, rfl⟩
abbrev main_call6_v0 : Ref sig .tc := ⟨.hbm, 158, rfl⟩
abbrev main_v43 : Ref sig .tc := ⟨.hbm, 159, rfl⟩
abbrev main_v44 : Ref sig .tc := ⟨.hbm, 160, rfl⟩
abbrev main_call7_v0 : Ref sig .tc := ⟨.hbm, 161, rfl⟩
abbrev main_call7_v1 : Ref sig .tc := ⟨.hbm, 162, rfl⟩
abbrev main_v45 : Ref sig .tc := ⟨.hbm, 163, rfl⟩
abbrev main_call8_cst : Ref sig .tc := ⟨.hbm, 164, rfl⟩
abbrev main_call8_v0 : Ref sig .tc := ⟨.hbm, 165, rfl⟩
abbrev main_v46 : Ref sig .tc := ⟨.hbm, 166, rfl⟩
abbrev main_call9_v0 : Ref sig .tc := ⟨.hbm, 167, rfl⟩
abbrev main_call9_v1 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_cst_2 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩

abbrev nD : Nat := 1
abbrev τ : Topo := Topo.v7x

variable {F : FTy → Type} [FloatOps F]
-- ==== Kernel2.lean ====
abbrev S16512x1024 : Shape := ⟨2, ![16512, 1024]⟩
abbrev S1024x14336 : Shape := ⟨2, ![1024, 14336]⟩
abbrev S16512x14336 : Shape := ⟨2, ![16512, 14336]⟩
abbrev S1376x1024 : Shape := ⟨2, ![1376, 1024]⟩
abbrev S1024x512 : Shape := ⟨2, ![1024, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .bf16⟩
  | .hbm, ⟨1, _⟩ => ⟨S1024x14336, .bf16⟩
  | .hbm, ⟨2, _⟩ => ⟨S16512x14336, .f32⟩
  | .local _ .vmem, ⟨0, _⟩ => ⟨S1376x1024, .bf16⟩
  | .local _ .vmem, ⟨1, _⟩ => ⟨S1376x1024, .bf16⟩
  | .local _ .vmem, ⟨2, _⟩ => ⟨S1024x512, .bf16⟩
  | .local _ .vmem, ⟨3, _⟩ => ⟨S1024x512, .bf16⟩
  | .local _ .vmem, ⟨4, _⟩ => ⟨S1376x512, .f32⟩
  | .local _ .vmem, ⟨5, _⟩ => ⟨S1376x512, .f32⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 28, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16512x1024 : Shape := ⟨2, ![16512, 1024]⟩
abbrev S1024x14336 : Shape := ⟨2, ![1024, 14336]⟩
abbrev S16512x14336 : Shape := ⟨2, ![16512, 14336]⟩

abbrev nBuf : Space → Nat
  | .hbm => 5
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S1024x14336, .bf16⟩
  | .hbm, ⟨2, _⟩ => ⟨S16512x1024, .f32⟩
  | .hbm, ⟨3, _⟩ => ⟨S1024x14336, .f32⟩
  | .hbm, ⟨4, _⟩ => ⟨S16512x14336, .f32⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S16512x1024 : Shape := ⟨2, ![16512, 1024]⟩
abbrev S1024x1024 : Shape := ⟨2, ![1024, 1024]⟩
abbrev S1376x1024 : Shape := ⟨2, ![1376, 1024]⟩
abbrev S1376x512 : Shape := ⟨2, ![1376, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .bf16⟩
  | .hbm, ⟨1, _⟩ => ⟨S16512x1024, .f32⟩
  | .hbm, ⟨2, _⟩ => ⟨S1024x1024, .f32⟩
  | .local _ .vmem, ⟨0, _⟩ => ⟨S1376x1024, .bf16⟩
  | .local _ .vmem, ⟨1, _⟩ => ⟨S1376x1024, .bf16⟩
  | .local _ .vmem, ⟨2, _⟩ => ⟨S1376x512, .f32⟩
  | .local _ .vmem, ⟨3, _⟩ => ⟨S1376x512, .f32⟩
  | .local _ .vmem, ⟨4, _⟩ => ⟨S1024x512, .f32⟩
  | .local _ .vmem, ⟨5, _⟩ => ⟨S1024x512, .f32⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 12], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1376x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16512x1024 : Shape := ⟨2, ![16512, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S16512x1024, .f32⟩
  | .hbm, ⟨2, _⟩ => ⟨S_, .f32⟩
  | .hbm, ⟨3, _⟩ => ⟨S1024x1024, .f32⟩
  | .hbm, ⟨4, _⟩ => ⟨S16512x1024, .f32⟩
  | .hbm, ⟨5, _⟩ => ⟨S16512x1024, .f32⟩
  | .hbm, ⟨6, _⟩ => ⟨S1024x1024, .f32⟩
  | .hbm, ⟨7, _⟩ => ⟨S1024x1024, .f32⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S16512x1024 : Shape := ⟨2, ![16512, 1024]⟩
abbrev S1024x1024 : Shape := ⟨2, ![1024, 1024]⟩
abbrev S1376x1024 : Shape := ⟨2, ![1376, 1024]⟩
abbrev S1024x512 : Shape := ⟨2, ![1024, 512]⟩
abbrev S1376x512 : Shape := ⟨2, ![1376, 512]⟩

abbrev nBuf : Space → Nat
  | .hbm => 5
  | .vmem => 8
  | .smem => 0
  | _ => 0

abbrev bufTy : (tb : Table) → Fin (tcTables nBuf tb) → BufTy
  | .hbm, ⟨0, _⟩ => ⟨S16512x1024, .f32⟩
  | .hbm, ⟨1, _⟩ => ⟨S1024x1024, .bf16⟩
  | .hbm, ⟨2, _⟩ => ⟨S16512x1024, .f32⟩
  | .hbm, ⟨3, _⟩ => ⟨S1024x1024, .bf16⟩
  | .hbm, ⟨4, _⟩ => ⟨S16512x1024, .f32⟩
  | .local _ .vmem, ⟨0, _⟩ => ⟨S1376x1024, .f32⟩
  | .local _ .vmem, ⟨1, _⟩ => ⟨S1376x1024, .f32⟩
  | .local _ .vmem, ⟨2, _⟩ => ⟨S1024x512, .bf16⟩
  | .local _ .vmem, ⟨3, _⟩ => ⟨S1024x512, .bf16⟩
  | .local _ .vmem, ⟨4, _⟩ => ⟨S1376x512, .f32⟩
  | .local _ .vmem, ⟨5, _⟩ => ⟨S1376x512, .f32⟩
  | .local _ .vmem, ⟨6, _⟩ => ⟨S1376x512, .f32⟩
  | .local _ .vmem, ⟨7, _⟩ => ⟨S1376x512, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S16512x1024 : Shape := ⟨2, ![16512, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024x1024, .bf16⟩
  | .hbm, ⟨2, _⟩ => ⟨S16512x1024, .f32⟩
  | .hbm, ⟨3, _⟩ => ⟨S_, .f32⟩
  | .hbm, ⟨4, _⟩ => ⟨S16512x1024, .f32⟩
  | .hbm, ⟨5, _⟩ => ⟨S1024x1024, .f32⟩
  | .hbm, ⟨6, _⟩ => ⟨S16512x1024, .f32⟩
  | .hbm, ⟨7, _⟩ => ⟨S16512x1024, .f32⟩
  | .hbm, ⟨8, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S16512x1024 : Shape := ⟨2, ![16512, 1024]⟩
abbrev S1024x5632 : Shape := ⟨2, ![1024, 5632]⟩
abbrev S16512x5632 : Shape := ⟨2, ![16512, 5632]⟩
abbrev S1376x1024 : Shape := ⟨2, ![1376, 1024]⟩
abbrev S1024x512 : Shape := ⟨2, ![1024, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .bf16⟩
  | .hbm, ⟨1, _⟩ => ⟨S1024x5632, .bf16⟩
  | .hbm, ⟨2, _⟩ => ⟨S16512x5632, .f32⟩
  | .local _ .vmem, ⟨0, _⟩ => ⟨S1376x1024, .bf16⟩
  | .local _ .vmem, ⟨1, _⟩ => ⟨S1376x1024, .bf16⟩
  | .local _ .vmem, ⟨2, _⟩ => ⟨S1024x512, .bf16⟩
  | .local _ .vmem, ⟨3, _⟩ => ⟨S1024x512, .bf16⟩
  | .local _ .vmem, ⟨4, _⟩ => ⟨S1376x512, .f32⟩
  | .local _ .vmem, ⟨5, _⟩ => ⟨S1376x512, .f32⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16512x1024 : Shape := ⟨2, ![16512, 1024]⟩
abbrev S1024x5632 : Shape := ⟨2, ![1024, 5632]⟩
abbrev S16512x5632 : Shape := ⟨2, ![16512, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S1024x5632, .bf16⟩
  | .hbm, ⟨2, _⟩ => ⟨S16512x1024, .f32⟩
  | .hbm, ⟨3, _⟩ => ⟨S1024x5632, .f32⟩
  | .hbm, ⟨4, _⟩ => ⟨S16512x5632, .f32⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S16512x1024 : Shape := ⟨2, ![16512, 1024]⟩
abbrev S16512x5632 : Shape := ⟨2, ![16512, 5632]⟩
abbrev S1024x5632 : Shape := ⟨2, ![1024, 5632]⟩
abbrev S1376x1024 : Shape := ⟨2, ![1376, 1024]⟩
abbrev S1376x512 : Shape := ⟨2, ![1376, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .bf16⟩
  | .hbm, ⟨1, _⟩ => ⟨S16512x5632, .f32⟩
  | .hbm, ⟨2, _⟩ => ⟨S1024x5632, .f32⟩
  | .local _ .vmem, ⟨0, _⟩ => ⟨S1376x1024, .bf16⟩
  | .local _ .vmem, ⟨1, _⟩ => ⟨S1376x1024, .bf16⟩
  | .local _ .vmem, ⟨2, _⟩ => ⟨S1376x512, .f32⟩
  | .local _ .vmem, ⟨3, _⟩ => ⟨S1376x512, .f32⟩
  | .local _ .vmem, ⟨4, _⟩ => ⟨S1024x512, .f32⟩
  | .local _ .vmem, ⟨5, _⟩ => ⟨S1024x512, .f32⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 12], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1376x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16512x1024 : Shape := ⟨2, ![16512, 1024]⟩
abbrev S16512x5632 : Shape := ⟨2, ![16512, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S16512x5632, .f32⟩
  | .hbm, ⟨2, _⟩ => ⟨S_, .f32⟩
  | .hbm, ⟨3, _⟩ => ⟨S1024x5632, .f32⟩
  | .hbm, ⟨4, _⟩ => ⟨S16512x1024, .f32⟩
  | .hbm, ⟨5, _⟩ => ⟨S16512x5632, .f32⟩
  | .hbm, ⟨6, _⟩ => ⟨S5632x1024, .f32⟩
  | .hbm, ⟨7, _⟩ => ⟨S1024x5632, .f32⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S16512x5632 : Shape := ⟨2, ![16512, 5632]⟩
abbrev S1024x5632 : Shape := ⟨2, ![1024, 5632]⟩
abbrev S5632x1024 : Shape := ⟨2, ![5632, 1024]⟩
abbrev S16512x1024 : Shape := ⟨2, ![16512, 1024]⟩
abbrev S1376x1408 : Shape := ⟨2, ![1376, 1408]⟩
abbrev S1408x512 : Shape := ⟨2, ![1408, 512]⟩
abbrev S1376x512 : Shape := ⟨2, ![1376, 512]⟩

abbrev nBuf : Space → Nat
  | .hbm => 4
  | .vmem => 7
  | .smem => 0
  | _ => 0

abbrev bufTy : (tb : Table) → Fin (tcTables nBuf tb) → BufTy
  | .hbm, ⟨0, _⟩ => ⟨S16512x5632, .f32⟩
  | .hbm, ⟨1, _⟩ => ⟨S1024x5632, .bf16⟩
  | .hbm, ⟨2, _⟩ => ⟨S5632x1024, .bf16⟩
  | .hbm, ⟨3, _⟩ => ⟨S16512x1024, .f32⟩
  | .local _ .vmem, ⟨0, _⟩ => ⟨S1376x1408, .f32⟩
  | .local _ .vmem, ⟨1, _⟩ => ⟨S1376x1408, .f32⟩
  | .local _ .vmem, ⟨2, _⟩ => ⟨S1408x512, .bf16⟩
  | .local _ .vmem, ⟨3, _⟩ => ⟨S1408x512, .bf16⟩
  | .local _ .vmem, ⟨4, _⟩ => ⟨S1376x512, .f32⟩
  | .local _ .vmem, ⟨5, _⟩ => ⟨S1376x512, .f32⟩
  | .local _ .vmem, ⟨6, _⟩ => ⟨S1376x512, .f32⟩
  | _, _ => ⟨S16512x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16512x5632 : Shape := ⟨2, ![16512, 5632]⟩
abbrev S1024x5632 : Shape := ⟨2, ![1024, 5632]⟩
abbrev S_ : Shape := ⟨0, ![]⟩
abbrev S16512x1024 : Shape := ⟨2, ![16512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16512x5632, .f32⟩
  | .hbm, ⟨1, _⟩ => ⟨S1024x5632, .bf16⟩
  | .hbm, ⟨2, _⟩ => ⟨S_, .f32⟩
  | .hbm, ⟨3, _⟩ => ⟨S16512x1024, .f32⟩
  | .hbm, ⟨4, _⟩ => ⟨S1024x5632, .f32⟩
  | .hbm, ⟨5, _⟩ => ⟨S16512x5632, .f32⟩
  | .hbm, ⟨6, _⟩ => ⟨S16512x1024, .f32⟩
  | _, _ => ⟨S16512x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16512x1024 : Shape := ⟨2, ![16512, 1024]⟩
abbrev S1024x1024 : Shape := ⟨2, ![1024, 1024]⟩
abbrev S1376x1024 : Shape := ⟨2, ![1376, 1024]⟩
abbrev S1376x512 : Shape := ⟨2, ![1376, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .f32⟩
  | .hbm, ⟨1, _⟩ => ⟨S16512x1024, .bf16⟩
  | .hbm, ⟨2, _⟩ => ⟨S1024x1024, .f32⟩
  | .local _ .vmem, ⟨0, _⟩ => ⟨S1376x1024, .f32⟩
  | .local _ .vmem, ⟨1, _⟩ => ⟨S1376x1024, .f32⟩
  | .local _ .vmem, ⟨2, _⟩ => ⟨S1376x512, .bf16⟩
  | .local _ .vmem, ⟨3, _⟩ => ⟨S1376x512, .bf16⟩
  | .local _ .vmem, ⟨4, _⟩ => ⟨S1024x512, .f32⟩
  | .local _ .vmem, ⟨5, _⟩ => ⟨S1024x512, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 12], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1376x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16512x1024 : Shape := ⟨2, ![16512, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x1024, .bf16⟩
  | .hbm, ⟨2, _⟩ => ⟨S_, .f32⟩
  | .hbm, ⟨3, _⟩ => ⟨S1024x1024, .f32⟩
  | .hbm, ⟨4, _⟩ => ⟨S16512x1024, .f32⟩
  | .hbm, ⟨5, _⟩ => ⟨S16512x1024, .f32⟩
  | .hbm, ⟨6, _⟩ => ⟨S1024x1024, .f32⟩
  | .hbm, ⟨7, _⟩ => ⟨S1024x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S16512x4096 : Shape := ⟨2, ![16512, 4096]⟩
abbrev S1024x4096 : Shape := ⟨2, ![1024, 4096]⟩
abbrev S16512x1024 : Shape := ⟨2, ![16512, 1024]⟩
abbrev S4096x1024 : Shape := ⟨2, ![4096, 1024]⟩
abbrev S1376x1024 : Shape := ⟨2, ![1376, 1024]⟩
abbrev S1024x512 : Shape := ⟨2, ![1024, 512]⟩
abbrev S1376x512 : Shape := ⟨2, ![1376, 512]⟩

abbrev nBuf : Space → Nat
  | .hbm => 5
  | .vmem => 9
  | .smem => 0
  | _ => 0

abbrev bufTy : (tb : Table) → Fin (tcTables nBuf tb) → BufTy
  | .hbm, ⟨0, _⟩ => ⟨S16512x4096, .f32⟩
  | .hbm, ⟨1, _⟩ => ⟨S1024x4096, .bf16⟩
  | .hbm, ⟨2, _⟩ => ⟨S16512x1024, .f32⟩
  | .hbm, ⟨3, _⟩ => ⟨S4096x1024, .bf16⟩
  | .hbm, ⟨4, _⟩ => ⟨S16512x1024, .f32⟩
  | .local _ .vmem, ⟨0, _⟩ => ⟨S1376x1024, .f32⟩
  | .local _ .vmem, ⟨1, _⟩ => ⟨S1376x1024, .f32⟩
  | .local _ .vmem, ⟨2, _⟩ => ⟨S1024x512, .bf16⟩
  | .local _ .vmem, ⟨3, _⟩ => ⟨S1024x512, .bf16⟩
  | .local _ .vmem, ⟨4, _⟩ => ⟨S1376x512, .f32⟩
  | .local _ .vmem, ⟨5, _⟩ => ⟨S1376x512, .f32⟩
  | .local _ .vmem, ⟨6, _⟩ => ⟨S1376x512, .f32⟩
  | .local _ .vmem, ⟨7, _⟩ => ⟨S1376x512, .f32⟩
  | .local _ .vmem, ⟨8, _⟩ => ⟨S1376x512, .f32⟩
  | _, _ => ⟨S16512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S16512x4096 : Shape := ⟨2, ![16512, 4096]⟩
abbrev S1024x4096 : Shape := ⟨2, ![1024, 4096]⟩
abbrev S16512x1024 : Shape := ⟨2, ![16512, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16512x4096, .f32⟩
  | .hbm, ⟨1, _⟩ => ⟨S1024x4096, .bf16⟩
  | .hbm, ⟨2, _⟩ => ⟨S16512x1024, .f32⟩
  | .hbm, ⟨3, _⟩ => ⟨S_, .f32⟩
  | .hbm, ⟨4, _⟩ => ⟨S16512x1024, .f32⟩
  | .hbm, ⟨5, _⟩ => ⟨S1024x4096, .f32⟩
  | .hbm, ⟨6, _⟩ => ⟨S16512x4096, .f32⟩
  | .hbm, ⟨7, _⟩ => ⟨S16512x1024, .f32⟩
  | .hbm, ⟨8, _⟩ => ⟨S16512x1024, .f32⟩
  | _, _ => ⟨S16512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S16512x1024 : Shape := ⟨2, ![16512, 1024]⟩
abbrev S16512x4096 : Shape := ⟨2, ![16512, 4096]⟩
abbrev S1024x4096 : Shape := ⟨2, ![1024, 4096]⟩
abbrev S1376x1024 : Shape := ⟨2, ![1376, 1024]⟩
abbrev S1376x512 : Shape := ⟨2, ![1376, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .bf16⟩
  | .hbm, ⟨1, _⟩ => ⟨S16512x4096, .f32⟩
  | .hbm, ⟨2, _⟩ => ⟨S1024x4096, .f32⟩
  | .local _ .vmem, ⟨0, _⟩ => ⟨S1376x1024, .bf16⟩
  | .local _ .vmem, ⟨1, _⟩ => ⟨S1376x1024, .bf16⟩
  | .local _ .vmem, ⟨2, _⟩ => ⟨S1376x512, .f32⟩
  | .local _ .vmem, ⟨3, _⟩ => ⟨S1376x512, .f32⟩
  | .local _ .vmem, ⟨4, _⟩ => ⟨S1024x512, .f32⟩
  | .local _ .vmem, ⟨5, _⟩ => ⟨S1024x512, .f32⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 12], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1376x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16512x1024 : Shape := ⟨2, ![16512, 1024]⟩
abbrev S16512x4096 : Shape := ⟨2, ![16512, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S16512x4096, .f32⟩
  | .hbm, ⟨2, _⟩ => ⟨S_, .f32⟩
  | .hbm, ⟨3, _⟩ => ⟨S1024x4096, .f32⟩
  | .hbm, ⟨4, _⟩ => ⟨S16512x1024, .f32⟩
  | .hbm, ⟨5, _⟩ => ⟨S16512x4096, .f32⟩
  | .hbm, ⟨6, _⟩ => ⟨S4096x1024, .f32⟩
  | .hbm, ⟨7, _⟩ => ⟨S1024x4096, .f32⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S16512x3072 : Shape := ⟨2, ![16512, 3072]⟩
abbrev S1024x3072 : Shape := ⟨2, ![1024, 3072]⟩
abbrev S16512x1024 : Shape := ⟨2, ![16512, 1024]⟩
abbrev S3072x1024 : Shape := ⟨2, ![3072, 1024]⟩
abbrev S1376x1024 : Shape := ⟨2, ![1376, 1024]⟩
abbrev S1024x512 : Shape := ⟨2, ![1024, 512]⟩
abbrev S1376x512 : Shape := ⟨2, ![1376, 512]⟩

abbrev nBuf : Space → Nat
  | .hbm => 5
  | .vmem => 9
  | .smem => 0
  | _ => 0

abbrev bufTy : (tb : Table) → Fin (tcTables nBuf tb) → BufTy
  | .hbm, ⟨0, _⟩ => ⟨S16512x3072, .f32⟩
  | .hbm, ⟨1, _⟩ => ⟨S1024x3072, .bf16⟩
  | .hbm, ⟨2, _⟩ => ⟨S16512x1024, .f32⟩
  | .hbm, ⟨3, _⟩ => ⟨S3072x1024, .bf16⟩
  | .hbm, ⟨4, _⟩ => ⟨S16512x1024, .f32⟩
  | .local _ .vmem, ⟨0, _⟩ => ⟨S1376x1024, .f32⟩
  | .local _ .vmem, ⟨1, _⟩ => ⟨S1376x1024, .f32⟩
  | .local _ .vmem, ⟨2, _⟩ => ⟨S1024x512, .bf16⟩
  | .local _ .vmem, ⟨3, _⟩ => ⟨S1024x512, .bf16⟩
  | .local _ .vmem, ⟨4, _⟩ => ⟨S1376x512, .f32⟩
  | .local _ .vmem, ⟨5, _⟩ => ⟨S1376x512, .f32⟩
  | .local _ .vmem, ⟨6, _⟩ => ⟨S1376x512, .f32⟩
  | .local _ .vmem, ⟨7, _⟩ => ⟨S1376x512, .f32⟩
  | .local _ .vmem, ⟨8, _⟩ => ⟨S1376x512, .f32⟩
  | _, _ => ⟨S16512x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S16512x3072 : Shape := ⟨2, ![16512, 3072]⟩
abbrev S1024x3072 : Shape := ⟨2, ![1024, 3072]⟩
abbrev S16512x1024 : Shape := ⟨2, ![16512, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16512x3072, .f32⟩
  | .hbm, ⟨1, _⟩ => ⟨S1024x3072, .bf16⟩
  | .hbm, ⟨2, _⟩ => ⟨S16512x1024, .f32⟩
  | .hbm, ⟨3, _⟩ => ⟨S_, .f32⟩
  | .hbm, ⟨4, _⟩ => ⟨S16512x1024, .f32⟩
  | .hbm, ⟨5, _⟩ => ⟨S1024x3072, .f32⟩
  | .hbm, ⟨6, _⟩ => ⟨S16512x3072, .f32⟩
  | .hbm, ⟨7, _⟩ => ⟨S16512x1024, .f32⟩
  | .hbm, ⟨8, _⟩ => ⟨S16512x1024, .f32⟩
  | _, _ => ⟨S16512x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S16512x1024 : Shape := ⟨2, ![16512, 1024]⟩
abbrev S16512x3072 : Shape := ⟨2, ![16512, 3072]⟩
abbrev S1024x3072 : Shape := ⟨2, ![1024, 3072]⟩
abbrev S1376x1024 : Shape := ⟨2, ![1376, 1024]⟩
abbrev S1376x512 : Shape := ⟨2, ![1376, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .bf16⟩
  | .hbm, ⟨1, _⟩ => ⟨S16512x3072, .f32⟩
  | .hbm, ⟨2, _⟩ => ⟨S1024x3072, .f32⟩
  | .local _ .vmem, ⟨0, _⟩ => ⟨S1376x1024, .bf16⟩
  | .local _ .vmem, ⟨1, _⟩ => ⟨S1376x1024, .bf16⟩
  | .local _ .vmem, ⟨2, _⟩ => ⟨S1376x512, .f32⟩
  | .local _ .vmem, ⟨3, _⟩ => ⟨S1376x512, .f32⟩
  | .local _ .vmem, ⟨4, _⟩ => ⟨S1024x512, .f32⟩
  | .local _ .vmem, ⟨5, _⟩ => ⟨S1024x512, .f32⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 12], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1376x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16512x1024 : Shape := ⟨2, ![16512, 1024]⟩
abbrev S16512x3072 : Shape := ⟨2, ![16512, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S16512x3072, .f32⟩
  | .hbm, ⟨2, _⟩ => ⟨S_, .f32⟩
  | .hbm, ⟨3, _⟩ => ⟨S1024x3072, .f32⟩
  | .hbm, ⟨4, _⟩ => ⟨S16512x1024, .f32⟩
  | .hbm, ⟨5, _⟩ => ⟨S16512x3072, .f32⟩
  | .hbm, ⟨6, _⟩ => ⟨S3072x1024, .f32⟩
  | .hbm, ⟨7, _⟩ => ⟨S1024x3072, .f32⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S16512x1024 : Shape := ⟨2, ![16512, 1024]⟩
abbrev S1024x3072 : Shape := ⟨2, ![1024, 3072]⟩
abbrev S16512x3072 : Shape := ⟨2, ![16512, 3072]⟩
abbrev S1376x1024 : Shape := ⟨2, ![1376, 1024]⟩
abbrev S1024x512 : Shape := ⟨2, ![1024, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .bf16⟩
  | .hbm, ⟨1, _⟩ => ⟨S1024x3072, .bf16⟩
  | .hbm, ⟨2, _⟩ => ⟨S16512x3072, .bf16⟩
  | .local _ .vmem, ⟨0, _⟩ => ⟨S1376x1024, .bf16⟩
  | .local _ .vmem, ⟨1, _⟩ => ⟨S1376x1024, .bf16⟩
  | .local _ .vmem, ⟨2, _⟩ => ⟨S1024x512, .bf16⟩
  | .local _ .vmem, ⟨3, _⟩ => ⟨S1024x512, .bf16⟩
  | .local _ .vmem, ⟨4, _⟩ => ⟨S1376x512, .bf16⟩
  | .local _ .vmem, ⟨5, _⟩ => ⟨S1376x512, .bf16⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S16512x1024 : Shape := ⟨2, ![16512, 1024]⟩
abbrev S1024x3072 : Shape := ⟨2, ![1024, 3072]⟩
abbrev S16512x3072 : Shape := ⟨2, ![16512, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S1024x3072, .bf16⟩
  | .hbm, ⟨2, _⟩ => ⟨S16512x1024, .f32⟩
  | .hbm, ⟨3, _⟩ => ⟨S1024x3072, .f32⟩
  | .hbm, ⟨4, _⟩ => ⟨S16512x3072, .f32⟩
  | .hbm, ⟨5, _⟩ => ⟨S16512x3072, .bf16⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S16512x2816 : Shape := ⟨2, ![16512, 2816]⟩
abbrev S2816x1024 : Shape := ⟨2, ![2816, 1024]⟩
abbrev S16512x1024 : Shape := ⟨2, ![16512, 1024]⟩
abbrev S1376x1408 : Shape := ⟨2, ![1376, 1408]⟩
abbrev S1408x512 : Shape := ⟨2, ![1408, 512]⟩
abbrev S1376x512 : Shape := ⟨2, ![1376, 512]⟩

abbrev nBuf : Space → Nat
  | .hbm => 3
  | .vmem => 7
  | .smem => 0
  | _ => 0

abbrev bufTy : (tb : Table) → Fin (tcTables nBuf tb) → BufTy
  | .hbm, ⟨0, _⟩ => ⟨S16512x2816, .bf16⟩
  | .hbm, ⟨1, _⟩ => ⟨S2816x1024, .bf16⟩
  | .hbm, ⟨2, _⟩ => ⟨S16512x1024, .f32⟩
  | .local _ .vmem, ⟨0, _⟩ => ⟨S1376x1408, .bf16⟩
  | .local _ .vmem, ⟨1, _⟩ => ⟨S1376x1408, .bf16⟩
  | .local _ .vmem, ⟨2, _⟩ => ⟨S1408x512, .bf16⟩
  | .local _ .vmem, ⟨3, _⟩ => ⟨S1408x512, .bf16⟩
  | .local _ .vmem, ⟨4, _⟩ => ⟨S1376x512, .f32⟩
  | .local _ .vmem, ⟨5, _⟩ => ⟨S1376x512, .f32⟩
  | .local _ .vmem, ⟨6, _⟩ => ⟨S1376x512, .f32⟩
  | _, _ => ⟨S16512x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16512x2816 : Shape := ⟨2, ![16512, 2816]⟩
abbrev S2816x1024 : Shape := ⟨2, ![2816, 1024]⟩
abbrev S16512x1024 : Shape := ⟨2, ![16512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16512x2816, .bf16⟩
  | .hbm, ⟨1, _⟩ => ⟨S2816x1024, .bf16⟩
  | .hbm, ⟨2, _⟩ => ⟨S16512x2816, .f32⟩
  | .hbm, ⟨3, _⟩ => ⟨S2816x1024, .f32⟩
  | .hbm, ⟨4, _⟩ => ⟨S16512x1024, .f32⟩
  | _, _ => ⟨S16512x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S16512x1024 : Shape := ⟨2, ![16512, 1024]⟩
abbrev S2816x1024 : Shape := ⟨2, ![2816, 1024]⟩
abbrev S1024x2816 : Shape := ⟨2, ![1024, 2816]⟩
abbrev S16512x2816 : Shape := ⟨2, ![16512, 2816]⟩
abbrev S1376x1024 : Shape := ⟨2, ![1376, 1024]⟩
abbrev S1024x256 : Shape := ⟨2, ![1024, 256]⟩
abbrev S1376x256 : Shape := ⟨2, ![1376, 256]⟩

abbrev nBuf : Space → Nat
  | .hbm => 4
  | .vmem => 6
  | .smem => 0
  | _ => 0

abbrev bufTy : (tb : Table) → Fin (tcTables nBuf tb) → BufTy
  | .hbm, ⟨0, _⟩ => ⟨S16512x1024, .f32⟩
  | .hbm, ⟨1, _⟩ => ⟨S2816x1024, .bf16⟩
  | .hbm, ⟨2, _⟩ => ⟨S1024x2816, .bf16⟩
  | .hbm, ⟨3, _⟩ => ⟨S16512x2816, .bf16⟩
  | .local _ .vmem, ⟨0, _⟩ => ⟨S1376x1024, .f32⟩
  | .local _ .vmem, ⟨1, _⟩ => ⟨S1376x1024, .f32⟩
  | .local _ .vmem, ⟨2, _⟩ => ⟨S1024x256, .bf16⟩
  | .local _ .vmem, ⟨3, _⟩ => ⟨S1024x256, .bf16⟩
  | .local _ .vmem, ⟨4, _⟩ => ⟨S1376x256, .bf16⟩
  | .local _ .vmem, ⟨5, _⟩ => ⟨S1376x256, .bf16⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16512x1024 : Shape := ⟨2, ![16512, 1024]⟩
abbrev S2816x1024 : Shape := ⟨2, ![2816, 1024]⟩
abbrev S_ : Shape := ⟨0, ![]⟩
abbrev S16512x2816 : Shape := ⟨2, ![16512, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S2816x1024, .bf16⟩
  | .hbm, ⟨2, _⟩ => ⟨S_, .f32⟩
  | .hbm, ⟨3, _⟩ => ⟨S16512x2816, .f32⟩
  | .hbm, ⟨4, _⟩ => ⟨S2816x1024, .f32⟩
  | .hbm, ⟨5, _⟩ => ⟨S16512x1024, .f32⟩
  | .hbm, ⟨6, _⟩ => ⟨S16512x2816, .f32⟩
  | .hbm, ⟨7, _⟩ => ⟨S16512x2816, .bf16⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S16512x2816 : Shape := ⟨2, ![16512, 2816]⟩
abbrev S16512x1024 : Shape := ⟨2, ![16512, 1024]⟩
abbrev S2816x1024 : Shape := ⟨2, ![2816, 1024]⟩
abbrev S1376x1408 : Shape := ⟨2, ![1376, 1408]⟩
abbrev S1376x512 : Shape := ⟨2, ![1376, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x2816, .bf16⟩
  | .hbm, ⟨1, _⟩ => ⟨S16512x1024, .f32⟩
  | .hbm, ⟨2, _⟩ => ⟨S2816x1024, .f32⟩
  | .local _ .vmem, ⟨0, _⟩ => ⟨S1376x1408, .bf16⟩
  | .local _ .vmem, ⟨1, _⟩ => ⟨S1376x1408, .bf16⟩
  | .local _ .vmem, ⟨2, _⟩ => ⟨S1376x512, .f32⟩
  | .local _ .vmem, ⟨3, _⟩ => ⟨S1376x512, .f32⟩
  | .local _ .vmem, ⟨4, _⟩ => ⟨S1408x512, .f32⟩
  | .local _ .vmem, ⟨5, _⟩ => ⟨S1408x512, .f32⟩
  | _, _ => ⟨S16512x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 12], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1376x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S16512x2816 : Shape := ⟨2, ![16512, 2816]⟩
abbrev S16512x1024 : Shape := ⟨2, ![16512, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16512x2816, .bf16⟩
  | .hbm, ⟨1, _⟩ => ⟨S16512x1024, .f32⟩
  | .hbm, ⟨2, _⟩ => ⟨S_, .f32⟩
  | .hbm, ⟨3, _⟩ => ⟨S2816x1024, .f32⟩
  | .hbm, ⟨4, _⟩ => ⟨S16512x2816, .f32⟩
  | .hbm, ⟨5, _⟩ => ⟨S16512x1024, .f32⟩
  | .hbm, ⟨6, _⟩ => ⟨S1024x2816, .f32⟩
  | .hbm, ⟨7, _⟩ => ⟨S2816x1024, .f32⟩
  | _, _ => ⟨S16512x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S16512x2048 : Shape := ⟨2, ![16512, 2048]⟩
abbrev S1024x2048 : Shape := ⟨2, ![1024, 2048]⟩
abbrev S16512x1024 : Shape := ⟨2, ![16512, 1024]⟩
abbrev S2048x1024 : Shape := ⟨2, ![2048, 1024]⟩
abbrev S1376x1024 : Shape := ⟨2, ![1376, 1024]⟩
abbrev S1024x512 : Shape := ⟨2, ![1024, 512]⟩
abbrev S1376x512 : Shape := ⟨2, ![1376, 512]⟩

abbrev nBuf : Space → Nat
  | .hbm => 5
  | .vmem => 9
  | .smem => 0
  | _ => 0

abbrev bufTy : (tb : Table) → Fin (tcTables nBuf tb) → BufTy
  | .hbm, ⟨0, _⟩ => ⟨S16512x2048, .f32⟩
  | .hbm, ⟨1, _⟩ => ⟨S1024x2048, .bf16⟩
  | .hbm, ⟨2, _⟩ => ⟨S16512x1024, .f32⟩
  | .hbm, ⟨3, _⟩ => ⟨S2048x1024, .bf16⟩
  | .hbm, ⟨4, _⟩ => ⟨S16512x1024, .f32⟩
  | .local _ .vmem, ⟨0, _⟩ => ⟨S1376x1024, .f32⟩
  | .local _ .vmem, ⟨1, _⟩ => ⟨S1376x1024, .f32⟩
  | .local _ .vmem, ⟨2, _⟩ => ⟨S1024x512, .bf16⟩
  | .local _ .vmem, ⟨3, _⟩ => ⟨S1024x512, .bf16⟩
  | .local _ .vmem, ⟨4, _⟩ => ⟨S1376x512, .f32⟩
  | .local _ .vmem, ⟨5, _⟩ => ⟨S1376x512, .f32⟩
  | .local _ .vmem, ⟨6, _⟩ => ⟨S1376x512, .f32⟩
  | .local _ .vmem, ⟨7, _⟩ => ⟨S1376x512, .f32⟩
  | .local _ .vmem, ⟨8, _⟩ => ⟨S1376x512, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1376x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S16512x2048 : Shape := ⟨2, ![16512, 2048]⟩
abbrev S1024x2048 : Shape := ⟨2, ![1024, 2048]⟩
abbrev S16512x1024 : Shape := ⟨2, ![16512, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S1024x2048, .bf16⟩
  | .hbm, ⟨2, _⟩ => ⟨S16512x1024, .f32⟩
  | .hbm, ⟨3, _⟩ => ⟨S_, .f32⟩
  | .hbm, ⟨4, _⟩ => ⟨S16512x1024, .f32⟩
  | .hbm, ⟨5, _⟩ => ⟨S1024x2048, .f32⟩
  | .hbm, ⟨6, _⟩ => ⟨S16512x2048, .f32⟩
  | .hbm, ⟨7, _⟩ => ⟨S16512x1024, .f32⟩
  | .hbm, ⟨8, _⟩ => ⟨S16512x1024, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel18.lean ====
abbrev S16512x1024 : Shape := ⟨2, ![16512, 1024]⟩
abbrev S16512x2048 : Shape := ⟨2, ![16512, 2048]⟩
abbrev S1024x2048 : Shape := ⟨2, ![1024, 2048]⟩
abbrev S1376x1024 : Shape := ⟨2, ![1376, 1024]⟩
abbrev S1376x512 : Shape := ⟨2, ![1376, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .bf16⟩
  | .hbm, ⟨1, _⟩ => ⟨S16512x2048, .f32⟩
  | .hbm, ⟨2, _⟩ => ⟨S1024x2048, .f32⟩
  | .local _ .vmem, ⟨0, _⟩ => ⟨S1376x1024, .bf16⟩
  | .local _ .vmem, ⟨1, _⟩ => ⟨S1376x1024, .bf16⟩
  | .local _ .vmem, ⟨2, _⟩ => ⟨S1376x512, .f32⟩
  | .local _ .vmem, ⟨3, _⟩ => ⟨S1376x512, .f32⟩
  | .local _ .vmem, ⟨4, _⟩ => ⟨S1024x512, .f32⟩
  | .local _ .vmem, ⟨5, _⟩ => ⟨S1024x512, .f32⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 12], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1376x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S16512x1024 : Shape := ⟨2, ![16512, 1024]⟩
abbrev S16512x2048 : Shape := ⟨2, ![16512, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S16512x2048, .f32⟩
  | .hbm, ⟨2, _⟩ => ⟨S_, .f32⟩
  | .hbm, ⟨3, _⟩ => ⟨S1024x2048, .f32⟩
  | .hbm, ⟨4, _⟩ => ⟨S16512x1024, .f32⟩
  | .hbm, ⟨5, _⟩ => ⟨S16512x2048, .f32⟩
  | .hbm, ⟨6, _⟩ => ⟨S2048x1024, .f32⟩
  | .hbm, ⟨7, _⟩ => ⟨S1024x2048, .f32⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S16512x1024 : Shape := ⟨2, ![16512, 1024]⟩
abbrev S1024x1024 : Shape := ⟨2, ![1024, 1024]⟩
abbrev S1376x1024 : Shape := ⟨2, ![1376, 1024]⟩
abbrev S1024x512 : Shape := ⟨2, ![1024, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .f32⟩
  | .hbm, ⟨1, _⟩ => ⟨S1024x1024, .bf16⟩
  | .hbm, ⟨2, _⟩ => ⟨S16512x1024, .f32⟩
  | .local _ .vmem, ⟨0, _⟩ => ⟨S1376x1024, .f32⟩
  | .local _ .vmem, ⟨1, _⟩ => ⟨S1376x1024, .f32⟩
  | .local _ .vmem, ⟨2, _⟩ => ⟨S1024x512, .bf16⟩
  | .local _ .vmem, ⟨3, _⟩ => ⟨S1024x512, .bf16⟩
  | .local _ .vmem, ⟨4, _⟩ => ⟨S1376x512, .f32⟩
  | .local _ .vmem, ⟨5, _⟩ => ⟨S1376x512, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S16512x1024 : Shape := ⟨2, ![16512, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024x1024, .bf16⟩
  | .hbm, ⟨2, _⟩ => ⟨S1024x1024, .f32⟩
  | .hbm, ⟨3, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S16512x1024 : Shape := ⟨2, ![16512, 1024]⟩
abbrev S1024x1024 : Shape := ⟨2, ![1024, 1024]⟩
abbrev S1376x1024 : Shape := ⟨2, ![1376, 1024]⟩
abbrev S1024x512 : Shape := ⟨2, ![1024, 512]⟩
abbrev S1376x512 : Shape := ⟨2, ![1376, 512]⟩

abbrev nBuf : Space → Nat
  | .hbm => 4
  | .vmem => 6
  | .smem => 0
  | _ => 0

abbrev bufTy : (tb : Table) → Fin (tcTables nBuf tb) → BufTy
  | .hbm, ⟨0, _⟩ => ⟨S16512x1024, .f32⟩
  | .hbm, ⟨1, _⟩ => ⟨S1024x1024, .bf16⟩
  | .hbm, ⟨2, _⟩ => ⟨S1024x1024, .bf16⟩
  | .hbm, ⟨3, _⟩ => ⟨S16512x1024, .f32⟩
  | .local _ .vmem, ⟨0, _⟩ => ⟨S1376x1024, .f32⟩
  | .local _ .vmem, ⟨1, _⟩ => ⟨S1376x1024, .f32⟩
  | .local _ .vmem, ⟨2, _⟩ => ⟨S1024x512, .bf16⟩
  | .local _ .vmem, ⟨3, _⟩ => ⟨S1024x512, .bf16⟩
  | .local _ .vmem, ⟨4, _⟩ => ⟨S1376x512, .f32⟩
  | .local _ .vmem, ⟨5, _⟩ => ⟨S1376x512, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S16512x1024 : Shape := ⟨2, ![16512, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024x1024, .bf16⟩
  | .hbm, ⟨2, _⟩ => ⟨S_, .f32⟩
  | .hbm, ⟨3, _⟩ => ⟨S16512x1024, .f32⟩
  | .hbm, ⟨4, _⟩ => ⟨S1024x1024, .f32⟩
  | .hbm, ⟨5, _⟩ => ⟨S16512x1024, .f32⟩
  | .hbm, ⟨6, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S16512x1024 : Shape := ⟨2, ![16512, 1024]⟩
abbrev S1024x1024 : Shape := ⟨2, ![1024, 1024]⟩
abbrev S1376x1024 : Shape := ⟨2, ![1376, 1024]⟩
abbrev S1376x512 : Shape := ⟨2, ![1376, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S1024x1024, .f32⟩
  | .local _ .vmem, ⟨0, _⟩ => ⟨S1376x1024, .f32⟩
  | .local _ .vmem, ⟨1, _⟩ => ⟨S1376x1024, .f32⟩
  | .local _ .vmem, ⟨2, _⟩ => ⟨S1376x512, .f32⟩
  | .local _ .vmem, ⟨3, _⟩ => ⟨S1376x512, .f32⟩
  | .local _ .vmem, ⟨4, _⟩ => ⟨S1024x512, .f32⟩
  | .local _ .vmem, ⟨5, _⟩ => ⟨S1024x512, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 12], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1376x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S16512x1024 : Shape := ⟨2, ![16512, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S_, .f32⟩
  | .hbm, ⟨3, _⟩ => ⟨S1024x1024, .f32⟩
  | .hbm, ⟨4, _⟩ => ⟨S16512x1024, .f32⟩
  | .hbm, ⟨5, _⟩ => ⟨S1024x1024, .f32⟩
  | .hbm, ⟨6, _⟩ => ⟨S1024x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S16512x1024 : Shape := ⟨2, ![16512, 1024]⟩
abbrev S16512x14336 : Shape := ⟨2, ![16512, 14336]⟩
abbrev S1024x1024 : Shape := ⟨2, ![1024, 1024]⟩
abbrev S384x1024 : Shape := ⟨2, ![384, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S1024x1024, .bf16⟩
  | .hbm, ⟨5, _⟩ => ⟨S16512x1024, .f32⟩
  | .hbm, ⟨6, _⟩ => ⟨S16512x1024, .bf16⟩
  | .hbm, ⟨7, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S1024x1024, .bf16⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S384x1024, .f32⟩
  | .local _ .vmem, ⟨13, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S16512x1024 : Shape := ⟨2, ![16512, 1024]⟩
abbrev S16512x14336 : Shape := ⟨2, ![16512, 14336]⟩
abbrev S1024x1024 : Shape := ⟨2, ![1024, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .hbm, ⟨5, _⟩ => ⟨S1024x1024, .f32⟩
  | .hbm, ⟨6, _⟩ => ⟨S16512x1024, .f32⟩
  | .hbm, ⟨7, _⟩ => ⟨S16512x1024, .f32⟩
  | .hbm, ⟨8, _⟩ => ⟨S16512x1024, .f32⟩
  | .hbm, ⟨9, _⟩ => ⟨S_, .f32⟩
  | .hbm, ⟨10, _⟩ => ⟨S16512x1024, .f32⟩
  | .hbm, ⟨11, _⟩ => ⟨S16512x1024, .f32⟩
  | .hbm, ⟨12, _⟩ => ⟨S_, .f32⟩
  | .hbm, ⟨13, _⟩ => ⟨S16512x1024, .f32⟩
  | .hbm, ⟨14, _⟩ => ⟨S16512x1024, .f32⟩
  | .hbm, ⟨15, _⟩ => ⟨S_, .f32⟩
  | .hbm, ⟨16, _⟩ => ⟨S16512x1024, .f32⟩
  | .hbm, ⟨17, _⟩ => ⟨S16512x1024, .f32⟩
  | .hbm, ⟨18, _⟩ => ⟨S16512x1024, .f32⟩
  | .hbm, ⟨19, _⟩ => ⟨S16512x1024, .f32⟩
  | .hbm, ⟨20, _⟩ => ⟨S16512x1024, .f32⟩
  | .hbm, ⟨21, _⟩ => ⟨S16512x1024, .f32⟩
  | .hbm, ⟨22, _⟩ => ⟨S16512x1024, .f32⟩
  | .hbm, ⟨23, _⟩ => ⟨S16512x1024, .bf16⟩
  | .hbm, ⟨24, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel23.lean ====
abbrev S16512x1024 : Shape := ⟨2, ![16512, 1024]⟩
abbrev S16512x14336 : Shape := ⟨2, ![16512, 14336]⟩
abbrev S1024x1024 : Shape := ⟨2, ![1024, 1024]⟩
abbrev S384x1024 : Shape := ⟨2, ![384, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S1024x1024, .bf16⟩
  | .hbm, ⟨5, _⟩ => ⟨S16512x1024, .f32⟩
  | .hbm, ⟨6, _⟩ => ⟨S16512x1024, .bf16⟩
  | .hbm, ⟨7, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S1024x1024, .bf16⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S384x1024, .f32⟩
  | .local _ .vmem, ⟨13, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S16512x1024 : Shape := ⟨2, ![16512, 1024]⟩
abbrev S16512x14336 : Shape := ⟨2, ![16512, 14336]⟩
abbrev S1024x1024 : Shape := ⟨2, ![1024, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .hbm, ⟨5, _⟩ => ⟨S1024x1024, .f32⟩
  | .hbm, ⟨6, _⟩ => ⟨S16512x1024, .f32⟩
  | .hbm, ⟨7, _⟩ => ⟨S16512x1024, .f32⟩
  | .hbm, ⟨8, _⟩ => ⟨S16512x1024, .f32⟩
  | .hbm, ⟨9, _⟩ => ⟨S_, .f32⟩
  | .hbm, ⟨10, _⟩ => ⟨S16512x1024, .f32⟩
  | .hbm, ⟨11, _⟩ => ⟨S16512x1024, .f32⟩
  | .hbm, ⟨12, _⟩ => ⟨S_, .f32⟩
  | .hbm, ⟨13, _⟩ => ⟨S16512x1024, .f32⟩
  | .hbm, ⟨14, _⟩ => ⟨S16512x1024, .f32⟩
  | .hbm, ⟨15, _⟩ => ⟨S_, .f32⟩
  | .hbm, ⟨16, _⟩ => ⟨S16512x1024, .f32⟩
  | .hbm, ⟨17, _⟩ => ⟨S16512x1024, .f32⟩
  | .hbm, ⟨18, _⟩ => ⟨S16512x1024, .f32⟩
  | .hbm, ⟨19, _⟩ => ⟨S16512x1024, .f32⟩
  | .hbm, ⟨20, _⟩ => ⟨S16512x1024, .f32⟩
  | .hbm, ⟨21, _⟩ => ⟨S16512x1024, .f32⟩
  | .hbm, ⟨22, _⟩ => ⟨S16512x1024, .f32⟩
  | .hbm, ⟨23, _⟩ => ⟨S16512x1024, .bf16⟩
  | .hbm, ⟨24, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel24.lean ====
abbrev S16512x1024 : Shape := ⟨2, ![16512, 1024]⟩
abbrev S16512x14336 : Shape := ⟨2, ![16512, 14336]⟩
abbrev S1024x1024 : Shape := ⟨2, ![1024, 1024]⟩
abbrev S384x1024 : Shape := ⟨2, ![384, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S1024x1024, .bf16⟩
  | .hbm, ⟨5, _⟩ => ⟨S16512x1024, .f32⟩
  | .hbm, ⟨6, _⟩ => ⟨S16512x1024, .bf16⟩
  | .hbm, ⟨7, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S1024x1024, .bf16⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S384x1024, .f32⟩
  | .local _ .vmem, ⟨13, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S16512x1024 : Shape := ⟨2, ![16512, 1024]⟩
abbrev S16512x14336 : Shape := ⟨2, ![16512, 14336]⟩
abbrev S1024x1024 : Shape := ⟨2, ![1024, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .hbm, ⟨5, _⟩ => ⟨S1024x1024, .f32⟩
  | .hbm, ⟨6, _⟩ => ⟨S16512x1024, .f32⟩
  | .hbm, ⟨7, _⟩ => ⟨S16512x1024, .f32⟩
  | .hbm, ⟨8, _⟩ => ⟨S16512x1024, .f32⟩
  | .hbm, ⟨9, _⟩ => ⟨S_, .f32⟩
  | .hbm, ⟨10, _⟩ => ⟨S16512x1024, .f32⟩
  | .hbm, ⟨11, _⟩ => ⟨S16512x1024, .f32⟩
  | .hbm, ⟨12, _⟩ => ⟨S_, .f32⟩
  | .hbm, ⟨13, _⟩ => ⟨S16512x1024, .f32⟩
  | .hbm, ⟨14, _⟩ => ⟨S16512x1024, .f32⟩
  | .hbm, ⟨15, _⟩ => ⟨S_, .f32⟩
  | .hbm, ⟨16, _⟩ => ⟨S16512x1024, .f32⟩
  | .hbm, ⟨17, _⟩ => ⟨S16512x1024, .f32⟩
  | .hbm, ⟨18, _⟩ => ⟨S16512x1024, .f32⟩
  | .hbm, ⟨19, _⟩ => ⟨S16512x1024, .f32⟩
  | .hbm, ⟨20, _⟩ => ⟨S16512x1024, .f32⟩
  | .hbm, ⟨21, _⟩ => ⟨S16512x1024, .f32⟩
  | .hbm, ⟨22, _⟩ => ⟨S16512x1024, .f32⟩
  | .hbm, ⟨23, _⟩ => ⟨S16512x1024, .bf16⟩
  | .hbm, ⟨24, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel25.lean ====
abbrev S16512x1024 : Shape := ⟨2, ![16512, 1024]⟩
abbrev S16512x14336 : Shape := ⟨2, ![16512, 14336]⟩
abbrev S1024x1024 : Shape := ⟨2, ![1024, 1024]⟩
abbrev S384x1024 : Shape := ⟨2, ![384, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S1024x1024, .bf16⟩
  | .hbm, ⟨5, _⟩ => ⟨S16512x1024, .f32⟩
  | .hbm, ⟨6, _⟩ => ⟨S16512x1024, .bf16⟩
  | .hbm, ⟨7, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S1024x1024, .bf16⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S384x1024, .f32⟩
  | .local _ .vmem, ⟨13, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S16512x1024 : Shape := ⟨2, ![16512, 1024]⟩
abbrev S16512x14336 : Shape := ⟨2, ![16512, 14336]⟩
abbrev S1024x1024 : Shape := ⟨2, ![1024, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .hbm, ⟨5, _⟩ => ⟨S1024x1024, .f32⟩
  | .hbm, ⟨6, _⟩ => ⟨S16512x1024, .f32⟩
  | .hbm, ⟨7, _⟩ => ⟨S16512x1024, .f32⟩
  | .hbm, ⟨8, _⟩ => ⟨S16512x1024, .f32⟩
  | .hbm, ⟨9, _⟩ => ⟨S_, .f32⟩
  | .hbm, ⟨10, _⟩ => ⟨S16512x1024, .f32⟩
  | .hbm, ⟨11, _⟩ => ⟨S16512x1024, .f32⟩
  | .hbm, ⟨12, _⟩ => ⟨S_, .f32⟩
  | .hbm, ⟨13, _⟩ => ⟨S16512x1024, .f32⟩
  | .hbm, ⟨14, _⟩ => ⟨S16512x1024, .f32⟩
  | .hbm, ⟨15, _⟩ => ⟨S_, .f32⟩
  | .hbm, ⟨16, _⟩ => ⟨S16512x1024, .f32⟩
  | .hbm, ⟨17, _⟩ => ⟨S16512x1024, .f32⟩
  | .hbm, ⟨18, _⟩ => ⟨S16512x1024, .f32⟩
  | .hbm, ⟨19, _⟩ => ⟨S16512x1024, .f32⟩
  | .hbm, ⟨20, _⟩ => ⟨S16512x1024, .f32⟩
  | .hbm, ⟨21, _⟩ => ⟨S16512x1024, .f32⟩
  | .hbm, ⟨22, _⟩ => ⟨S16512x1024, .f32⟩
  | .hbm, ⟨23, _⟩ => ⟨S16512x1024, .bf16⟩
  | .hbm, ⟨24, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel26.lean ====
abbrev S16512x1024 : Shape := ⟨2, ![16512, 1024]⟩
abbrev S16512x14336 : Shape := ⟨2, ![16512, 14336]⟩
abbrev S1024x1024 : Shape := ⟨2, ![1024, 1024]⟩
abbrev S384x1024 : Shape := ⟨2, ![384, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S384x1024, .f32⟩
  | .local _ .vmem, ⟨6, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S16512x1024 : Shape := ⟨2, ![16512, 1024]⟩
abbrev S16512x14336 : Shape := ⟨2, ![16512, 14336]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .hbm, ⟨5, _⟩ => ⟨S16512x1024, .f32⟩
  | .hbm, ⟨6, _⟩ => ⟨S_, .f32⟩
  | .hbm, ⟨7, _⟩ => ⟨S16512x1024, .f32⟩
  | .hbm, ⟨8, _⟩ => ⟨S16512x1024, .f32⟩
  | .hbm, ⟨9, _⟩ => ⟨S_, .f32⟩
  | .hbm, ⟨10, _⟩ => ⟨S16512x1024, .f32⟩
  | .hbm, ⟨11, _⟩ => ⟨S16512x1024, .f32⟩
  | .hbm, ⟨12, _⟩ => ⟨S1024x1024, .f32⟩
  | .hbm, ⟨13, _⟩ => ⟨S16512x1024, .f32⟩
  | .hbm, ⟨14, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel27.lean ====
abbrev S16512x1024 : Shape := ⟨2, ![16512, 1024]⟩
abbrev S16512x14336 : Shape := ⟨2, ![16512, 14336]⟩
abbrev S1024x1024 : Shape := ⟨2, ![1024, 1024]⟩
abbrev S384x1024 : Shape := ⟨2, ![384, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S16512x1024 : Shape := ⟨2, ![16512, 1024]⟩
abbrev S16512x14336 : Shape := ⟨2, ![16512, 14336]⟩
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .hbm, ⟨5, _⟩ => ⟨S16512x1024, .f32⟩
  | .hbm, ⟨6, _⟩ => ⟨S16512x1024, .f32⟩
  | .hbm, ⟨7, _⟩ => ⟨S_, .f32⟩
  | .hbm, ⟨8, _⟩ => ⟨S16512x1024, .f32⟩
  | .hbm, ⟨9, _⟩ => ⟨S16512x1024, .f32⟩
  | .hbm, ⟨10, _⟩ => ⟨S_, .f32⟩
  | .hbm, ⟨11, _⟩ => ⟨S16512x1024, .f32⟩
  | .hbm, ⟨12, _⟩ => ⟨S16512x1024, .f32⟩
  | .hbm, ⟨13, _⟩ => ⟨S1024x1024, .f32⟩
  | .hbm, ⟨14, _⟩ => ⟨S16512x1024, .f32⟩
  | .hbm, ⟨15, _⟩ => ⟨S16512x1024, .f32⟩
  | .hbm, ⟨16, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel28.lean ====
abbrev S16512x1024 : Shape := ⟨2, ![16512, 1024]⟩
abbrev S16512x14336 : Shape := ⟨2, ![16512, 14336]⟩
abbrev S1024x1024 : Shape := ⟨2, ![1024, 1024]⟩
abbrev S384x1024 : Shape := ⟨2, ![384, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference28Ideal.lean ====
abbrev S16512x1024 : Shape := ⟨2, ![16512, 1024]⟩
abbrev S16512x14336 : Shape := ⟨2, ![16512, 14336]⟩
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .hbm, ⟨5, _⟩ => ⟨S16512x1024, .f32⟩
  | .hbm, ⟨6, _⟩ => ⟨S16512x1024, .f32⟩
  | .hbm, ⟨7, _⟩ => ⟨S_, .f32⟩
  | .hbm, ⟨8, _⟩ => ⟨S16512x1024, .f32⟩
  | .hbm, ⟨9, _⟩ => ⟨S16512x1024, .f32⟩
  | .hbm, ⟨10, _⟩ => ⟨S_, .f32⟩
  | .hbm, ⟨11, _⟩ => ⟨S16512x1024, .f32⟩
  | .hbm, ⟨12, _⟩ => ⟨S16512x1024, .f32⟩
  | .hbm, ⟨13, _⟩ => ⟨S1024x1024, .f32⟩
  | .hbm, ⟨14, _⟩ => ⟨S16512x1024, .f32⟩
  | .hbm, ⟨15, _⟩ => ⟨S16512x1024, .f32⟩
  | .hbm, ⟨16, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel29.lean ====
abbrev S16512x1024 : Shape := ⟨2, ![16512, 1024]⟩
abbrev S16512x14336 : Shape := ⟨2, ![16512, 14336]⟩
abbrev S1024x1024 : Shape := ⟨2, ![1024, 1024]⟩
abbrev S384x1024 : Shape := ⟨2, ![384, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference29Ideal.lean ====
abbrev S16512x1024 : Shape := ⟨2, ![16512, 1024]⟩
abbrev S16512x14336 : Shape := ⟨2, ![16512, 14336]⟩
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x14336, .f32⟩
  | .hbm, ⟨2, _⟩ => ⟨S1024x1024, .bf16⟩
  | .hbm, ⟨3, _⟩ => ⟨S16512x1024, .f32⟩
  | .hbm, ⟨4, _⟩ => ⟨S16512x1024, .f32⟩
  | .hbm, ⟨5, _⟩ => ⟨S16512x1024, .f32⟩
  | .hbm, ⟨6, _⟩ => ⟨S16512x1024, .f32⟩
  | .hbm, ⟨7, _⟩ => ⟨S_, .f32⟩
  | .hbm, ⟨8, _⟩ => ⟨S16512x1024, .f32⟩
  | .hbm, ⟨9, _⟩ => ⟨S16512x1024, .f32⟩
  | .hbm, ⟨10, _⟩ => ⟨S_, .f32⟩
  | .hbm, ⟨11, _⟩ => ⟨S16512x1024, .f32⟩
  | .hbm, ⟨12, _⟩ => ⟨S16512x1024, .f32⟩
  | .hbm, ⟨13, _⟩ => ⟨S1024x1024, .f32⟩
  | .hbm, ⟨14, _⟩ => ⟨S16512x1024, .f32⟩
  | .hbm, ⟨15, _⟩ => ⟨S16512x1024, .f32⟩
  | .hbm, ⟨16, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Products.lean ====
module

public import Idealize.ShloMosaic.Lib.Pipeline.ValueKit
public import Idealize.ShloMosaic.Lib.Pipeline.Covers
public import Idealize.ShloMosaic.Lib.Pointwise

/-! The three products a projection's step takes: the tokens with the weight, a cotangent with the weight's rows, and the tokens' columns with a
cotangent's columns; and a branch's gates. The calls' results and their references are both stated as these. -/

@[expose] public section

noncomputable section

open Idealize.ShloMosaic

namespace Cert.Prod

variable {T M K N : ℕ}

/-- The sum of two arrays. -/
def plus {s : Shape} (a b : s.Idx → EReal) : s.Idx → EReal := fun i => a i + b i

/-- Rows times columns. -/
def rowsCols (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- Rows times rows: the cotangent of the tokens. -/
def rowsRows (x : (⟨2, ![M, K]⟩ : Shape).Idx → EReal) (w : (⟨2, ![N, K]⟩ : Shape).Idx → EReal) : (⟨2, ![M, N]⟩ : Shape).Idx → EReal :=
  fun i => ∑ k : Fin K, x (ix2 (i 0) k) * w (ix2 (i 1) k)

/-- Columns times columns: the cotangent of the weight. -/
def colsCols (x : (⟨2, ![T, M]⟩ : Shape).Idx → EReal) (y : (⟨2, ![T, N]⟩ : Shape).Idx → EReal) : (⟨2, ![M, N]⟩ : Shape).Idx → EReal :=
  fun i => ∑ k : Fin T, x (ix2 k (i 0)) * y (ix2 k (i 1))

/-- A gate: the sigmoid of its logit. -/
def gate (g : EReal) : EReal := Ideal.div 1 (1 + Ideal.exp (-g))

theorem gate_of {a b : EReal} (h : a = b) : Ideal.div 1 (1 + Ideal.exp (0 - a)) = gate b := by
  rw [h, gate, sub_eq_add_neg, zero_add]

theorem slope_of {a b : EReal} (h : a = b) :
    Ideal.div 1 (1 + Ideal.exp (0 - a)) * (1 - Ideal.div 1 (1 + Ideal.exp (0 - a))) = gate b * (1 - gate b) := by rw [gate_of h]

/-- The gates of the columns from `o` on. -/
def gates (o : ℕ) (h : o + N ≤ K) (p : (⟨2, ![M, K]⟩ : Shape).Idx → EReal) : (⟨2, ![M, N]⟩ : Shape).Idx → EReal :=
  fun i => gate (p (ix2 (i 0) ⟨o + (i 1).val, lt_of_lt_of_le (Nat.add_lt_add_left (i 1).isLt o) h⟩))

/-- The product of two arrays, place by place. -/
def times {s : Shape} (a b : s.Idx → EReal) : s.Idx → EReal := fun i => a i * b i

/-- The cotangent of the gates' logits: the cotangent times the branch times the gate's slope. -/
def slopes {s : Shape} (ct up g : s.Idx → EReal) : s.Idx → EReal := fun i => ct i * up i * (g i * (1 - g i))

end Cert.Prod

end
-- ==== Proof.Call2.lean ====
module

public import proofs.«01_k».proof.Defs
public import proofs.«01_k».proof.Proof.Products
public import proofs.«01_k».proof.Proof.Gen.Kernel2.Frame
public import proofs.«01_k».proof.Proof.Gen.Kernel2Ideal.Value
public import proofs.«01_k».proof.Proof.Gen.Reference2Ideal.Read

/-! The call `proj_f`: the fused input projection. -/

@[expose] public section

set_option maxRecDepth 16384

noncomputable section

open Idealize.ShloMosaic Idealize.ShloMosaic.TcCoe Idealize.SL.Sem
open Idealize.ShloMosaic.Pipeline (Dat)
open Cert.Prod

namespace Cert.Kernel2Ideal.Prod
open Cert.Kernel2Ideal Cert.Kernel2Ideal.Gen

variable (m : (ℓ : Loc nD τ sig) → Buf (Elt Ideal) ℓ) (c : Dev nD)

/-- Which block each window holds at a grid point. -/
theorem index : ∀ t : Fin cfg0.N, win0_0.index t = ![t.val / 28, 0] ∧ win0_1.index t = ![0, t.val % 28] ∧ win0_2.index t = ![t.val / 28, t.val % 28] :=
  (by decide +kernel : ∀ t : Fin grid0.N, win0_0.index t = ![t.val / 28, 0] ∧ win0_1.index t = ![0, t.val % 28] ∧ win0_2.index t = ![t.val / 28, t.val % 28])

theorem array : (dats m 0 c).arrAt 2 cfg0.N = (rowsCols (m ((c.tc : Thread nD τ).loc main_arg0)) (m ((c.tc : Thread nD τ).loc main_arg1)) : FVec Ideal S16512x14336 .f32) := by
  refine (dats m 0 c).arrAt_eq_of_covers 2 _ (by decide +kernel) fun t hf y => ?_
  blk_simp
  rw [after0_2]
  frame_out
  pointwise [k0_pay1]
  refine Fin.sum_fin_congr fun k => ?_
  congr 1 <;> blk_ext [iblk, V, index t]

theorem ref (x : FVec Ideal S16512x1024 .bf16) (w : FVec Ideal S1024x14336 .bf16) : Cert.Reference2Ideal.Read.val_main_v2 (F := Ideal) x w = rowsCols x w := by
  funext i
  pointwise [Cert.Reference2Ideal.Read.val_main_v2, Cert.Reference2Ideal.Read.val_main_v1, Cert.Reference2Ideal.Read.val_main_v0, rowsCols]

end Cert.Kernel2Ideal.Prod

namespace Cert.Proof

theorem quiescent2 : Cert.quiescent_Kernel2 (hKernel2 := Cert.Kernel2.Gen.facts) := fun m ρ _ => Cert.Kernel2.Gen.frame m ρ

theorem quiescent2_ideal : Cert.quiescent_Kernel2Ideal (hKernel2Ideal := Cert.Kernel2Ideal.Gen.facts) := fun m ρ _ =>
  Cert.Kernel2Ideal.Gen.frame m ρ

theorem quiescent2_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem value2 : Cert.algebraic_Kernel2Ideal_Reference2Ideal (hKernel2Ideal := Cert.Kernel2Ideal.Gen.facts)
    (hReference2Ideal := Cert.Reference2Ideal.Gen.facts) := by
  intro m g m' g' _ same
  refine ⟨_, Cert.Kernel2Ideal.Value.run_blocks (F := Ideal) m g, ?_⟩
  refine (θ_run Cert.Reference2Ideal.defs _ _).mono (fun r k c => ?_) (Cert.Reference2Ideal.Value.run (F := Ideal) m' g')
  obtain ⟨e0, e1⟩ := same c
  exact ⟨((k c).1.trans (Cert.Reference2Ideal.Read.val_main_v2_eq _ _ )).trans ((congr (congrArg (Cert.Reference2Ideal.Read.val_main_v2 (F := Ideal)) e0) e1).trans
    ((Cert.Kernel2Ideal.Prod.ref _ _ ).trans (Cert.Kernel2Ideal.Prod.array m c).symm)), (k c).2⟩

end Cert.Proof

end
-- ==== Proof.Call3.lean ====
module

public import proofs.«01_k».proof.Defs
public import proofs.«01_k».proof.Proof.Products
public import proofs.«01_k».proof.Proof.Gen.Kernel3.Frame
public import proofs.«01_k».proof.Proof.Gen.Kernel3Ideal.Value
public import proofs.«01_k».proof.Proof.Gen.Reference3Ideal.Read

/-! The call `proj_dw`: the gradient of 1024 columns of the input projection's weight. -/

@[expose] public section

set_option maxRecDepth 16384

noncomputable section

open Idealize.ShloMosaic Idealize.ShloMosaic.TcCoe Idealize.SL.Sem
open Idealize.ShloMosaic.Pipeline (Dat)
open Cert.Prod

namespace Cert.Kernel3Ideal.Prod
open Cert.Kernel3Ideal Cert.Kernel3Ideal.Gen

variable (m : (ℓ : Loc nD τ sig) → Buf (Elt Ideal) ℓ) (c : Dev nD)

/-- Which block each window holds at a grid point. -/
theorem index : ∀ t : Fin cfg0.N, win0_0.index t = ![t.val % 12, 0] ∧ win0_1.index t = ![t.val % 12, t.val / 12] ∧ win0_2.index t = ![0, t.val / 12] :=
  (by decide +kernel : ∀ t : Fin grid0.N, win0_0.index t = ![t.val % 12, 0] ∧ win0_1.index t = ![t.val % 12, t.val / 12] ∧ win0_2.index t = ![0, t.val / 12])

theorem pay1 (x : FVec Ideal S1376x1024 .bf16) (y : FVec Ideal S1376x512 .f32) : k0_pay1 (F := Ideal) x y = colsCols x y := by
  funext j; pointwise [k0_pay1, colsCols]

theorem pay2 (x : FVec Ideal S1376x1024 .bf16) (y : FVec Ideal S1376x512 .f32) (a : FVec Ideal S1024x512 .f32) (j : S1024x512.Idx) :
    k0_pay2 (F := Ideal) x y a j = a j + colsCols x y j := by
  rw [← pay1]; pointwise [k0_pay2]

theorem array : (dats m 0 c).arrAt 2 cfg0.N = (colsCols (m ((c.tc : Thread nD τ).loc main_arg0)) (m ((c.tc : Thread nD τ).loc main_arg1)) : FVec Ideal S1024x1024 .f32) := by
  refine (dats m 0 c).arrAt_eq_of_covers 2 _ (by decide +kernel) fun t hf y => ?_
  blk_simp
  rw [after0_2, Pipeline.eq_sum_fin_of_reset_step_apply_of_flush (fun n h => outsAt0 m c n h) 12 (fun _ => 0) _
    (fun t h j => by rw [outsAt0_A m c t h (by omega)]; frame_out; rw [pay1, zero_add])
    (fun t h j => by rw [outsAt0_B m c t h (by omega)]; frame_out; rw [pay2]) t ((flush0_2 t).mp hf) _, zero_add]
  refine Fin.sum_mul_add_congr fun s k hk => ?_
  congr 1 <;> blk_ext [iblk, V, index]

theorem ref (x : FVec Ideal S16512x1024 .bf16) (y : FVec Ideal S16512x1024 .f32) : Cert.Reference3Ideal.Read.val_main_v4 (F := Ideal) x y = colsCols x y := by
  funext i
  pointwise [Cert.Reference3Ideal.Read.val_main_v4, Cert.Reference3Ideal.Read.val_main_v3, Cert.Reference3Ideal.Read.val_main_v2, Cert.Reference3Ideal.Read.val_main_v1, Cert.Reference3Ideal.Read.val_main_v0, colsCols]
  exact Finset.sum_congr rfl fun k _ => mul_comm _ _

end Cert.Kernel3Ideal.Prod

namespace Cert.Proof

theorem quiescent3 : Cert.quiescent_Kernel3 (hKernel3 := Cert.Kernel3.Gen.facts) := fun m ρ _ => Cert.Kernel3.Gen.frame m ρ

theorem quiescent3_ideal : Cert.quiescent_Kernel3Ideal (hKernel3Ideal := Cert.Kernel3Ideal.Gen.facts) := fun m ρ _ =>
  Cert.Kernel3Ideal.Gen.frame m ρ

theorem quiescent3_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem value3 : Cert.algebraic_Kernel3Ideal_Reference3Ideal (hKernel3Ideal := Cert.Kernel3Ideal.Gen.facts)
    (hReference3Ideal := Cert.Reference3Ideal.Gen.facts) := by
  intro m g m' g' _ same
  refine ⟨_, Cert.Kernel3Ideal.Value.run_blocks (F := Ideal) m g, ?_⟩
  refine (θ_run Cert.Reference3Ideal.defs _ _).mono (fun r k c => ?_) (Cert.Reference3Ideal.Value.run (F := Ideal) m' g')
  obtain ⟨e0, e1⟩ := same c
  exact ⟨((k c).1.trans (Cert.Reference3Ideal.Read.val_main_v4_eq _ _ )).trans ((congr (congrArg (Cert.Reference3Ideal.Read.val_main_v4 (F := Ideal)) e0) e1).trans
    ((Cert.Kernel3Ideal.Prod.ref _ _ ).trans (Cert.Kernel3Ideal.Prod.array m c).symm)), (k c).2⟩

end Cert.Proof

end
-- ==== Proof.Call4.lean ====
module

public import proofs.«01_k».proof.Defs
public import proofs.«01_k».proof.Proof.Products
public import proofs.«01_k».proof.Proof.Gen.Kernel4.Frame
public import proofs.«01_k».proof.Proof.Gen.Kernel4Ideal.Value
public import proofs.«01_k».proof.Proof.Gen.Reference4Ideal.Read

/-! The call `proj_dx` with one block of 1024 columns, added to what the earlier calls gave. -/

@[expose] public section

set_option maxRecDepth 16384

noncomputable section

open Idealize.ShloMosaic Idealize.ShloMosaic.TcCoe Idealize.SL.Sem
open Idealize.ShloMosaic.Pipeline (Dat)
open Cert.Prod

namespace Cert.Kernel4Ideal.Prod
open Cert.Kernel4Ideal Cert.Kernel4Ideal.Gen

variable (m : (ℓ : Loc nD τ sig) → Buf (Elt Ideal) ℓ) (c : Dev nD)

/-- Which block each window holds at a grid point. -/
theorem index : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, win0_0.index t = ![t.val / 2, 0] ∧ win0_1.index t = ![0, t.val % 2] ∧ win0_2.index t = ![t.val / 2, t.val % 2] ∧ win0_3.index t = ![t.val / 2, t.val % 2])

theorem array : (dats m 0 c).arrAt 3 cfg0.N = (plus (m ((c.tc : Thread nD τ).loc main_arg2)) (rowsRows (m ((c.tc : Thread nD τ).loc main_arg0)) (m ((c.tc : Thread nD τ).loc main_arg1))) : FVec Ideal S16512x1024 .f32) := by
  refine (dats m 0 c).arrAt_eq_of_covers 3 _ (by decide +kernel) fun t hf y => ?_
  blk_simp
  rw [after0_3]
  frame_out
  pointwise [k0_pay1]
  rw [add_comm]
  congr 1
  refine Fin.sum_fin_congr fun k => ?_
  congr 1 <;> blk_ext! [iblk, V, index t]

theorem ref (x : FVec Ideal S16512x1024 .f32) (w : FVec Ideal S1024x1024 .bf16) (a : FVec Ideal S16512x1024 .f32) : Cert.Reference4Ideal.Read.val_main_v4 (F := Ideal) x w a = plus a (rowsRows x w) := by
  funext i
  pointwise [Cert.Reference4Ideal.Read.val_main_v4, Cert.Reference4Ideal.Read.val_main_v3, Cert.Reference4Ideal.Read.val_main_v2, Cert.Reference4Ideal.Read.val_main_v1, Cert.Reference4Ideal.Read.val_main_v0, rowsRows, plus]

end Cert.Kernel4Ideal.Prod

namespace Cert.Proof

theorem quiescent4 : Cert.quiescent_Kernel4 (hKernel4 := Cert.Kernel4.Gen.facts) := fun m ρ _ => Cert.Kernel4.Gen.frame m ρ

theorem quiescent4_ideal : Cert.quiescent_Kernel4Ideal (hKernel4Ideal := Cert.Kernel4Ideal.Gen.facts) := fun m ρ _ =>
  Cert.Kernel4Ideal.Gen.frame m ρ

theorem quiescent4_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem value4 : Cert.algebraic_Kernel4Ideal_Reference4Ideal (hKernel4Ideal := Cert.Kernel4Ideal.Gen.facts)
    (hReference4Ideal := Cert.Reference4Ideal.Gen.facts) := by
  intro m g m' g' _ same
  refine ⟨_, Cert.Kernel4Ideal.Value.run_blocks (F := Ideal) m g, ?_⟩
  refine (θ_run Cert.Reference4Ideal.defs _ _).mono (fun r k c => ?_) (Cert.Reference4Ideal.Value.run (F := Ideal) m' g')
  obtain ⟨e0, e1, e2⟩ := same c
  exact ⟨((k c).1.trans (Cert.Reference4Ideal.Read.val_main_v4_eq _ _ _ )).trans ((congr (congr (congrArg (Cert.Reference4Ideal.Read.val_main_v4 (F := Ideal)) e0) e1) e2).trans
    ((Cert.Kernel4Ideal.Prod.ref _ _ _ ).trans (Cert.Kernel4Ideal.Prod.array m c).symm)), (k c).2⟩

end Cert.Proof

end
-- ==== Proof.Call5.lean ====
module

public import proofs.«01_k».proof.Defs
public import proofs.«01_k».proof.Proof.Products
public import proofs.«01_k».proof.Proof.Gen.Kernel5.Frame
public import proofs.«01_k».proof.Proof.Gen.Kernel5Ideal.Value
public import proofs.«01_k».proof.Proof.Gen.Reference5Ideal.Read

/-! The call `ffn_in`: the projection into the feed-forward layer. -/

@[expose] public section

set_option maxRecDepth 16384

noncomputable section

open Idealize.ShloMosaic Idealize.ShloMosaic.TcCoe Idealize.SL.Sem
open Idealize.ShloMosaic.Pipeline (Dat)
open Cert.Prod

namespace Cert.Kernel5Ideal.Prod
open Cert.Kernel5Ideal Cert.Kernel5Ideal.Gen

variable (m : (ℓ : Loc nD τ sig) → Buf (Elt Ideal) ℓ) (c : Dev nD)

/-- Which block each window holds at a grid point. -/
theorem index : ∀ t : Fin cfg0.N, win0_0.index t = ![t.val / 11, 0] ∧ win0_1.index t = ![0, t.val % 11] ∧ win0_2.index t = ![t.val / 11, t.val % 11] :=
  (by decide +kernel : ∀ t : Fin grid0.N, win0_0.index t = ![t.val / 11, 0] ∧ win0_1.index t = ![0, t.val % 11] ∧ win0_2.index t = ![t.val / 11, t.val % 11])

theorem array : (dats m 0 c).arrAt 2 cfg0.N = (rowsCols (m ((c.tc : Thread nD τ).loc main_arg0)) (m ((c.tc : Thread nD τ).loc main_arg1)) : FVec Ideal S16512x5632 .f32) := by
  refine (dats m 0 c).arrAt_eq_of_covers 2 _ (by decide +kernel) fun t hf y => ?_
  blk_simp
  rw [after0_2]
  frame_out
  pointwise [k0_pay1]
  refine Fin.sum_fin_congr fun k => ?_
  congr 1 <;> blk_ext [iblk, V, index t]

theorem ref (x : FVec Ideal S16512x1024 .bf16) (w : FVec Ideal S1024x5632 .bf16) : Cert.Reference5Ideal.Read.val_main_v2 (F := Ideal) x w = rowsCols x w := by
  funext i
  pointwise [Cert.Reference5Ideal.Read.val_main_v2, Cert.Reference5Ideal.Read.val_main_v1, Cert.Reference5Ideal.Read.val_main_v0, rowsCols]

end Cert.Kernel5Ideal.Prod

namespace Cert.Proof

theorem quiescent5 : Cert.quiescent_Kernel5 (hKernel5 := Cert.Kernel5.Gen.facts) := fun m ρ _ => Cert.Kernel5.Gen.frame m ρ

theorem quiescent5_ideal : Cert.quiescent_Kernel5Ideal (hKernel5Ideal := Cert.Kernel5Ideal.Gen.facts) := fun m ρ _ =>
  Cert.Kernel5Ideal.Gen.frame m ρ

theorem quiescent5_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem value5 : Cert.algebraic_Kernel5Ideal_Reference5Ideal (hKernel5Ideal := Cert.Kernel5Ideal.Gen.facts)
    (hReference5Ideal := Cert.Reference5Ideal.Gen.facts) := by
  intro m g m' g' _ same
  refine ⟨_, Cert.Kernel5Ideal.Value.run_blocks (F := Ideal) m g, ?_⟩
  refine (θ_run Cert.Reference5Ideal.defs _ _).mono (fun r k c => ?_) (Cert.Reference5Ideal.Value.run (F := Ideal) m' g')
  obtain ⟨e0, e1⟩ := same c
  exact ⟨((k c).1.trans (Cert.Reference5Ideal.Read.val_main_v2_eq _ _ )).trans ((congr (congrArg (Cert.Reference5Ideal.Read.val_main_v2 (F := Ideal)) e0) e1).trans
    ((Cert.Kernel5Ideal.Prod.ref _ _ ).trans (Cert.Kernel5Ideal.Prod.array m c).symm)), (k c).2⟩

end Cert.Proof

end
-- ==== Proof.Call6.lean ====
module

public import proofs.«01_k».proof.Defs
public import proofs.«01_k».proof.Proof.Products
public import proofs.«01_k».proof.Proof.Gen.Kernel6.Frame
public import proofs.«01_k».proof.Proof.Gen.Kernel6Ideal.Value
public import proofs.«01_k».proof.Proof.Gen.Reference6Ideal.Read

/-! The call `ffn_in_dw`: the gradient of the weight into the feed-forward layer. -/

@[expose] public section

set_option maxRecDepth 16384

noncomputable section

open Idealize.ShloMosaic Idealize.ShloMosaic.TcCoe Idealize.SL.Sem
open Idealize.ShloMosaic.Pipeline (Dat)
open Cert.Prod

namespace Cert.Kernel6Ideal.Prod
open Cert.Kernel6Ideal Cert.Kernel6Ideal.Gen

variable (m : (ℓ : Loc nD τ sig) → Buf (Elt Ideal) ℓ) (c : Dev nD)

/-- Which block each window holds at a grid point. -/
theorem index : ∀ t : Fin cfg0.N, win0_0.index t = ![t.val % 12, 0] ∧ win0_1.index t = ![t.val % 12, t.val / 12] ∧ win0_2.index t = ![0, t.val / 12] :=
  (by decide +kernel : ∀ t : Fin grid0.N, win0_0.index t = ![t.val % 12, 0] ∧ win0_1.index t = ![t.val % 12, t.val / 12] ∧ win0_2.index t = ![0, t.val / 12])

theorem pay1 (x : FVec Ideal S1376x1024 .bf16) (y : FVec Ideal S1376x512 .f32) : k0_pay1 (F := Ideal) x y = colsCols x y := by
  funext j; pointwise [k0_pay1, colsCols]

theorem pay2 (x : FVec Ideal S1376x1024 .bf16) (y : FVec Ideal S1376x512 .f32) (a : FVec Ideal S1024x512 .f32) (j : S1024x512.Idx) :
    k0_pay2 (F := Ideal) x y a j = a j + colsCols x y j := by
  rw [← pay1]; pointwise [k0_pay2]

theorem array : (dats m 0 c).arrAt 2 cfg0.N = (colsCols (m ((c.tc : Thread nD τ).loc main_arg0)) (m ((c.tc : Thread nD τ).loc main_arg1)) : FVec Ideal S1024x5632 .f32) := by
  refine (dats m 0 c).arrAt_eq_of_covers 2 _ (by decide +kernel) fun t hf y => ?_
  blk_simp
  rw [after0_2, Pipeline.eq_sum_fin_of_reset_step_apply_of_flush (fun n h => outsAt0 m c n h) 12 (fun _ => 0) _
    (fun t h j => by rw [outsAt0_A m c t h (by omega)]; frame_out; rw [pay1, zero_add])
    (fun t h j => by rw [outsAt0_B m c t h (by omega)]; frame_out; rw [pay2]) t ((flush0_2 t).mp hf) _, zero_add]
  refine Fin.sum_mul_add_congr fun s k hk => ?_
  congr 1 <;> blk_ext [iblk, V, index]

theorem ref (x : FVec Ideal S16512x1024 .bf16) (y : FVec Ideal S16512x5632 .f32) : Cert.Reference6Ideal.Read.val_main_v4 (F := Ideal) x y = colsCols x y := by
  funext i
  pointwise [Cert.Reference6Ideal.Read.val_main_v4, Cert.Reference6Ideal.Read.val_main_v3, Cert.Reference6Ideal.Read.val_main_v2, Cert.Reference6Ideal.Read.val_main_v1, Cert.Reference6Ideal.Read.val_main_v0, colsCols]
  exact Finset.sum_congr rfl fun k _ => mul_comm _ _

end Cert.Kernel6Ideal.Prod

namespace Cert.Proof

theorem quiescent6 : Cert.quiescent_Kernel6 (hKernel6 := Cert.Kernel6.Gen.facts) := fun m ρ _ => Cert.Kernel6.Gen.frame m ρ

theorem quiescent6_ideal : Cert.quiescent_Kernel6Ideal (hKernel6Ideal := Cert.Kernel6Ideal.Gen.facts) := fun m ρ _ =>
  Cert.Kernel6Ideal.Gen.frame m ρ

theorem quiescent6_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem value6 : Cert.algebraic_Kernel6Ideal_Reference6Ideal (hKernel6Ideal := Cert.Kernel6Ideal.Gen.facts)
    (hReference6Ideal := Cert.Reference6Ideal.Gen.facts) := by
  intro m g m' g' _ same
  refine ⟨_, Cert.Kernel6Ideal.Value.run_blocks (F := Ideal) m g, ?_⟩
  refine (θ_run Cert.Reference6Ideal.defs _ _).mono (fun r k c => ?_) (Cert.Reference6Ideal.Value.run (F := Ideal) m' g')
  obtain ⟨e0, e1⟩ := same c
  exact ⟨((k c).1.trans (Cert.Reference6Ideal.Read.val_main_v4_eq _ _ )).trans ((congr (congrArg (Cert.Reference6Ideal.Read.val_main_v4 (F := Ideal)) e0) e1).trans
    ((Cert.Kernel6Ideal.Prod.ref _ _ ).trans (Cert.Kernel6Ideal.Prod.array m c).symm)), (k c).2⟩

end Cert.Proof

end
-- ==== Proof.Call7.lean ====
module

public import proofs.«01_k».proof.Defs
public import proofs.«01_k».proof.Proof.Products
public import proofs.«01_k».proof.Proof.Gen.Kernel7.Frame
public import proofs.«01_k».proof.Proof.Gen.Kernel7Ideal.Value
public import proofs.«01_k».proof.Proof.Gen.Reference7Ideal.Read

/-! The call `ffn_in_dx`: the cotangent of the tokens through the weight into the feed-forward layer, in four blocks of the contraction. -/

@[expose] public section

set_option maxRecDepth 16384

noncomputable section

open Idealize.ShloMosaic Idealize.ShloMosaic.TcCoe Idealize.SL.Sem
open Idealize.ShloMosaic.Pipeline (Dat)
open Cert.Prod

namespace Cert.Kernel7Ideal.Prod
open Cert.Kernel7Ideal Cert.Kernel7Ideal.Gen

variable (m : (ℓ : Loc nD τ sig) → Buf (Elt Ideal) ℓ) (c : Dev nD)

/-- Which block each window holds at a grid point. -/
theorem index : ∀ t : Fin cfg0.N, win0_0.index t = ![t.val / 8, t.val % 4] ∧ win0_1.index t = ![t.val % 4, t.val / 4 % 2] ∧ win0_2.index t = ![t.val / 8, t.val / 4 % 2] :=
  (by decide +kernel : ∀ t : Fin grid0.N, win0_0.index t = ![t.val / 8, t.val % 4] ∧ win0_1.index t = ![t.val % 4, t.val / 4 % 2] ∧ win0_2.index t = ![t.val / 8, t.val / 4 % 2])

theorem pay1 (x : FVec Ideal S1376x1408 .f32) (y : FVec Ideal S1408x512 .bf16) : k0_pay1 (F := Ideal) x y = rowsCols x y := by
  funext j; pointwise [k0_pay1, rowsCols]

theorem pay2 (x : FVec Ideal S1376x1408 .f32) (y : FVec Ideal S1408x512 .bf16) : k0_pay2 (F := Ideal) x y = rowsCols x y := by
  rw [← pay1]; funext j; pointwise [k0_pay2]

theorem pay3 (x : FVec Ideal S1376x1408 .f32) (y : FVec Ideal S1408x512 .bf16) (a : FVec Ideal S1376x512 .f32) :
    k0_pay3 (F := Ideal) x y a = plus a (rowsCols x y) := by
  rw [← pay1]; funext j; pointwise [k0_pay3, plus]

/-- The running sum held between the grid points, at the last point of a block. -/
theorem sums (t : Fin cfg0.N) (ht : t.val % 4 = 3) (j : S1376x512.Idx) :
    (outsAt0 m c t.val t.isLt).2 j = ∑ s : Fin 4, rowsCols (iblk m c 0 ⟨4 * (t.val / 4) + s.val, Pipeline.run_point_lt_of_flush t ht s⟩ : FVec Ideal S1376x1408 .f32)
      (iblk m c 1 ⟨4 * (t.val / 4) + s.val, Pipeline.run_point_lt_of_flush t ht s⟩ : FVec Ideal S1408x512 .bf16) j := by
  rw [Pipeline.eq_sum_fin_of_reset_step_apply_of_flush (fun n h => (outsAt0 m c n h).2) 4 (fun _ => 0) _
    (fun t h j => by rw [outsAt0_A m c t h (by omega) (by omega)]; frame_out; rw [pay2, zero_add])
    (fun t h j => ?_) t ht _, zero_add]
  by_cases e : t.val % 4 = 3
  · rw [outsAt0_C m c t h (by omega) e]; frame_out; rw [pay3, (Memref.isWhole_whole _).read_unread]; rfl
  · rw [outsAt0_B m c t h (by omega) e]; frame_out; rw [pay3, (Memref.isWhole_whole _).read_unread]; rfl

theorem array : (dats m 0 c).arrAt 2 cfg0.N = (rowsRows (m ((c.tc : Thread nD τ).loc main_arg0)) (m ((c.tc : Thread nD τ).loc main_arg1)) : FVec Ideal S16512x1024 .f32) := by
  refine (dats m 0 c).arrAt_eq_of_covers 2 _ (by decide +kernel) fun t hf y => ?_
  have ht := (flush0_2 t).mp hf
  have last : (outsAt0 m c t.val t.isLt).1 = (outsAt0 m c t.val t.isLt).2 := by
    rw [outsAt0_C m c t (by omega) (by omega) (by omega)]
    frame_out
  blk_simp
  rw [after0_2, last, sums m c t ht]
  refine Fin.sum_mul_add_congr fun s k hk => ?_
  congr 1 <;> blk_ext! [iblk, V, index]

theorem ref (x : FVec Ideal S16512x5632 .f32) (w : FVec Ideal S1024x5632 .bf16) : Cert.Reference7Ideal.Read.val_main_v3 (F := Ideal) x w = rowsRows x w := by
  funext i
  pointwise [Cert.Reference7Ideal.Read.val_main_v3, Cert.Reference7Ideal.Read.val_main_v2, Cert.Reference7Ideal.Read.val_main_v1, Cert.Reference7Ideal.Read.val_main_v0, rowsRows]

end Cert.Kernel7Ideal.Prod

namespace Cert.Proof

theorem quiescent7 : Cert.quiescent_Kernel7 (hKernel7 := Cert.Kernel7.Gen.facts) := fun m ρ _ => Cert.Kernel7.Gen.frame m ρ

theorem quiescent7_ideal : Cert.quiescent_Kernel7Ideal (hKernel7Ideal := Cert.Kernel7Ideal.Gen.facts) := fun m ρ _ =>
  Cert.Kernel7Ideal.Gen.frame m ρ

theorem quiescent7_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem value7 : Cert.algebraic_Kernel7Ideal_Reference7Ideal (hKernel7Ideal := Cert.Kernel7Ideal.Gen.facts)
    (hReference7Ideal := Cert.Reference7Ideal.Gen.facts) := by
  intro m g m' g' _ same
  refine ⟨_, Cert.Kernel7Ideal.Value.run_blocks (F := Ideal) m g, ?_⟩
  refine (θ_run Cert.Reference7Ideal.defs _ _).mono (fun r k c => ?_) (Cert.Reference7Ideal.Value.run (F := Ideal) m' g')
  obtain ⟨e0, e1⟩ := same c
  exact ⟨((k c).1.trans (Cert.Reference7Ideal.Read.val_main_v3_eq _ _ )).trans ((congr (congrArg (Cert.Reference7Ideal.Read.val_main_v3 (F := Ideal)) e0) e1).trans
    ((Cert.Kernel7Ideal.Prod.ref _ _ ).trans (Cert.Kernel7Ideal.Prod.array m c).symm)), (k c).2⟩

end Cert.Proof

end
-- ==== Proof.Call8.lean ====
module

public import proofs.«01_k».proof.Defs
public import proofs.«01_k».proof.Proof.Products
public import proofs.«01_k».proof.Proof.Gen.Kernel8.Frame
public import proofs.«01_k».proof.Proof.Gen.Kernel8Ideal.Value
public import proofs.«01_k».proof.Proof.Gen.Reference8Ideal.Read

/-! The call `branch_dw`: the gradient of a branch's weight. -/

@[expose] public section

set_option maxRecDepth 16384

noncomputable section

open Idealize.ShloMosaic Idealize.ShloMosaic.TcCoe Idealize.SL.Sem
open Idealize.ShloMosaic.Pipeline (Dat)
open Cert.Prod

namespace Cert.Kernel8Ideal.Prod
open Cert.Kernel8Ideal Cert.Kernel8Ideal.Gen

variable (m : (ℓ : Loc nD τ sig) → Buf (Elt Ideal) ℓ) (c : Dev nD)

/-- Which block each window holds at a grid point. -/
theorem index : ∀ t : Fin cfg0.N, win0_0.index t = ![t.val % 12, 0] ∧ win0_1.index t = ![t.val % 12, t.val / 12] ∧ win0_2.index t = ![0, t.val / 12] :=
  (by decide +kernel : ∀ t : Fin grid0.N, win0_0.index t = ![t.val % 12, 0] ∧ win0_1.index t = ![t.val % 12, t.val / 12] ∧ win0_2.index t = ![0, t.val / 12])

theorem pay1 (x : FVec Ideal S1376x1024 .f32) (y : FVec Ideal S1376x512 .bf16) : k0_pay1 (F := Ideal) x y = colsCols x y := by
  funext j; pointwise [k0_pay1, colsCols]

theorem pay2 (x : FVec Ideal S1376x1024 .f32) (y : FVec Ideal S1376x512 .bf16) (a : FVec Ideal S1024x512 .f32) (j : S1024x512.Idx) :
    k0_pay2 (F := Ideal) x y a j = a j + colsCols x y j := by
  rw [← pay1]; pointwise [k0_pay2]

theorem array : (dats m 0 c).arrAt 2 cfg0.N = (colsCols (m ((c.tc : Thread nD τ).loc main_arg0)) (m ((c.tc : Thread nD τ).loc main_arg1)) : FVec Ideal S1024x1024 .f32) := by
  refine (dats m 0 c).arrAt_eq_of_covers 2 _ (by decide +kernel) fun t hf y => ?_
  blk_simp
  rw [after0_2, Pipeline.eq_sum_fin_of_reset_step_apply_of_flush (fun n h => outsAt0 m c n h) 12 (fun _ => 0) _
    (fun t h j => by rw [outsAt0_A m c t h (by omega)]; frame_out; rw [pay1, zero_add])
    (fun t h j => by rw [outsAt0_B m c t h (by omega)]; frame_out; rw [pay2]) t ((flush0_2 t).mp hf) _, zero_add]
  refine Fin.sum_mul_add_congr fun s k hk => ?_
  congr 1 <;> blk_ext [iblk, V, index]

theorem ref (x : FVec Ideal S16512x1024 .f32) (y : FVec Ideal S16512x1024 .bf16) : Cert.Reference8Ideal.Read.val_main_v4 (F := Ideal) x y = colsCols x y := by
  funext i
  pointwise [Cert.Reference8Ideal.Read.val_main_v4, Cert.Reference8Ideal.Read.val_main_v3, Cert.Reference8Ideal.Read.val_main_v2, Cert.Reference8Ideal.Read.val_main_v1, Cert.Reference8Ideal.Read.val_main_v0, colsCols]
  exact Finset.sum_congr rfl fun k _ => mul_comm _ _

end Cert.Kernel8Ideal.Prod

namespace Cert.Proof

theorem quiescent8 : Cert.quiescent_Kernel8 (hKernel8 := Cert.Kernel8.Gen.facts) := fun m ρ _ => Cert.Kernel8.Gen.frame m ρ

theorem quiescent8_ideal : Cert.quiescent_Kernel8Ideal (hKernel8Ideal := Cert.Kernel8Ideal.Gen.facts) := fun m ρ _ =>
  Cert.Kernel8Ideal.Gen.frame m ρ

theorem quiescent8_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem value8 : Cert.algebraic_Kernel8Ideal_Reference8Ideal (hKernel8Ideal := Cert.Kernel8Ideal.Gen.facts)
    (hReference8Ideal := Cert.Reference8Ideal.Gen.facts) := by
  intro m g m' g' _ same
  refine ⟨_, Cert.Kernel8Ideal.Value.run_blocks (F := Ideal) m g, ?_⟩
  refine (θ_run Cert.Reference8Ideal.defs _ _).mono (fun r k c => ?_) (Cert.Reference8Ideal.Value.run (F := Ideal) m' g')
  obtain ⟨e0, e1⟩ := same c
  exact ⟨((k c).1.trans (Cert.Reference8Ideal.Read.val_main_v4_eq _ _ )).trans ((congr (congrArg (Cert.Reference8Ideal.Read.val_main_v4 (F := Ideal)) e0) e1).trans
    ((Cert.Kernel8Ideal.Prod.ref _ _ ).trans (Cert.Kernel8Ideal.Prod.array m c).symm)), (k c).2⟩

end Cert.Proof

end
-- ==== Proof.Call9.lean ====
module

public import proofs.«01_k».proof.Defs
public import proofs.«01_k».proof.Proof.Products
public import proofs.«01_k».proof.Proof.Gen.Kernel9.Frame
public import proofs.«01_k».proof.Proof.Gen.Kernel9Ideal.Value
public import proofs.«01_k».proof.Proof.Gen.Reference9Ideal.Read

/-! The call `proj_dx` of the retention's columns, in four blocks of the contraction, added to what the earlier calls gave. -/

@[expose] public section

set_option maxRecDepth 16384

noncomputable section

open Idealize.ShloMosaic Idealize.ShloMosaic.TcCoe Idealize.SL.Sem
open Idealize.ShloMosaic.Pipeline (Dat)
open Cert.Prod

namespace Cert.Kernel9Ideal.Prod
open Cert.Kernel9Ideal Cert.Kernel9Ideal.Gen

variable (m : (ℓ : Loc nD τ sig) → Buf (Elt Ideal) ℓ) (c : Dev nD)

/-- Which block each window holds at a grid point. -/
theorem index : ∀ t : Fin cfg0.N, win0_0.index t = ![t.val / 8, t.val % 4] ∧ win0_1.index t = ![t.val % 4, t.val / 4 % 2] ∧ win0_2.index t = ![t.val / 8, t.val / 4 % 2] ∧ win0_3.index t = ![t.val / 8, t.val / 4 % 2] :=
  (by decide +kernel : ∀ t : Fin grid0.N, win0_0.index t = ![t.val / 8, t.val % 4] ∧ win0_1.index t = ![t.val % 4, t.val / 4 % 2] ∧ win0_2.index t = ![t.val / 8, t.val / 4 % 2] ∧ win0_3.index t = ![t.val / 8, t.val / 4 % 2])

theorem pay1 (x : FVec Ideal S1376x1024 .f32) (y : FVec Ideal S1024x512 .bf16) : k0_pay1 (F := Ideal) x y = rowsCols x y := by
  funext j; pointwise [k0_pay1, rowsCols]

theorem pay2 (x : FVec Ideal S1376x1024 .f32) (y : FVec Ideal S1024x512 .bf16) : k0_pay2 (F := Ideal) x y = rowsCols x y := by
  rw [← pay1]; funext j; pointwise [k0_pay2]

theorem pay3 (x : FVec Ideal S1376x1024 .f32) (y : FVec Ideal S1024x512 .bf16) (a : FVec Ideal S1376x512 .f32) :
    k0_pay3 (F := Ideal) x y a = plus a (rowsCols x y) := by
  rw [← pay1]; funext j; pointwise [k0_pay3, plus]

/-- The running sum held between the grid points, at the last point of a block. -/
theorem sums (t : Fin cfg0.N) (ht : t.val % 4 = 3) (j : S1376x512.Idx) :
    (outsAt0 m c t.val t.isLt).2 j = ∑ s : Fin 4, rowsCols (iblk m c 0 ⟨4 * (t.val / 4) + s.val, Pipeline.run_point_lt_of_flush t ht s⟩ : FVec Ideal S1376x1024 .f32)
      (iblk m c 1 ⟨4 * (t.val / 4) + s.val, Pipeline.run_point_lt_of_flush t ht s⟩ : FVec Ideal S1024x512 .bf16) j := by
  rw [Pipeline.eq_sum_fin_of_reset_step_apply_of_flush (fun n h => (outsAt0 m c n h).2) 4 (fun _ => 0) _
    (fun t h j => by rw [outsAt0_A m c t h (by omega) (by omega)]; frame_out; rw [pay2, zero_add])
    (fun t h j => ?_) t ht _, zero_add]
  by_cases e : t.val % 4 = 3
  · rw [outsAt0_C m c t h (by omega) e]; frame_out; rw [pay3, (Memref.isWhole_whole _).read_unread]; rfl
  · rw [outsAt0_B m c t h (by omega) e]; frame_out; rw [pay3, (Memref.isWhole_whole _).read_unread]; rfl

theorem array : (dats m 0 c).arrAt 3 cfg0.N = (plus (m ((c.tc : Thread nD τ).loc main_arg2)) (rowsRows (m ((c.tc : Thread nD τ).loc main_arg0)) (m ((c.tc : Thread nD τ).loc main_arg1))) : FVec Ideal S16512x1024 .f32) := by
  refine (dats m 0 c).arrAt_eq_of_covers 3 _ (by decide +kernel) fun t hf y => ?_
  have ht := (flush0_3 t).mp hf
  have last : (outsAt0 m c t.val t.isLt).1 = plus (iblk m c 2 t : FVec Ideal S1376x512 .f32) (outsAt0 m c t.val t.isLt).2 := by
    rw [outsAt0_C m c t (by omega) (by omega) (by omega)]
    frame_out
    funext j
    pointwise [k0_pay4, plus]
    exact add_comm _ _
  blk_simp
  rw [after0_3, last, plus, plus, sums m c t ht]
  congr 1
  refine Fin.sum_mul_add_congr fun s k hk => ?_
  congr 1 <;> blk_ext! [iblk, V, index]

theorem ref (x : FVec Ideal S16512x4096 .f32) (w : FVec Ideal S1024x4096 .bf16) (a : FVec Ideal S16512x1024 .f32) : Cert.Reference9Ideal.Read.val_main_v4 (F := Ideal) x w a = plus a (rowsRows x w) := by
  funext i
  pointwise [Cert.Reference9Ideal.Read.val_main_v4, Cert.Reference9Ideal.Read.val_main_v3, Cert.Reference9Ideal.Read.val_main_v2, Cert.Reference9Ideal.Read.val_main_v1, Cert.Reference9Ideal.Read.val_main_v0, rowsRows, plus]

end Cert.Kernel9Ideal.Prod

namespace Cert.Proof

theorem quiescent9 : Cert.quiescent_Kernel9 (hKernel9 := Cert.Kernel9.Gen.facts) := fun m ρ _ => Cert.Kernel9.Gen.frame m ρ

theorem quiescent9_ideal : Cert.quiescent_Kernel9Ideal (hKernel9Ideal := Cert.Kernel9Ideal.Gen.facts) := fun m ρ _ =>
  Cert.Kernel9Ideal.Gen.frame m ρ

theorem quiescent9_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem value9 : Cert.algebraic_Kernel9Ideal_Reference9Ideal (hKernel9Ideal := Cert.Kernel9Ideal.Gen.facts)
    (hReference9Ideal := Cert.Reference9Ideal.Gen.facts) := by
  intro m g m' g' _ same
  refine ⟨_, Cert.Kernel9Ideal.Value.run_blocks (F := Ideal) m g, ?_⟩
  refine (θ_run Cert.Reference9Ideal.defs _ _).mono (fun r k c => ?_) (Cert.Reference9Ideal.Value.run (F := Ideal) m' g')
  obtain ⟨e0, e1, e2⟩ := same c
  exact ⟨((k c).1.trans (Cert.Reference9Ideal.Read.val_main_v4_eq _ _ _ )).trans ((congr (congr (congrArg (Cert.Reference9Ideal.Read.val_main_v4 (F := Ideal)) e0) e1) e2).trans
    ((Cert.Kernel9Ideal.Prod.ref _ _ _ ).trans (Cert.Kernel9Ideal.Prod.array m c).symm)), (k c).2⟩

end Cert.Proof

end
-- ==== Proof.Call10.lean ====
module

public import proofs.«01_k».proof.Defs
public import proofs.«01_k».proof.Proof.Products
public import proofs.«01_k».proof.Proof.Gen.Kernel10.Frame
public import proofs.«01_k».proof.Proof.Gen.Kernel10Ideal.Value
public import proofs.«01_k».proof.Proof.Gen.Reference10Ideal.Read

/-! The call `proj_dw` of the retention's columns. -/

@[expose] public section

set_option maxRecDepth 16384

noncomputable section

open Idealize.ShloMosaic Idealize.ShloMosaic.TcCoe Idealize.SL.Sem
open Idealize.ShloMosaic.Pipeline (Dat)
open Cert.Prod

namespace Cert.Kernel10Ideal.Prod
open Cert.Kernel10Ideal Cert.Kernel10Ideal.Gen

variable (m : (ℓ : Loc nD τ sig) → Buf (Elt Ideal) ℓ) (c : Dev nD)

/-- Which block each window holds at a grid point. -/
theorem index : ∀ t : Fin cfg0.N, win0_0.index t = ![t.val % 12, 0] ∧ win0_1.index t = ![t.val % 12, t.val / 12] ∧ win0_2.index t = ![0, t.val / 12] :=
  (by decide +kernel : ∀ t : Fin grid0.N, win0_0.index t = ![t.val % 12, 0] ∧ win0_1.index t = ![t.val % 12, t.val / 12] ∧ win0_2.index t = ![0, t.val / 12])

theorem pay1 (x : FVec Ideal S1376x1024 .bf16) (y : FVec Ideal S1376x512 .f32) : k0_pay1 (F := Ideal) x y = colsCols x y := by
  funext j; pointwise [k0_pay1, colsCols]

theorem pay2 (x : FVec Ideal S1376x1024 .bf16) (y : FVec Ideal S1376x512 .f32) (a : FVec Ideal S1024x512 .f32) (j : S1024x512.Idx) :
    k0_pay2 (F := Ideal) x y a j = a j + colsCols x y j := by
  rw [← pay1]; pointwise [k0_pay2]

theorem array : (dats m 0 c).arrAt 2 cfg0.N = (colsCols (m ((c.tc : Thread nD τ).loc main_arg0)) (m ((c.tc : Thread nD τ).loc main_arg1)) : FVec Ideal S1024x4096 .f32) := by
  refine (dats m 0 c).arrAt_eq_of_covers 2 _ (by decide +kernel) fun t hf y => ?_
  blk_simp
  rw [after0_2, Pipeline.eq_sum_fin_of_reset_step_apply_of_flush (fun n h => outsAt0 m c n h) 12 (fun _ => 0) _
    (fun t h j => by rw [outsAt0_A m c t h (by omega)]; frame_out; rw [pay1, zero_add])
    (fun t h j => by rw [outsAt0_B m c t h (by omega)]; frame_out; rw [pay2]) t ((flush0_2 t).mp hf) _, zero_add]
  refine Fin.sum_mul_add_congr fun s k hk => ?_
  congr 1 <;> blk_ext [iblk, V, index]

theorem ref (x : FVec Ideal S16512x1024 .bf16) (y : FVec Ideal S16512x4096 .f32) : Cert.Reference10Ideal.Read.val_main_v4 (F := Ideal) x y = colsCols x y := by
  funext i
  pointwise [Cert.Reference10Ideal.Read.val_main_v4, Cert.Reference10Ideal.Read.val_main_v3, Cert.Reference10Ideal.Read.val_main_v2, Cert.Reference10Ideal.Read.val_main_v1, Cert.Reference10Ideal.Read.val_main_v0, colsCols]
  exact Finset.sum_congr rfl fun k _ => mul_comm _ _

end Cert.Kernel10Ideal.Prod

namespace Cert.Proof

theorem quiescent10 : Cert.quiescent_Kernel10 (hKernel10 := Cert.Kernel10.Gen.facts) := fun m ρ _ => Cert.Kernel10.Gen.frame m ρ

theorem quiescent10_ideal : Cert.quiescent_Kernel10Ideal (hKernel10Ideal := Cert.Kernel10Ideal.Gen.facts) := fun m ρ _ =>
  Cert.Kernel10Ideal.Gen.frame m ρ

theorem quiescent10_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem value10 : Cert.algebraic_Kernel10Ideal_Reference10Ideal (hKernel10Ideal := Cert.Kernel10Ideal.Gen.facts)
    (hReference10Ideal := Cert.Reference10Ideal.Gen.facts) := by
  intro m g m' g' _ same
  refine ⟨_, Cert.Kernel10Ideal.Value.run_blocks (F := Ideal) m g, ?_⟩
  refine (θ_run Cert.Reference10Ideal.defs _ _).mono (fun r k c => ?_) (Cert.Reference10Ideal.Value.run (F := Ideal) m' g')
  obtain ⟨e0, e1⟩ := same c
  exact ⟨((k c).1.trans (Cert.Reference10Ideal.Read.val_main_v4_eq _ _ )).trans ((congr (congrArg (Cert.Reference10Ideal.Read.val_main_v4 (F := Ideal)) e0) e1).trans
    ((Cert.Kernel10Ideal.Prod.ref _ _ ).trans (Cert.Kernel10Ideal.Prod.array m c).symm)), (k c).2⟩

end Cert.Proof

end
-- ==== Proof.Call11.lean ====
module

public import proofs.«01_k».proof.Defs
public import proofs.«01_k».proof.Proof.Products
public import proofs.«01_k».proof.Proof.Gen.Kernel11.Frame
public import proofs.«01_k».proof.Proof.Gen.Kernel11Ideal.Value
public import proofs.«01_k».proof.Proof.Gen.Reference11Ideal.Read

/-! The call `proj_dx` of the gated convolution's columns, in three blocks of the contraction, added to what the earlier calls gave. -/

@[expose] public section

set_option maxRecDepth 16384

noncomputable section

open Idealize.ShloMosaic Idealize.ShloMosaic.TcCoe Idealize.SL.Sem
open Idealize.ShloMosaic.Pipeline (Dat)
open Cert.Prod

namespace Cert.Kernel11Ideal.Prod
open Cert.Kernel11Ideal Cert.Kernel11Ideal.Gen

variable (m : (ℓ : Loc nD τ sig) → Buf (Elt Ideal) ℓ) (c : Dev nD)

/-- Which block each window holds at a grid point. -/
theorem index : ∀ t : Fin cfg0.N, win0_0.index t = ![t.val / 6, t.val % 3] ∧ win0_1.index t = ![t.val % 3, t.val / 3 % 2] ∧ win0_2.index t = ![t.val / 6, t.val / 3 % 2] ∧ win0_3.index t = ![t.val / 6, t.val / 3 % 2] :=
  (by decide +kernel : ∀ t : Fin grid0.N, win0_0.index t = ![t.val / 6, t.val % 3] ∧ win0_1.index t = ![t.val % 3, t.val / 3 % 2] ∧ win0_2.index t = ![t.val / 6, t.val / 3 % 2] ∧ win0_3.index t = ![t.val / 6, t.val / 3 % 2])

theorem pay1 (x : FVec Ideal S1376x1024 .f32) (y : FVec Ideal S1024x512 .bf16) : k0_pay1 (F := Ideal) x y = rowsCols x y := by
  funext j; pointwise [k0_pay1, rowsCols]

theorem pay2 (x : FVec Ideal S1376x1024 .f32) (y : FVec Ideal S1024x512 .bf16) : k0_pay2 (F := Ideal) x y = rowsCols x y := by
  rw [← pay1]; funext j; pointwise [k0_pay2]

theorem pay3 (x : FVec Ideal S1376x1024 .f32) (y : FVec Ideal S1024x512 .bf16) (a : FVec Ideal S1376x512 .f32) :
    k0_pay3 (F := Ideal) x y a = plus a (rowsCols x y) := by
  rw [← pay1]; funext j; pointwise [k0_pay3, plus]

/-- The running sum held between the grid points, at the last point of a block. -/
theorem sums (t : Fin cfg0.N) (ht : t.val % 3 = 2) (j : S1376x512.Idx) :
    (outsAt0 m c t.val t.isLt).2 j = ∑ s : Fin 3, rowsCols (iblk m c 0 ⟨3 * (t.val / 3) + s.val, Pipeline.run_point_lt_of_flush t ht s⟩ : FVec Ideal S1376x1024 .f32)
      (iblk m c 1 ⟨3 * (t.val / 3) + s.val, Pipeline.run_point_lt_of_flush t ht s⟩ : FVec Ideal S1024x512 .bf16) j := by
  rw [Pipeline.eq_sum_fin_of_reset_step_apply_of_flush (fun n h => (outsAt0 m c n h).2) 3 (fun _ => 0) _
    (fun t h j => by rw [outsAt0_A m c t h (by omega) (by omega)]; frame_out; rw [pay2, zero_add])
    (fun t h j => ?_) t ht _, zero_add]
  by_cases e : t.val % 3 = 2
  · rw [outsAt0_C m c t h (by omega) e]; frame_out; rw [pay3, (Memref.isWhole_whole _).read_unread]; rfl
  · rw [outsAt0_B m c t h (by omega) e]; frame_out; rw [pay3, (Memref.isWhole_whole _).read_unread]; rfl

theorem array : (dats m 0 c).arrAt 3 cfg0.N = (plus (m ((c.tc : Thread nD τ).loc main_arg2)) (rowsRows (m ((c.tc : Thread nD τ).loc main_arg0)) (m ((c.tc : Thread nD τ).loc main_arg1))) : FVec Ideal S16512x1024 .f32) := by
  refine (dats m 0 c).arrAt_eq_of_covers 3 _ (by decide +kernel) fun t hf y => ?_
  have ht := (flush0_3 t).mp hf
  have last : (outsAt0 m c t.val t.isLt).1 = plus (iblk m c 2 t : FVec Ideal S1376x512 .f32) (outsAt0 m c t.val t.isLt).2 := by
    rw [outsAt0_C m c t (by omega) (by omega) (by omega)]
    frame_out
    funext j
    pointwise [k0_pay4, plus]
    exact add_comm _ _
  blk_simp
  rw [after0_3, last, plus, plus, sums m c t ht]
  congr 1
  refine Fin.sum_mul_add_congr fun s k hk => ?_
  congr 1 <;> blk_ext! [iblk, V, index]

theorem ref (x : FVec Ideal S16512x3072 .f32) (w : FVec Ideal S1024x3072 .bf16) (a : FVec Ideal S16512x1024 .f32) : Cert.Reference11Ideal.Read.val_main_v4 (F := Ideal) x w a = plus a (rowsRows x w) := by
  funext i
  pointwise [Cert.Reference11Ideal.Read.val_main_v4, Cert.Reference11Ideal.Read.val_main_v3, Cert.Reference11Ideal.Read.val_main_v2, Cert.Reference11Ideal.Read.val_main_v1, Cert.Reference11Ideal.Read.val_main_v0, rowsRows, plus]

end Cert.Kernel11Ideal.Prod

namespace Cert.Proof

theorem quiescent11 : Cert.quiescent_Kernel11 (hKernel11 := Cert.Kernel11.Gen.facts) := fun m ρ _ => Cert.Kernel11.Gen.frame m ρ

theorem quiescent11_ideal : Cert.quiescent_Kernel11Ideal (hKernel11Ideal := Cert.Kernel11Ideal.Gen.facts) := fun m ρ _ =>
  Cert.Kernel11Ideal.Gen.frame m ρ

theorem quiescent11_reference : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem value11 : Cert.algebraic_Kernel11Ideal_Reference11Ideal (hKernel11Ideal := Cert.Kernel11Ideal.Gen.facts)
    (hReference11Ideal := Cert.Reference11Ideal.Gen.facts) := by
  intro m g m' g' _ same
  refine ⟨_, Cert.Kernel11Ideal.Value.run_blocks (F := Ideal) m g, ?_⟩
  refine (θ_run Cert.Reference11Ideal.defs _ _).mono (fun r k c => ?_) (Cert.Reference11Ideal.Value.run (F := Ideal) m' g')
  obtain ⟨e0, e1, e2⟩ := same c
  exact ⟨((k c).1.trans (Cert.Reference11Ideal.Read.val_main_v4_eq _ _ _ )).trans ((congr (congr (congrArg (Cert.Reference11Ideal.Read.val_main_v4 (F := Ideal)) e0) e1) e2).trans
    ((Cert.Kernel11Ideal.Prod.ref _ _ _ ).trans (Cert.Kernel11Ideal.Prod.array m c).symm)), (k c).2⟩

end Cert.Proof

end
-- ==== Proof.Call12.lean ====
module

public import proofs.«01_k».proof.Defs
public import proofs.«01_k».proof.Proof.Products
public import proofs.«01_k».proof.Proof.Gen.Kernel12.Frame
public import proofs.«01_k».proof.Proof.Gen.Kernel12Ideal.Value
public import proofs.«01_k».proof.Proof.Gen.Reference12Ideal.Read

/-! The call `proj_dw` of the gated convolution's columns. -/

@[expose] public section

set_option maxRecDepth 16384

noncomputable section

open Idealize.ShloMosaic Idealize.ShloMosaic.TcCoe Idealize.SL.Sem
open Idealize.ShloMosaic.Pipeline (Dat)
open Cert.Prod

namespace Cert.Kernel12Ideal.Prod
open Cert.Kernel12Ideal Cert.Kernel12Ideal.Gen

variable (m : (ℓ : Loc nD τ sig) → Buf (Elt Ideal) ℓ) (c : Dev nD)

/-- Which block each window holds at a grid point. -/
theorem index : ∀ t : Fin cfg0.N, win0_0.index t = ![t.val % 12, 0] ∧ win0_1.index t = ![t.val % 12, t.val / 12] ∧ win0_2.index t = ![0, t.val / 12] :=
  (by decide +kernel : ∀ t : Fin grid0.N, win0_0.index t = ![t.val % 12, 0] ∧ win0_1.index t = ![t.val % 12, t.val / 12] ∧ win0_2.index t = ![0, t.val / 12])

theorem pay1 (x : FVec Ideal S1376x1024 .bf16) (y : FVec Ideal S1376x512 .f32) : k0_pay1 (F := Ideal) x y = colsCols x y := by
  funext j; pointwise [k0_pay1, colsCols]

theorem pay2 (x : FVec Ideal S1376x1024 .bf16) (y : FVec Ideal S1376x512 .f32) (a : FVec Ideal S1024x512 .f32) (j : S1024x512.Idx) :
    k0_pay2 (F := Ideal) x y a j = a j + colsCols x y j := by
  rw [← pay1]; pointwise [k0_pay2]

theorem array : (dats m 0 c).arrAt 2 cfg0.N = (colsCols (m ((c.tc : Thread nD τ).loc main_arg0)) (m ((c.tc : Thread nD τ).loc main_arg1)) : FVec Ideal S1024x3072 .f32) := by
  refine (dats m 0 c).arrAt_eq_of_covers 2 _ (by decide +kernel) fun t hf y => ?_
  blk_simp
  rw [after0_2, Pipeline.eq_sum_fin_of_reset_step_apply_of_flush (fun n h => outsAt0 m c n h) 12 (fun _ => 0) _
    (fun t h j => by rw [outsAt0_A m c t h (by omega)]; frame_out; rw [pay1, zero_add])
    (fun t h j => by rw [outsAt0_B m c t h (by omega)]; frame_out; rw [pay2]) t ((flush0_2 t).mp hf) _, zero_add]
  refine Fin.sum_mul_add_congr fun s k hk => ?_
  congr 1 <;> blk_ext [iblk, V, index]

theorem ref (x : FVec Ideal S16512x1024 .bf16) (y : FVec Ideal S16512x3072 .f32) : Cert.Reference12Ideal.Read.val_main_v4 (F := Ideal) x y = colsCols x y := by
  funext i
  pointwise [Cert.Reference12Ideal.Read.val_main_v4, Cert.Reference12Ideal.Read.val_main_v3, Cert.Reference12Ideal.Read.val_main_v2, Cert.Reference12Ideal.Read.val_main_v1, Cert.Reference12Ideal.Read.val_main_v0, colsCols]
  exact Finset.sum_congr rfl fun k _ => mul_comm _ _

end Cert.Kernel12Ideal.Prod

namespace Cert.Proof

theorem quiescent12 : Cert.quiescent_Kernel12 (hKernel12 := Cert.Kernel12.Gen.facts) := fun m ρ _ => Cert.Kernel12.Gen.frame m ρ

theorem quiescent12_ideal : Cert.quiescent_Kernel12Ideal (hKernel12Ideal := Cert.Kernel12Ideal.Gen.facts) := fun m ρ _ =>
  Cert.Kernel12Ideal.Gen.frame m ρ

theorem quiescent12_reference : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem value12 : Cert.algebraic_Kernel12Ideal_Reference12Ideal (hKernel12Ideal := Cert.Kernel12Ideal.Gen.facts)
    (hReference12Ideal := Cert.Reference12Ideal.Gen.facts) := by
  intro m g m' g' _ same
  refine ⟨_, Cert.Kernel12Ideal.Value.run_blocks (F := Ideal) m g, ?_⟩
  refine (θ_run Cert.Reference12Ideal.defs _ _).mono (fun r k c => ?_) (Cert.Reference12Ideal.Value.run (F := Ideal) m' g')
  obtain ⟨e0, e1⟩ := same c
  exact ⟨((k c).1.trans (Cert.Reference12Ideal.Read.val_main_v4_eq _ _ )).trans ((congr (congrArg (Cert.Reference12Ideal.Read.val_main_v4 (F := Ideal)) e0) e1).trans
    ((Cert.Kernel12Ideal.Prod.ref _ _ ).trans (Cert.Kernel12Ideal.Prod.array m c).symm)), (k c).2⟩

end Cert.Proof

end
-- ==== Proof.Call13.lean ====
module

public import proofs.«01_k».proof.Defs
public import proofs.«01_k».proof.Proof.Products
public import proofs.«01_k».proof.Proof.Gen.Kernel13.Frame
public import proofs.«01_k».proof.Proof.Gen.Kernel13Ideal.Value
public import proofs.«01_k».proof.Proof.Gen.Reference13Ideal.Read

/-! The call `proj_sb`: the queries, keys and values of the stick-breaking attention. -/

@[expose] public section

set_option maxRecDepth 16384

noncomputable section

open Idealize.ShloMosaic Idealize.ShloMosaic.TcCoe Idealize.SL.Sem
open Idealize.ShloMosaic.Pipeline (Dat)
open Cert.Prod

namespace Cert.Kernel13Ideal.Prod
open Cert.Kernel13Ideal Cert.Kernel13Ideal.Gen

variable (m : (ℓ : Loc nD τ sig) → Buf (Elt Ideal) ℓ) (c : Dev nD)

/-- Which block each window holds at a grid point. -/
theorem index : ∀ t : Fin cfg0.N, win0_0.index t = ![t.val / 6, 0] ∧ win0_1.index t = ![0, t.val % 6] ∧ win0_2.index t = ![t.val / 6, t.val % 6] :=
  (by decide +kernel : ∀ t : Fin grid0.N, win0_0.index t = ![t.val / 6, 0] ∧ win0_1.index t = ![0, t.val % 6] ∧ win0_2.index t = ![t.val / 6, t.val % 6])

theorem array : (dats m 0 c).arrAt 2 cfg0.N = (rowsCols (m ((c.tc : Thread nD τ).loc main_arg0)) (m ((c.tc : Thread nD τ).loc main_arg1)) : FVec Ideal S16512x3072 .bf16) := by
  refine (dats m 0 c).arrAt_eq_of_covers 2 _ (by decide +kernel) fun t hf y => ?_
  blk_simp
  rw [after0_2]
  frame_out
  pointwise [k0_pay1]
  refine Fin.sum_fin_congr fun k => ?_
  congr 1 <;> blk_ext [iblk, V, index t]

theorem ref (x : FVec Ideal S16512x1024 .bf16) (w : FVec Ideal S1024x3072 .bf16) : Cert.Reference13Ideal.Read.val_main_v3 (F := Ideal) x w = rowsCols x w := by
  funext i
  pointwise [Cert.Reference13Ideal.Read.val_main_v3, Cert.Reference13Ideal.Read.val_main_v2, Cert.Reference13Ideal.Read.val_main_v1, Cert.Reference13Ideal.Read.val_main_v0, rowsCols]

end Cert.Kernel13Ideal.Prod

namespace Cert.Proof

theorem quiescent13 : Cert.quiescent_Kernel13 (hKernel13 := Cert.Kernel13.Gen.facts) := fun m ρ _ => Cert.Kernel13.Gen.frame m ρ

theorem quiescent13_ideal : Cert.quiescent_Kernel13Ideal (hKernel13Ideal := Cert.Kernel13Ideal.Gen.facts) := fun m ρ _ =>
  Cert.Kernel13Ideal.Gen.frame m ρ

theorem quiescent13_reference : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem value13 : Cert.algebraic_Kernel13Ideal_Reference13Ideal (hKernel13Ideal := Cert.Kernel13Ideal.Gen.facts)
    (hReference13Ideal := Cert.Reference13Ideal.Gen.facts) := by
  intro m g m' g' _ same
  refine ⟨_, Cert.Kernel13Ideal.Value.run_blocks (F := Ideal) m g, ?_⟩
  refine (θ_run Cert.Reference13Ideal.defs _ _).mono (fun r k c => ?_) (Cert.Reference13Ideal.Value.run (F := Ideal) m' g')
  obtain ⟨e0, e1⟩ := same c
  exact ⟨((k c).1.trans (Cert.Reference13Ideal.Read.val_main_v3_eq _ _ )).trans ((congr (congrArg (Cert.Reference13Ideal.Read.val_main_v3 (F := Ideal)) e0) e1).trans
    ((Cert.Kernel13Ideal.Prod.ref _ _ ).trans (Cert.Kernel13Ideal.Prod.array m c).symm)), (k c).2⟩

end Cert.Proof

end
-- ==== Proof.Call14.lean ====
module

public import proofs.«01_k».proof.Defs
public import proofs.«01_k».proof.Proof.Products
public import proofs.«01_k».proof.Proof.Gen.Kernel14.Frame
public import proofs.«01_k».proof.Proof.Gen.Kernel14Ideal.Value
public import proofs.«01_k».proof.Proof.Gen.Reference14Ideal.Read

/-! The call `ffn_out`: the projection out of the feed-forward layer, in two blocks of the contraction. -/

@[expose] public section

set_option maxRecDepth 16384

noncomputable section

open Idealize.ShloMosaic Idealize.ShloMosaic.TcCoe Idealize.SL.Sem
open Idealize.ShloMosaic.Pipeline (Dat)
open Cert.Prod

namespace Cert.Kernel14Ideal.Prod
open Cert.Kernel14Ideal Cert.Kernel14Ideal.Gen

variable (m : (ℓ : Loc nD τ sig) → Buf (Elt Ideal) ℓ) (c : Dev nD)

/-- Which block each window holds at a grid point. -/
theorem index : ∀ t : Fin cfg0.N, win0_0.index t = ![t.val / 4, t.val % 2] ∧ win0_1.index t = ![t.val % 2, t.val / 2 % 2] ∧ win0_2.index t = ![t.val / 4, t.val / 2 % 2] :=
  (by decide +kernel : ∀ t : Fin grid0.N, win0_0.index t = ![t.val / 4, t.val % 2] ∧ win0_1.index t = ![t.val % 2, t.val / 2 % 2] ∧ win0_2.index t = ![t.val / 4, t.val / 2 % 2])

theorem pay1 (x : FVec Ideal S1376x1408 .bf16) (y : FVec Ideal S1408x512 .bf16) : k0_pay1 (F := Ideal) x y = rowsCols x y := by
  funext j; pointwise [k0_pay1, rowsCols]

theorem pay2 (x : FVec Ideal S1376x1408 .bf16) (y : FVec Ideal S1408x512 .bf16) : k0_pay2 (F := Ideal) x y = rowsCols x y := by
  rw [← pay1]; funext j; pointwise [k0_pay2]

theorem pay3 (x : FVec Ideal S1376x1408 .bf16) (y : FVec Ideal S1408x512 .bf16) (a : FVec Ideal S1376x512 .f32) :
    k0_pay3 (F := Ideal) x y a = plus a (rowsCols x y) := by
  rw [← pay1]; funext j; pointwise [k0_pay3, plus]

/-- The running sum held between the grid points, at the last point of a block. -/
theorem sums (t : Fin cfg0.N) (ht : t.val % 2 = 1) (j : S1376x512.Idx) :
    (outsAt0 m c t.val t.isLt).2 j = ∑ s : Fin 2, rowsCols (iblk m c 0 ⟨2 * (t.val / 2) + s.val, Pipeline.run_point_lt_of_flush t ht s⟩ : FVec Ideal S1376x1408 .bf16)
      (iblk m c 1 ⟨2 * (t.val / 2) + s.val, Pipeline.run_point_lt_of_flush t ht s⟩ : FVec Ideal S1408x512 .bf16) j := by
  rw [Pipeline.eq_sum_fin_of_reset_step_apply_of_flush (fun n h => (outsAt0 m c n h).2) 2 (fun _ => 0) _
    (fun t h j => by rw [outsAt0_A m c t h (by omega) (by omega)]; frame_out; rw [pay2, zero_add])
    (fun t h j => ?_) t ht _, zero_add]
  rw [outsAt0_B m c t h (by omega) (by omega)]; frame_out; rw [pay3, (Memref.isWhole_whole _).read_unread]; rfl

theorem array : (dats m 0 c).arrAt 2 cfg0.N = (rowsCols (m ((c.tc : Thread nD τ).loc main_arg0)) (m ((c.tc : Thread nD τ).loc main_arg1)) : FVec Ideal S16512x1024 .f32) := by
  refine (dats m 0 c).arrAt_eq_of_covers 2 _ (by decide +kernel) fun t hf y => ?_
  have ht := (flush0_2 t).mp hf
  have last : (outsAt0 m c t.val t.isLt).1 = (outsAt0 m c t.val t.isLt).2 := by
    rw [outsAt0_B m c t (by omega) (by omega) (by omega)]
    frame_out
  blk_simp
  rw [after0_2, last, sums m c t ht]
  refine Fin.sum_mul_add_congr fun s k hk => ?_
  congr 1 <;> blk_ext [iblk, V, index]

theorem ref (x : FVec Ideal S16512x2816 .bf16) (w : FVec Ideal S2816x1024 .bf16) : Cert.Reference14Ideal.Read.val_main_v2 (F := Ideal) x w = rowsCols x w := by
  funext i
  pointwise [Cert.Reference14Ideal.Read.val_main_v2, Cert.Reference14Ideal.Read.val_main_v1, Cert.Reference14Ideal.Read.val_main_v0, rowsCols]

end Cert.Kernel14Ideal.Prod

namespace Cert.Proof

theorem quiescent14 : Cert.quiescent_Kernel14 (hKernel14 := Cert.Kernel14.Gen.facts) := fun m ρ _ => Cert.Kernel14.Gen.frame m ρ

theorem quiescent14_ideal : Cert.quiescent_Kernel14Ideal (hKernel14Ideal := Cert.Kernel14Ideal.Gen.facts) := fun m ρ _ =>
  Cert.Kernel14Ideal.Gen.frame m ρ

theorem quiescent14_reference : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

theorem value14 : Cert.algebraic_Kernel14Ideal_Reference14Ideal (hKernel14Ideal := Cert.Kernel14Ideal.Gen.facts)
    (hReference14Ideal := Cert.Reference14Ideal.Gen.facts) := by
  intro m g m' g' _ same
  refine ⟨_, Cert.Kernel14Ideal.Value.run_blocks (F := Ideal) m g, ?_⟩
  refine (θ_run Cert.Reference14Ideal.defs _ _).mono (fun r k c => ?_) (Cert.Reference14Ideal.Value.run (F := Ideal) m' g')
  obtain ⟨e0, e1⟩ := same c
  exact ⟨((k c).1.trans (Cert.Reference14Ideal.Read.val_main_v2_eq _ _ )).trans ((congr (congrArg (Cert.Reference14Ideal.Read.val_main_v2 (F := Ideal)) e0) e1).trans
    ((Cert.Kernel14Ideal.Prod.ref _ _ ).trans (Cert.Kernel14Ideal.Prod.array m c).symm)), (k c).2⟩

end Cert.Proof

end
-- ==== Proof.Call15.lean ====
module

public import proofs.«01_k».proof.Defs
public import proofs.«01_k».proof.Proof.Products
public import proofs.«01_k».proof.Proof.Gen.Kernel15.Frame
public import proofs.«01_k».proof.Proof.Gen.Kernel15Ideal.Value
public import proofs.«01_k».proof.Proof.Gen.Reference15Ideal.Read

/-! The call `ffn_out_dx`: the cotangent through the weight out of the feed-forward layer. -/

@[expose] public section

set_option maxRecDepth 16384

noncomputable section

open Idealize.ShloMosaic Idealize.ShloMosaic.TcCoe Idealize.SL.Sem
open Idealize.ShloMosaic.Pipeline (Dat)
open Cert.Prod

namespace Cert.Kernel15Ideal.Prod
open Cert.Kernel15Ideal Cert.Kernel15Ideal.Gen

variable (m : (ℓ : Loc nD τ sig) → Buf (Elt Ideal) ℓ) (c : Dev nD)

/-- Which block each window holds at a grid point. -/
theorem index : ∀ t : Fin cfg0.N, win0_0.index t = ![t.val / 11, 0] ∧ win0_1.index t = ![0, t.val % 11] ∧ win0_2.index t = ![t.val / 11, t.val % 11] :=
  (by decide +kernel : ∀ t : Fin grid0.N, win0_0.index t = ![t.val / 11, 0] ∧ win0_1.index t = ![0, t.val % 11] ∧ win0_2.index t = ![t.val / 11, t.val % 11])

theorem array : (dats m 0 c).arrAt 2 cfg0.N = (rowsRows (m ((c.tc : Thread nD τ).loc main_arg0)) (m ((c.tc : Thread nD τ).loc main_arg1)) : FVec Ideal S16512x2816 .bf16) := by
  refine (dats m 0 c).arrAt_eq_of_covers 2 _ (by decide +kernel) fun t hf y => ?_
  blk_simp
  rw [after0_2]
  frame_out
  pointwise [k0_pay1]
  refine Fin.sum_fin_congr fun k => ?_
  congr 1 <;> blk_ext! [iblk, V, index t]

theorem ref (x : FVec Ideal S16512x1024 .f32) (w : FVec Ideal S2816x1024 .bf16) : Cert.Reference15Ideal.Read.val_main_v4 (F := Ideal) x w = rowsRows x w := by
  funext i
  pointwise [Cert.Reference15Ideal.Read.val_main_v4, Cert.Reference15Ideal.Read.val_main_v3, Cert.Reference15Ideal.Read.val_main_v2, Cert.Reference15Ideal.Read.val_main_v1, Cert.Reference15Ideal.Read.val_main_v0, rowsRows]

end Cert.Kernel15Ideal.Prod

namespace Cert.Proof

theorem quiescent15 : Cert.quiescent_Kernel15 (hKernel15 := Cert.Kernel15.Gen.facts) := fun m ρ _ => Cert.Kernel15.Gen.frame m ρ

theorem quiescent15_ideal : Cert.quiescent_Kernel15Ideal (hKernel15Ideal := Cert.Kernel15Ideal.Gen.facts) := fun m ρ _ =>
  Cert.Kernel15Ideal.Gen.frame m ρ

theorem quiescent15_reference : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

theorem value15 : Cert.algebraic_Kernel15Ideal_Reference15Ideal (hKernel15Ideal := Cert.Kernel15Ideal.Gen.facts)
    (hReference15Ideal := Cert.Reference15Ideal.Gen.facts) := by
  intro m g m' g' _ same
  refine ⟨_, Cert.Kernel15Ideal.Value.run_blocks (F := Ideal) m g, ?_⟩
  refine (θ_run Cert.Reference15Ideal.defs _ _).mono (fun r k c => ?_) (Cert.Reference15Ideal.Value.run (F := Ideal) m' g')
  obtain ⟨e0, e1⟩ := same c
  exact ⟨((k c).1.trans (Cert.Reference15Ideal.Read.val_main_v4_eq _ _ )).trans ((congr (congrArg (Cert.Reference15Ideal.Read.val_main_v4 (F := Ideal)) e0) e1).trans
    ((Cert.Kernel15Ideal.Prod.ref _ _ ).trans (Cert.Kernel15Ideal.Prod.array m c).symm)), (k c).2⟩

end Cert.Proof

end
-- ==== Proof.Call16.lean ====
module

public import proofs.«01_k».proof.Defs
public import proofs.«01_k».proof.Proof.Products
public import proofs.«01_k».proof.Proof.Gen.Kernel16.Frame
public import proofs.«01_k».proof.Proof.Gen.Kernel16Ideal.Value
public import proofs.«01_k».proof.Proof.Gen.Reference16Ideal.Read

/-! The call `ffn_out_dw`: the gradient of the weight out of the feed-forward layer. -/

@[expose] public section

set_option maxRecDepth 16384

noncomputable section

open Idealize.ShloMosaic Idealize.ShloMosaic.TcCoe Idealize.SL.Sem
open Idealize.ShloMosaic.Pipeline (Dat)
open Cert.Prod

namespace Cert.Kernel16Ideal.Prod
open Cert.Kernel16Ideal Cert.Kernel16Ideal.Gen

variable (m : (ℓ : Loc nD τ sig) → Buf (Elt Ideal) ℓ) (c : Dev nD)

/-- Which block each window holds at a grid point. -/
theorem index : ∀ t : Fin cfg0.N, win0_0.index t = ![t.val % 12, t.val / 24] ∧ win0_1.index t = ![t.val % 12, t.val / 12 % 2] ∧ win0_2.index t = ![t.val / 24, t.val / 12 % 2] :=
  (by decide +kernel : ∀ t : Fin grid0.N, win0_0.index t = ![t.val % 12, t.val / 24] ∧ win0_1.index t = ![t.val % 12, t.val / 12 % 2] ∧ win0_2.index t = ![t.val / 24, t.val / 12 % 2])

theorem pay1 (x : FVec Ideal S1376x1408 .bf16) (y : FVec Ideal S1376x512 .f32) : k0_pay1 (F := Ideal) x y = colsCols x y := by
  funext j; pointwise [k0_pay1, colsCols]

theorem pay2 (x : FVec Ideal S1376x1408 .bf16) (y : FVec Ideal S1376x512 .f32) (a : FVec Ideal S1408x512 .f32) (j : S1408x512.Idx) :
    k0_pay2 (F := Ideal) x y a j = a j + colsCols x y j := by
  rw [← pay1]; pointwise [k0_pay2]

theorem array : (dats m 0 c).arrAt 2 cfg0.N = (colsCols (m ((c.tc : Thread nD τ).loc main_arg0)) (m ((c.tc : Thread nD τ).loc main_arg1)) : FVec Ideal S2816x1024 .f32) := by
  refine (dats m 0 c).arrAt_eq_of_covers 2 _ (by decide +kernel) fun t hf y => ?_
  blk_simp
  rw [after0_2, Pipeline.eq_sum_fin_of_reset_step_apply_of_flush (fun n h => outsAt0 m c n h) 12 (fun _ => 0) _
    (fun t h j => by rw [outsAt0_A m c t h (by omega)]; frame_out; rw [pay1, zero_add])
    (fun t h j => by rw [outsAt0_B m c t h (by omega)]; frame_out; rw [pay2]) t ((flush0_2 t).mp hf) _, zero_add]
  refine Fin.sum_mul_add_congr fun s k hk => ?_
  congr 1 <;> blk_ext [iblk, V, index]

theorem ref (x : FVec Ideal S16512x2816 .bf16) (y : FVec Ideal S16512x1024 .f32) : Cert.Reference16Ideal.Read.val_main_v4 (F := Ideal) x y = colsCols x y := by
  funext i
  pointwise [Cert.Reference16Ideal.Read.val_main_v4, Cert.Reference16Ideal.Read.val_main_v3, Cert.Reference16Ideal.Read.val_main_v2, Cert.Reference16Ideal.Read.val_main_v1, Cert.Reference16Ideal.Read.val_main_v0, colsCols]
  exact Finset.sum_congr rfl fun k _ => mul_comm _ _

end Cert.Kernel16Ideal.Prod

namespace Cert.Proof

theorem quiescent16 : Cert.quiescent_Kernel16 (hKernel16 := Cert.Kernel16.Gen.facts) := fun m ρ _ => Cert.Kernel16.Gen.frame m ρ

theorem quiescent16_ideal : Cert.quiescent_Kernel16Ideal (hKernel16Ideal := Cert.Kernel16Ideal.Gen.facts) := fun m ρ _ =>
  Cert.Kernel16Ideal.Gen.frame m ρ

theorem quiescent16_reference : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

theorem value16 : Cert.algebraic_Kernel16Ideal_Reference16Ideal (hKernel16Ideal := Cert.Kernel16Ideal.Gen.facts)
    (hReference16Ideal := Cert.Reference16Ideal.Gen.facts) := by
  intro m g m' g' _ same
  refine ⟨_, Cert.Kernel16Ideal.Value.run_blocks (F := Ideal) m g, ?_⟩
  refine (θ_run Cert.Reference16Ideal.defs _ _).mono (fun r k c => ?_) (Cert.Reference16Ideal.Value.run (F := Ideal) m' g')
  obtain ⟨e0, e1⟩ := same c
  exact ⟨((k c).1.trans (Cert.Reference16Ideal.Read.val_main_v4_eq _ _ )).trans ((congr (congrArg (Cert.Reference16Ideal.Read.val_main_v4 (F := Ideal)) e0) e1).trans
    ((Cert.Kernel16Ideal.Prod.ref _ _ ).trans (Cert.Kernel16Ideal.Prod.array m c).symm)), (k c).2⟩

end Cert.Proof

end
-- ==== Proof.Call17.lean ====
module

public import proofs.«01_k».proof.Defs
public import proofs.«01_k».proof.Proof.Products
public import proofs.«01_k».proof.Proof.Gen.Kernel17.Frame
public import proofs.«01_k».proof.Proof.Gen.Kernel17Ideal.Value
public import proofs.«01_k».proof.Proof.Gen.Reference17Ideal.Read

/-! The call `proj_dx` of the state-space columns, in two blocks of the contraction, added to what the earlier calls gave. -/

@[expose] public section

set_option maxRecDepth 16384

noncomputable section

open Idealize.ShloMosaic Idealize.ShloMosaic.TcCoe Idealize.SL.Sem
open Idealize.ShloMosaic.Pipeline (Dat)
open Cert.Prod

namespace Cert.Kernel17Ideal.Prod
open Cert.Kernel17Ideal Cert.Kernel17Ideal.Gen

variable (m : (ℓ : Loc nD τ sig) → Buf (Elt Ideal) ℓ) (c : Dev nD)

/-- Which block each window holds at a grid point. -/
theorem index : ∀ t : Fin cfg0.N, win0_0.index t = ![t.val / 4, t.val % 2] ∧ win0_1.index t = ![t.val % 2, t.val / 2 % 2] ∧ win0_2.index t = ![t.val / 4, t.val / 2 % 2] ∧ win0_3.index t = ![t.val / 4, t.val / 2 % 2] :=
  (by decide +kernel : ∀ t : Fin grid0.N, win0_0.index t = ![t.val / 4, t.val % 2] ∧ win0_1.index t = ![t.val % 2, t.val / 2 % 2] ∧ win0_2.index t = ![t.val / 4, t.val / 2 % 2] ∧ win0_3.index t = ![t.val / 4, t.val / 2 % 2])

theorem pay1 (x : FVec Ideal S1376x1024 .f32) (y : FVec Ideal S1024x512 .bf16) : k0_pay1 (F := Ideal) x y = rowsCols x y := by
  funext j; pointwise [k0_pay1, rowsCols]

theorem pay2 (x : FVec Ideal S1376x1024 .f32) (y : FVec Ideal S1024x512 .bf16) : k0_pay2 (F := Ideal) x y = rowsCols x y := by
  rw [← pay1]; funext j; pointwise [k0_pay2]

theorem pay3 (x : FVec Ideal S1376x1024 .f32) (y : FVec Ideal S1024x512 .bf16) (a : FVec Ideal S1376x512 .f32) :
    k0_pay3 (F := Ideal) x y a = plus a (rowsCols x y) := by
  rw [← pay1]; funext j; pointwise [k0_pay3, plus]

/-- The running sum held between the grid points, at the last point of a block. -/
theorem sums (t : Fin cfg0.N) (ht : t.val % 2 = 1) (j : S1376x512.Idx) :
    (outsAt0 m c t.val t.isLt).2 j = ∑ s : Fin 2, rowsCols (iblk m c 0 ⟨2 * (t.val / 2) + s.val, Pipeline.run_point_lt_of_flush t ht s⟩ : FVec Ideal S1376x1024 .f32)
      (iblk m c 1 ⟨2 * (t.val / 2) + s.val, Pipeline.run_point_lt_of_flush t ht s⟩ : FVec Ideal S1024x512 .bf16) j := by
  rw [Pipeline.eq_sum_fin_of_reset_step_apply_of_flush (fun n h => (outsAt0 m c n h).2) 2 (fun _ => 0) _
    (fun t h j => by rw [outsAt0_A m c t h (by omega) (by omega)]; frame_out; rw [pay2, zero_add])
    (fun t h j => ?_) t ht _, zero_add]
  rw [outsAt0_B m c t h (by omega) (by omega)]; frame_out; rw [pay3, (Memref.isWhole_whole _).read_unread]; rfl

theorem array : (dats m 0 c).arrAt 3 cfg0.N = (plus (m ((c.tc : Thread nD τ).loc main_arg2)) (rowsRows (m ((c.tc : Thread nD τ).loc main_arg0)) (m ((c.tc : Thread nD τ).loc main_arg1))) : FVec Ideal S16512x1024 .f32) := by
  refine (dats m 0 c).arrAt_eq_of_covers 3 _ (by decide +kernel) fun t hf y => ?_
  have ht := (flush0_3 t).mp hf
  have last : (outsAt0 m c t.val t.isLt).1 = plus (iblk m c 2 t : FVec Ideal S1376x512 .f32) (outsAt0 m c t.val t.isLt).2 := by
    rw [outsAt0_B m c t (by omega) (by omega) (by omega)]
    frame_out
    funext j
    pointwise [k0_pay4, plus]
    exact add_comm _ _
  blk_simp
  rw [after0_3, last, plus, plus, sums m c t ht]
  congr 1
  refine Fin.sum_mul_add_congr fun s k hk => ?_
  congr 1 <;> blk_ext! [iblk, V, index]

theorem ref (x : FVec Ideal S16512x2048 .f32) (w : FVec Ideal S1024x2048 .bf16) (a : FVec Ideal S16512x1024 .f32) : Cert.Reference17Ideal.Read.val_main_v4 (F := Ideal) x w a = plus a (rowsRows x w) := by
  funext i
  pointwise [Cert.Reference17Ideal.Read.val_main_v4, Cert.Reference17Ideal.Read.val_main_v3, Cert.Reference17Ideal.Read.val_main_v2, Cert.Reference17Ideal.Read.val_main_v1, Cert.Reference17Ideal.Read.val_main_v0, rowsRows, plus]

end Cert.Kernel17Ideal.Prod

namespace Cert.Proof

theorem quiescent17 : Cert.quiescent_Kernel17 (hKernel17 := Cert.Kernel17.Gen.facts) := fun m ρ _ => Cert.Kernel17.Gen.frame m ρ

theorem quiescent17_ideal : Cert.quiescent_Kernel17Ideal (hKernel17Ideal := Cert.Kernel17Ideal.Gen.facts) := fun m ρ _ =>
  Cert.Kernel17Ideal.Gen.frame m ρ

theorem quiescent17_reference : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

theorem value17 : Cert.algebraic_Kernel17Ideal_Reference17Ideal (hKernel17Ideal := Cert.Kernel17Ideal.Gen.facts)
    (hReference17Ideal := Cert.Reference17Ideal.Gen.facts) := by
  intro m g m' g' _ same
  refine ⟨_, Cert.Kernel17Ideal.Value.run_blocks (F := Ideal) m g, ?_⟩
  refine (θ_run Cert.Reference17Ideal.defs _ _).mono (fun r k c => ?_) (Cert.Reference17Ideal.Value.run (F := Ideal) m' g')
  obtain ⟨e0, e1, e2⟩ := same c
  exact ⟨((k c).1.trans (Cert.Reference17Ideal.Read.val_main_v4_eq _ _ _ )).trans ((congr (congr (congrArg (Cert.Reference17Ideal.Read.val_main_v4 (F := Ideal)) e0) e1) e2).trans
    ((Cert.Kernel17Ideal.Prod.ref _ _ _ ).trans (Cert.Kernel17Ideal.Prod.array m c).symm)), (k c).2⟩

end Cert.Proof

end
-- ==== Proof.Call18.lean ====
module

public import proofs.«01_k».proof.Defs
public import proofs.«01_k».proof.Proof.Products
public import proofs.«01_k».proof.Proof.Gen.Kernel18.Frame
public import proofs.«01_k».proof.Proof.Gen.Kernel18Ideal.Value
public import proofs.«01_k».proof.Proof.Gen.Reference18Ideal.Read

/-! The call `proj_dw` of the state-space columns. -/

@[expose] public section

set_option maxRecDepth 16384

noncomputable section

open Idealize.ShloMosaic Idealize.ShloMosaic.TcCoe Idealize.SL.Sem
open Idealize.ShloMosaic.Pipeline (Dat)
open Cert.Prod

namespace Cert.Kernel18Ideal.Prod
open Cert.Kernel18Ideal Cert.Kernel18Ideal.Gen

variable (m : (ℓ : Loc nD τ sig) → Buf (Elt Ideal) ℓ) (c : Dev nD)

/-- Which block each window holds at a grid point. -/
theorem index : ∀ t : Fin cfg0.N, win0_0.index t = ![t.val % 12, 0] ∧ win0_1.index t = ![t.val % 12, t.val / 12] ∧ win0_2.index t = ![0, t.val / 12] :=
  (by decide +kernel : ∀ t : Fin grid0.N, win0_0.index t = ![t.val % 12, 0] ∧ win0_1.index t = ![t.val % 12, t.val / 12] ∧ win0_2.index t = ![0, t.val / 12])

theorem pay1 (x : FVec Ideal S1376x1024 .bf16) (y : FVec Ideal S1376x512 .f32) : k0_pay1 (F := Ideal) x y = colsCols x y := by
  funext j; pointwise [k0_pay1, colsCols]

theorem pay2 (x : FVec Ideal S1376x1024 .bf16) (y : FVec Ideal S1376x512 .f32) (a : FVec Ideal S1024x512 .f32) (j : S1024x512.Idx) :
    k0_pay2 (F := Ideal) x y a j = a j + colsCols x y j := by
  rw [← pay1]; pointwise [k0_pay2]

theorem array : (dats m 0 c).arrAt 2 cfg0.N = (colsCols (m ((c.tc : Thread nD τ).loc main_arg0)) (m ((c.tc : Thread nD τ).loc main_arg1)) : FVec Ideal S1024x2048 .f32) := by
  refine (dats m 0 c).arrAt_eq_of_covers 2 _ (by decide +kernel) fun t hf y => ?_
  blk_simp
  rw [after0_2, Pipeline.eq_sum_fin_of_reset_step_apply_of_flush (fun n h => outsAt0 m c n h) 12 (fun _ => 0) _
    (fun t h j => by rw [outsAt0_A m c t h (by omega)]; frame_out; rw [pay1, zero_add])
    (fun t h j => by rw [outsAt0_B m c t h (by omega)]; frame_out; rw [pay2]) t ((flush0_2 t).mp hf) _, zero_add]
  refine Fin.sum_mul_add_congr fun s k hk => ?_
  congr 1 <;> blk_ext [iblk, V, index]

theorem ref (x : FVec Ideal S16512x1024 .bf16) (y : FVec Ideal S16512x2048 .f32) : Cert.Reference18Ideal.Read.val_main_v4 (F := Ideal) x y = colsCols x y := by
  funext i
  pointwise [Cert.Reference18Ideal.Read.val_main_v4, Cert.Reference18Ideal.Read.val_main_v3, Cert.Reference18Ideal.Read.val_main_v2, Cert.Reference18Ideal.Read.val_main_v1, Cert.Reference18Ideal.Read.val_main_v0, colsCols]
  exact Finset.sum_congr rfl fun k _ => mul_comm _ _

end Cert.Kernel18Ideal.Prod

namespace Cert.Proof

theorem quiescent18 : Cert.quiescent_Kernel18 (hKernel18 := Cert.Kernel18.Gen.facts) := fun m ρ _ => Cert.Kernel18.Gen.frame m ρ

theorem quiescent18_ideal : Cert.quiescent_Kernel18Ideal (hKernel18Ideal := Cert.Kernel18Ideal.Gen.facts) := fun m ρ _ =>
  Cert.Kernel18Ideal.Gen.frame m ρ

theorem quiescent18_reference : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

theorem value18 : Cert.algebraic_Kernel18Ideal_Reference18Ideal (hKernel18Ideal := Cert.Kernel18Ideal.Gen.facts)
    (hReference18Ideal := Cert.Reference18Ideal.Gen.facts) := by
  intro m g m' g' _ same
  refine ⟨_, Cert.Kernel18Ideal.Value.run_blocks (F := Ideal) m g, ?_⟩
  refine (θ_run Cert.Reference18Ideal.defs _ _).mono (fun r k c => ?_) (Cert.Reference18Ideal.Value.run (F := Ideal) m' g')
  obtain ⟨e0, e1⟩ := same c
  exact ⟨((k c).1.trans (Cert.Reference18Ideal.Read.val_main_v4_eq _ _ )).trans ((congr (congrArg (Cert.Reference18Ideal.Read.val_main_v4 (F := Ideal)) e0) e1).trans
    ((Cert.Kernel18Ideal.Prod.ref _ _ ).trans (Cert.Kernel18Ideal.Prod.array m c).symm)), (k c).2⟩

end Cert.Proof

end
-- ==== Proof.Call19.lean ====
module

public import proofs.«01_k».proof.Defs
public import proofs.«01_k».proof.Proof.Products
public import proofs.«01_k».proof.Proof.Gen.Kernel19.Frame
public import proofs.«01_k».proof.Proof.Gen.Kernel19Ideal.Value
public import proofs.«01_k».proof.Proof.Gen.Reference19Ideal.Read

/-! The call `mix`: the mixed branches' output projection. -/

@[expose] public section

set_option maxRecDepth 16384

noncomputable section

open Idealize.ShloMosaic Idealize.ShloMosaic.TcCoe Idealize.SL.Sem
open Idealize.ShloMosaic.Pipeline (Dat)
open Cert.Prod

namespace Cert.Kernel19Ideal.Prod
open Cert.Kernel19Ideal Cert.Kernel19Ideal.Gen

variable (m : (ℓ : Loc nD τ sig) → Buf (Elt Ideal) ℓ) (c : Dev nD)

/-- Which block each window holds at a grid point. -/
theorem index : ∀ t : Fin cfg0.N, win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2])

theorem array : (dats m 0 c).arrAt 2 cfg0.N = (rowsCols (m ((c.tc : Thread nD τ).loc main_arg0)) (m ((c.tc : Thread nD τ).loc main_arg1)) : FVec Ideal S16512x1024 .f32) := by
  refine (dats m 0 c).arrAt_eq_of_covers 2 _ (by decide +kernel) fun t hf y => ?_
  blk_simp
  rw [after0_2]
  frame_out
  pointwise [k0_pay1]
  refine Fin.sum_fin_congr fun k => ?_
  congr 1 <;> blk_ext [iblk, V, index t]

theorem ref (x : FVec Ideal S16512x1024 .f32) (w : FVec Ideal S1024x1024 .bf16) : Cert.Reference19Ideal.Read.val_main_v1 (F := Ideal) x w = rowsCols x w := by
  funext i
  pointwise [Cert.Reference19Ideal.Read.val_main_v1, Cert.Reference19Ideal.Read.val_main_v0, rowsCols]

end Cert.Kernel19Ideal.Prod

namespace Cert.Proof

theorem quiescent19 : Cert.quiescent_Kernel19 (hKernel19 := Cert.Kernel19.Gen.facts) := fun m ρ _ => Cert.Kernel19.Gen.frame m ρ

theorem quiescent19_ideal : Cert.quiescent_Kernel19Ideal (hKernel19Ideal := Cert.Kernel19Ideal.Gen.facts) := fun m ρ _ =>
  Cert.Kernel19Ideal.Gen.frame m ρ

theorem quiescent19_reference : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

theorem value19 : Cert.algebraic_Kernel19Ideal_Reference19Ideal (hKernel19Ideal := Cert.Kernel19Ideal.Gen.facts)
    (hReference19Ideal := Cert.Reference19Ideal.Gen.facts) := by
  intro m g m' g' _ same
  refine ⟨_, Cert.Kernel19Ideal.Value.run_blocks (F := Ideal) m g, ?_⟩
  refine (θ_run Cert.Reference19Ideal.defs _ _).mono (fun r k c => ?_) (Cert.Reference19Ideal.Value.run (F := Ideal) m' g')
  obtain ⟨e0, e1⟩ := same c
  exact ⟨((k c).1.trans (Cert.Reference19Ideal.Read.val_main_v1_eq _ _ )).trans ((congr (congrArg (Cert.Reference19Ideal.Read.val_main_v1 (F := Ideal)) e0) e1).trans
    ((Cert.Kernel19Ideal.Prod.ref _ _ ).trans (Cert.Kernel19Ideal.Prod.array m c).symm)), (k c).2⟩

end Cert.Proof

end
-- ==== Proof.Call20.lean ====
module

public import proofs.«01_k».proof.Defs
public import proofs.«01_k».proof.Proof.Products
public import proofs.«01_k».proof.Proof.Gen.Kernel20.Frame
public import proofs.«01_k».proof.Proof.Gen.Kernel20Ideal.Value
public import proofs.«01_k».proof.Proof.Gen.Reference20Ideal.Read

/-! The call `mix_dx`: the cotangent through the output projection. -/

@[expose] public section

set_option maxRecDepth 16384

noncomputable section

open Idealize.ShloMosaic Idealize.ShloMosaic.TcCoe Idealize.SL.Sem
open Idealize.ShloMosaic.Pipeline (Dat)
open Cert.Prod

namespace Cert.Kernel20Ideal.Prod
open Cert.Kernel20Ideal Cert.Kernel20Ideal.Gen

variable (m : (ℓ : Loc nD τ sig) → Buf (Elt Ideal) ℓ) (c : Dev nD)

/-- Which block each window holds at a grid point. -/
theorem index : ∀ t : Fin cfg0.N, win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2])

theorem array : (dats m 0 c).arrAt 2 cfg0.N = (rowsRows (m ((c.tc : Thread nD τ).loc main_arg0)) (m ((c.tc : Thread nD τ).loc main_arg1)) : FVec Ideal S16512x1024 .f32) := by
  refine (dats m 0 c).arrAt_eq_of_covers 2 _ (by decide +kernel) fun t hf y => ?_
  blk_simp
  rw [after0_2]
  frame_out
  pointwise [k0_pay1]
  refine Fin.sum_fin_congr fun k => ?_
  congr 1 <;> blk_ext! [iblk, V, index t]

theorem ref (x : FVec Ideal S16512x1024 .f32) (w : FVec Ideal S1024x1024 .bf16) : Cert.Reference20Ideal.Read.val_main_v3 (F := Ideal) x w = rowsRows x w := by
  funext i
  pointwise [Cert.Reference20Ideal.Read.val_main_v3, Cert.Reference20Ideal.Read.val_main_v2, Cert.Reference20Ideal.Read.val_main_v1, Cert.Reference20Ideal.Read.val_main_v0, rowsRows]

end Cert.Kernel20Ideal.Prod

namespace Cert.Proof

theorem quiescent20 : Cert.quiescent_Kernel20 (hKernel20 := Cert.Kernel20.Gen.facts) := fun m ρ _ => Cert.Kernel20.Gen.frame m ρ

theorem quiescent20_ideal : Cert.quiescent_Kernel20Ideal (hKernel20Ideal := Cert.Kernel20Ideal.Gen.facts) := fun m ρ _ =>
  Cert.Kernel20Ideal.Gen.frame m ρ

theorem quiescent20_reference : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

theorem value20 : Cert.algebraic_Kernel20Ideal_Reference20Ideal (hKernel20Ideal := Cert.Kernel20Ideal.Gen.facts)
    (hReference20Ideal := Cert.Reference20Ideal.Gen.facts) := by
  intro m g m' g' _ same
  refine ⟨_, Cert.Kernel20Ideal.Value.run_blocks (F := Ideal) m g, ?_⟩
  refine (θ_run Cert.Reference20Ideal.defs _ _).mono (fun r k c => ?_) (Cert.Reference20Ideal.Value.run (F := Ideal) m' g')
  obtain ⟨e0, e1⟩ := same c
  exact ⟨((k c).1.trans (Cert.Reference20Ideal.Read.val_main_v3_eq _ _ )).trans ((congr (congrArg (Cert.Reference20Ideal.Read.val_main_v3 (F := Ideal)) e0) e1).trans
    ((Cert.Kernel20Ideal.Prod.ref _ _ ).trans (Cert.Kernel20Ideal.Prod.array m c).symm)), (k c).2⟩

end Cert.Proof

end
-- ==== Proof.Call21.lean ====
module

public import proofs.«01_k».proof.Defs
public import proofs.«01_k».proof.Proof.Products
public import proofs.«01_k».proof.Proof.Gen.Kernel21.Frame
public import proofs.«01_k».proof.Proof.Gen.Kernel21Ideal.Value
public import proofs.«01_k».proof.Proof.Gen.Reference21Ideal.Read

/-! The call `mix_dw`: the gradient of the output projection's weight. -/

@[expose] public section

set_option maxRecDepth 16384

noncomputable section

open Idealize.ShloMosaic Idealize.ShloMosaic.TcCoe Idealize.SL.Sem
open Idealize.ShloMosaic.Pipeline (Dat)
open Cert.Prod

namespace Cert.Kernel21Ideal.Prod
open Cert.Kernel21Ideal Cert.Kernel21Ideal.Gen

variable (m : (ℓ : Loc nD τ sig) → Buf (Elt Ideal) ℓ) (c : Dev nD)

/-- Which block each window holds at a grid point. -/
theorem index : ∀ t : Fin cfg0.N, win0_0.index t = ![t.val % 12, 0] ∧ win0_1.index t = ![t.val % 12, t.val / 12] ∧ win0_2.index t = ![0, t.val / 12] :=
  (by decide +kernel : ∀ t : Fin grid0.N, win0_0.index t = ![t.val % 12, 0] ∧ win0_1.index t = ![t.val % 12, t.val / 12] ∧ win0_2.index t = ![0, t.val / 12])

theorem pay1 (x : FVec Ideal S1376x1024 .f32) (y : FVec Ideal S1376x512 .f32) : k0_pay1 (F := Ideal) x y = colsCols x y := by
  funext j; pointwise [k0_pay1, colsCols]

theorem pay2 (x : FVec Ideal S1376x1024 .f32) (y : FVec Ideal S1376x512 .f32) (a : FVec Ideal S1024x512 .f32) (j : S1024x512.Idx) :
    k0_pay2 (F := Ideal) x y a j = a j + colsCols x y j := by
  rw [← pay1]; pointwise [k0_pay2]

theorem array : (dats m 0 c).arrAt 2 cfg0.N = (colsCols (m ((c.tc : Thread nD τ).loc main_arg0)) (m ((c.tc : Thread nD τ).loc main_arg1)) : FVec Ideal S1024x1024 .f32) := by
  refine (dats m 0 c).arrAt_eq_of_covers 2 _ (by decide +kernel) fun t hf y => ?_
  blk_simp
  rw [after0_2, Pipeline.eq_sum_fin_of_reset_step_apply_of_flush (fun n h => outsAt0 m c n h) 12 (fun _ => 0) _
    (fun t h j => by rw [outsAt0_A m c t h (by omega)]; frame_out; rw [pay1, zero_add])
    (fun t h j => by rw [outsAt0_B m c t h (by omega)]; frame_out; rw [pay2]) t ((flush0_2 t).mp hf) _, zero_add]
  refine Fin.sum_mul_add_congr fun s k hk => ?_
  congr 1 <;> blk_ext [iblk, V, index]

theorem ref (x : FVec Ideal S16512x1024 .f32) (y : FVec Ideal S16512x1024 .f32) : Cert.Reference21Ideal.Read.val_main_v3 (F := Ideal) x y = colsCols x y := by
  funext i
  pointwise [Cert.Reference21Ideal.Read.val_main_v3, Cert.Reference21Ideal.Read.val_main_v2, Cert.Reference21Ideal.Read.val_main_v1, Cert.Reference21Ideal.Read.val_main_v0, colsCols]
  exact Finset.sum_congr rfl fun k _ => mul_comm _ _

end Cert.Kernel21Ideal.Prod

namespace Cert.Proof

theorem quiescent21 : Cert.quiescent_Kernel21 (hKernel21 := Cert.Kernel21.Gen.facts) := fun m ρ _ => Cert.Kernel21.Gen.frame m ρ

theorem quiescent21_ideal : Cert.quiescent_Kernel21Ideal (hKernel21Ideal := Cert.Kernel21Ideal.Gen.facts) := fun m ρ _ =>
  Cert.Kernel21Ideal.Gen.frame m ρ

theorem quiescent21_reference : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run (F := Ideal) m ρ)

theorem value21 : Cert.algebraic_Kernel21Ideal_Reference21Ideal (hKernel21Ideal := Cert.Kernel21Ideal.Gen.facts)
    (hReference21Ideal := Cert.Reference21Ideal.Gen.facts) := by
  intro m g m' g' _ same
  refine ⟨_, Cert.Kernel21Ideal.Value.run_blocks (F := Ideal) m g, ?_⟩
  refine (θ_run Cert.Reference21Ideal.defs _ _).mono (fun r k c => ?_) (Cert.Reference21Ideal.Value.run (F := Ideal) m' g')
  obtain ⟨e0, e1⟩ := same c
  exact ⟨((k c).1.trans (Cert.Reference21Ideal.Read.val_main_v3_eq _ _ )).trans ((congr (congrArg (Cert.Reference21Ideal.Read.val_main_v3 (F := Ideal)) e0) e1).trans
    ((Cert.Kernel21Ideal.Prod.ref _ _ ).trans (Cert.Kernel21Ideal.Prod.array m c).symm)), (k c).2⟩

end Cert.Proof

end
-- ==== Proof.Call22.lean ====
module

public import proofs.«01_k».proof.Defs
public import proofs.«01_k».proof.Proof.Products
public import proofs.«01_k».proof.Proof.Gen.Kernel22.Frame
public import proofs.«01_k».proof.Proof.Gen.Kernel22Ideal.Value
public import proofs.«01_k».proof.Proof.Gen.Reference22Ideal.Read

/-! The call `branch0_b`: the cotangents of branch 0's gate logits, of its projection and of its tokens. -/

@[expose] public section

set_option maxRecDepth 16384

noncomputable section

open Idealize.ShloMosaic Idealize.ShloMosaic.TcCoe Idealize.SL.Sem
open Idealize.ShloMosaic.Pipeline (Dat)
open Cert.Prod

namespace Cert.Kernel22Ideal.Prod
open Cert.Kernel22Ideal Cert.Kernel22Ideal.Gen

theorem room : 10240 + 1024 ≤ 14336 := by decide

variable (m : (ℓ : Loc nD τ sig) → Buf (Elt Ideal) ℓ) (c : Dev nD)

/-- Which block each window holds at a grid point. -/
theorem index : ∀ t : Fin cfg0.N, win0_0.index t = ![t.val, 0] ∧ win0_1.index t = ![t.val, 10] ∧ win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 10] ∧ win0_2.index t = ![0, 0] ∧ win0_3.index t = ![0, 0] ∧ win0_4.index t = ![t.val, 0] ∧ win0_5.index t = ![t.val, 0] ∧ win0_6.index t = ![t.val, 0] ∧ win0_7.index t = ![t.val, 0])

theorem logits : (dats m 0 c).arrAt 5 cfg0.N = (slopes (m ((c.tc : Thread nD τ).loc main_arg3)) (rowsCols (m ((c.tc : Thread nD τ).loc main_arg0)) (m ((c.tc : Thread nD τ).loc main_arg2))) (gates 10240 room (m ((c.tc : Thread nD τ).loc main_arg1))) : FVec Ideal S16512x1024 .f32) := by
  refine (dats m 0 c).arrAt_eq_of_covers 5 _ (by decide +kernel) fun t hf y => ?_
  blk_simp
  rw [after0_5]
  frame_out
  pointwise [k0_pay2, k0_pay1]
  rw [mul_assoc]
  refine congrArg₂ (· * ·) (congrArg₂ (· * ·) ?_ (Fin.sum_fin_congr fun k => congrArg₂ (· * ·) ?_ ?_)) (slope_of ?_)
    <;> blk_ext [iblk, V, index t]

theorem branch : (dats m 0 c).arrAt 6 cfg0.N = (times (gates 10240 room (m ((c.tc : Thread nD τ).loc main_arg1))) (m ((c.tc : Thread nD τ).loc main_arg3)) : FVec Ideal S16512x1024 .bf16) := by
  refine (dats m 0 c).arrAt_eq_of_covers 6 _ (by decide +kernel) fun t hf y => ?_
  blk_simp
  rw [after0_6]
  frame_out
  pointwise [k0_pay3, k0_pay1]
  rw [mul_comm]
  refine congrArg₂ (· * ·) (gate_of ?_) ?_ <;> blk_ext [iblk, V, index t]

theorem tokens : (dats m 0 c).arrAt 7 cfg0.N = (rowsRows (times (gates 10240 room (m ((c.tc : Thread nD τ).loc main_arg1))) (m ((c.tc : Thread nD τ).loc main_arg3))) (m ((c.tc : Thread nD τ).loc main_arg2)) : FVec Ideal S16512x1024 .f32) := by
  refine (dats m 0 c).arrAt_eq_of_covers 7 _ (by decide +kernel) fun t hf y => ?_
  blk_simp
  rw [after0_7]
  frame_out
  pointwise [k0_pay4, k0_pay3, k0_pay1]
  refine Fin.sum_fin_congr fun k => congrArg₂ (· * ·) ((mul_comm _ _).trans (congrArg₂ (· * ·) (gate_of ?_) ?_)) ?_
    <;> blk_ext! [iblk, V, index t]

theorem ref_logits (y : FVec Ideal S16512x1024 .f32) (p : FVec Ideal S16512x14336 .f32) (w : FVec Ideal S1024x1024 .bf16) (ct : FVec Ideal S16512x1024 .f32) :
    Cert.Reference22Ideal.Read.val_main_v15 (F := Ideal) y p w ct = slopes ct (rowsCols y w) (gates 10240 room p) := by
  funext i
  pointwise [Cert.Reference22Ideal.Read.val_main_v15, Cert.Reference22Ideal.Read.val_main_v14, Cert.Reference22Ideal.Read.val_main_v13, Cert.Reference22Ideal.Read.val_main_v12, Cert.Reference22Ideal.Read.val_main_v11, Cert.Reference22Ideal.Read.val_main_v10, Cert.Reference22Ideal.Read.val_main_v9, Cert.Reference22Ideal.Read.val_main_v8, Cert.Reference22Ideal.Read.val_main_v7, Cert.Reference22Ideal.Read.val_main_v6, Cert.Reference22Ideal.Read.val_main_v5, Cert.Reference22Ideal.Read.val_main_v4, Cert.Reference22Ideal.Read.val_main_v3, Cert.Reference22Ideal.Read.val_main_v2, Cert.Reference22Ideal.Read.val_main_v1, Cert.Reference22Ideal.Read.val_main_v0, Cert.Reference22Ideal.Read.val_main_cst, Cert.Reference22Ideal.Read.val_main_cst_0, Cert.Reference22Ideal.Read.val_main_cst_1, slopes, rowsCols, gates, gate]

theorem ref_branch (p : FVec Ideal S16512x14336 .f32) (ct : FVec Ideal S16512x1024 .f32) :
    Cert.Reference22Ideal.Read.val_main_v16 (F := Ideal) p ct = times (gates 10240 room p) ct := by
  funext i
  pointwise [Cert.Reference22Ideal.Read.val_main_v16, Cert.Reference22Ideal.Read.val_main_v13, Cert.Reference22Ideal.Read.val_main_v8, Cert.Reference22Ideal.Read.val_main_v7, Cert.Reference22Ideal.Read.val_main_v6, Cert.Reference22Ideal.Read.val_main_v5, Cert.Reference22Ideal.Read.val_main_v4, Cert.Reference22Ideal.Read.val_main_v3, Cert.Reference22Ideal.Read.val_main_v2, Cert.Reference22Ideal.Read.val_main_v1, Cert.Reference22Ideal.Read.val_main_v0, Cert.Reference22Ideal.Read.val_main_cst, Cert.Reference22Ideal.Read.val_main_cst_0, Cert.Reference22Ideal.Read.val_main_cst_1, times, gates, gate]

theorem ref_tokens (p : FVec Ideal S16512x14336 .f32) (w : FVec Ideal S1024x1024 .bf16) (ct : FVec Ideal S16512x1024 .f32) :
    Cert.Reference22Ideal.Read.val_main_v17 (F := Ideal) p w ct = rowsRows (times (gates 10240 room p) ct) w := by
  funext i
  pointwise [Cert.Reference22Ideal.Read.val_main_v17, Cert.Reference22Ideal.Read.val_main_v16, Cert.Reference22Ideal.Read.val_main_v15, Cert.Reference22Ideal.Read.val_main_v14, Cert.Reference22Ideal.Read.val_main_v13, Cert.Reference22Ideal.Read.val_main_v12, Cert.Reference22Ideal.Read.val_main_v11, Cert.Reference22Ideal.Read.val_main_v10, Cert.Reference22Ideal.Read.val_main_v9, Cert.Reference22Ideal.Read.val_main_v8, Cert.Reference22Ideal.Read.val_main_v7, Cert.Reference22Ideal.Read.val_main_v6, Cert.Reference22Ideal.Read.val_main_v5, Cert.Reference22Ideal.Read.val_main_v4, Cert.Reference22Ideal.Read.val_main_v3, Cert.Reference22Ideal.Read.val_main_v2, Cert.Reference22Ideal.Read.val_main_v1, Cert.Reference22Ideal.Read.val_main_v0, Cert.Reference22Ideal.Read.val_main_cst, Cert.Reference22Ideal.Read.val_main_cst_0, Cert.Reference22Ideal.Read.val_main_cst_1, rowsRows, times, gates, gate]

end Cert.Kernel22Ideal.Prod

namespace Cert.Proof

theorem quiescent22 : Cert.quiescent_Kernel22 (hKernel22 := Cert.Kernel22.Gen.facts) := fun m ρ _ => Cert.Kernel22.Gen.frame m ρ

theorem quiescent22_ideal : Cert.quiescent_Kernel22Ideal (hKernel22Ideal := Cert.Kernel22Ideal.Gen.facts) := fun m ρ _ =>
  Cert.Kernel22Ideal.Gen.frame m ρ

theorem quiescent22_reference : Cert.quiescent_Reference22Ideal (hReference22Ideal := Cert.Reference22Ideal.Gen.facts) := fun m ρ _ =>
  (θ_run Cert.Reference22Ideal.defs _ _).mono (fun r h => ⟨fun c => (h c).2.2.2, sem_eq_zero_of_no_sems (by decide) r.2⟩)
    (Cert.Reference22Ideal.Value.run (F := Ideal) m ρ)

theorem value22 : Cert.algebraic_Kernel22Ideal_Reference22Ideal (hKernel22Ideal := Cert.Kernel22Ideal.Gen.facts)
    (hReference22Ideal := Cert.Reference22Ideal.Gen.facts) := by
  intro m g m' g' _ same
  refine ⟨_, _, _, Cert.Kernel22Ideal.Value.run_blocks (F := Ideal) m g, ?_⟩
  refine (θ_run Cert.Reference22Ideal.defs _ _).mono (fun r k c => ?_) (Cert.Reference22Ideal.Value.run (F := Ideal) m' g')
  obtain ⟨e0, e1, e2, e3⟩ := same c
  obtain ⟨k0, k1, k2, kept⟩ := k c
  exact ⟨(k0.trans (Cert.Reference22Ideal.Read.val_main_v15_eq _ _ _ _ )).trans ((congr (congr (congr (congrArg (Cert.Reference22Ideal.Read.val_main_v15 (F := Ideal)) e0) e1) e2) e3).trans
      ((Cert.Kernel22Ideal.Prod.ref_logits _ _ _ _ ).trans (Cert.Kernel22Ideal.Prod.logits m c).symm)),
    (k1.trans (Cert.Reference22Ideal.Read.val_main_v16_eq _ _ )).trans ((congr (congrArg (Cert.Reference22Ideal.Read.val_main_v16 (F := Ideal)) e1) e3).trans
      ((Cert.Kernel22Ideal.Prod.ref_branch _ _ ).trans (Cert.Kernel22Ideal.Prod.branch m c).symm)),
    (k2.trans (Cert.Reference22Ideal.Read.val_main_v17_eq _ _ _ )).trans ((congr (congr (congrArg (Cert.Reference22Ideal.Read.val_main_v17 (F := Ideal)) e1) e2) e3).trans
      ((Cert.Kernel22Ideal.Prod.ref_tokens _ _ _ ).trans (Cert.Kernel22Ideal.Prod.tokens m c).symm)), kept⟩

end Cert.Proof

end
-- ==== Proof.Call23.lean ====
module

public import proofs.«01_k».proof.Defs
public import proofs.«01_k».proof.Proof.Products
public import proofs.«01_k».proof.Proof.Gen.Kernel23.Frame
public import proofs.«01_k».proof.Proof.Gen.Kernel23Ideal.Value
public import proofs.«01_k».proof.Proof.Gen.Reference23Ideal.Read

/-! The call `branch1_b`: the cotangents of branch 1's gate logits, of its projection and of its tokens. -/

@[expose] public section

set_option maxRecDepth 16384

noncomputable section

open Idealize.ShloMosaic Idealize.ShloMosaic.TcCoe Idealize.SL.Sem
open Idealize.ShloMosaic.Pipeline (Dat)
open Cert.Prod

namespace Cert.Kernel23Ideal.Prod
open Cert.Kernel23Ideal Cert.Kernel23Ideal.Gen

theorem room : 11264 + 1024 ≤ 14336 := by decide

variable (m : (ℓ : Loc nD τ sig) → Buf (Elt Ideal) ℓ) (c : Dev nD)

/-- Which block each window holds at a grid point. -/
theorem index : ∀ t : Fin cfg0.N, win0_0.index t = ![t.val, 0] ∧ win0_1.index t = ![t.val, 11] ∧ win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 11] ∧ win0_2.index t = ![0, 0] ∧ win0_3.index t = ![0, 0] ∧ win0_4.index t = ![t.val, 0] ∧ win0_5.index t = ![t.val, 0] ∧ win0_6.index t = ![t.val, 0] ∧ win0_7.index t = ![t.val, 0])

theorem logits : (dats m 0 c).arrAt 5 cfg0.N = (slopes (m ((c.tc : Thread nD τ).loc main_arg3)) (rowsCols (m ((c.tc : Thread nD τ).loc main_arg0)) (m ((c.tc : Thread nD τ).loc main_arg2))) (gates 11264 room (m ((c.tc : Thread nD τ).loc main_arg1))) : FVec Ideal S16512x1024 .f32) := by
  refine (dats m 0 c).arrAt_eq_of_covers 5 _ (by decide +kernel) fun t hf y => ?_
  blk_simp
  rw [after0_5]
  frame_out
  pointwise [k0_pay2, k0_pay1]
  rw [mul_assoc]
  refine congrArg₂ (· * ·) (congrArg₂ (· * ·) ?_ (Fin.sum_fin_congr fun k => congrArg₂ (· * ·) ?_ ?_)) (slope_of ?_)
    <;> blk_ext [iblk, V, index t]

theorem branch : (dats m 0 c).arrAt 6 cfg0.N = (times (gates 11264 room (m ((c.tc : Thread nD τ).loc main_arg1))) (m ((c.tc : Thread nD τ).loc main_arg3)) : FVec Ideal S16512x1024 .bf16) := by
  refine (dats m 0 c).arrAt_eq_of_covers 6 _ (by decide +kernel) fun t hf y => ?_
  blk_simp
  rw [after0_6]
  frame_out
  pointwise [k0_pay3, k0_pay1]
  rw [mul_comm]
  refine congrArg₂ (· * ·) (gate_of ?_) ?_ <;> blk_ext [iblk, V, index t]

theorem tokens : (dats m 0 c).arrAt 7 cfg0.N = (rowsRows (times (gates 11264 room (m ((c.tc : Thread nD τ).loc main_arg1))) (m ((c.tc : Thread nD τ).loc main_arg3))) (m ((c.tc : Thread nD τ).loc main_arg2)) : FVec Ideal S16512x1024 .f32) := by
  refine (dats m 0 c).arrAt_eq_of_covers 7 _ (by decide +kernel) fun t hf y => ?_
  blk_simp
  rw [after0_7]
  frame_out
  pointwise [k0_pay4, k0_pay3, k0_pay1]
  refine Fin.sum_fin_congr fun k => congrArg₂ (· * ·) ((mul_comm _ _).trans (congrArg₂ (· * ·) (gate_of ?_) ?_)) ?_
    <;> blk_ext! [iblk, V, index t]

theorem ref_logits (y : FVec Ideal S16512x1024 .f32) (p : FVec Ideal S16512x14336 .f32) (w : FVec Ideal S1024x1024 .bf16) (ct : FVec Ideal S16512x1024 .f32) :
    Cert.Reference23Ideal.Read.val_main_v15 (F := Ideal) y p w ct = slopes ct (rowsCols y w) (gates 11264 room p) := by
  funext i
  pointwise [Cert.Reference23Ideal.Read.val_main_v15, Cert.Reference23Ideal.Read.val_main_v14, Cert.Reference23Ideal.Read.val_main_v13, Cert.Reference23Ideal.Read.val_main_v12, Cert.Reference23Ideal.Read.val_main_v11, Cert.Reference23Ideal.Read.val_main_v10, Cert.Reference23Ideal.Read.val_main_v9, Cert.Reference23Ideal.Read.val_main_v8, Cert.Reference23Ideal.Read.val_main_v7, Cert.Reference23Ideal.Read.val_main_v6, Cert.Reference23Ideal.Read.val_main_v5, Cert.Reference23Ideal.Read.val_main_v4, Cert.Reference23Ideal.Read.val_main_v3, Cert.Reference23Ideal.Read.val_main_v2, Cert.Reference23Ideal.Read.val_main_v1, Cert.Reference23Ideal.Read.val_main_v0, Cert.Reference23Ideal.Read.val_main_cst, Cert.Reference23Ideal.Read.val_main_cst_0, Cert.Reference23Ideal.Read.val_main_cst_1, slopes, rowsCols, gates, gate]

theorem ref_branch (p : FVec Ideal S16512x14336 .f32) (ct : FVec Ideal S16512x1024 .f32) :
    Cert.Reference23Ideal.Read.val_main_v16 (F := Ideal) p ct = times (gates 11264 room p) ct := by
  funext i
  pointwise [Cert.Reference23Ideal.Read.val_main_v16, Cert.Reference23Ideal.Read.val_main_v13, Cert.Reference23Ideal.Read.val_main_v8, Cert.Reference23Ideal.Read.val_main_v7, Cert.Reference23Ideal.Read.val_main_v6, Cert.Reference23Ideal.Read.val_main_v5, Cert.Reference23Ideal.Read.val_main_v4, Cert.Reference23Ideal.Read.val_main_v3, Cert.Reference23Ideal.Read.val_main_v2, Cert.Reference23Ideal.Read.val_main_v1, Cert.Reference23Ideal.Read.val_main_v0, Cert.Reference23Ideal.Read.val_main_cst, Cert.Reference23Ideal.Read.val_main_cst_0, Cert.Reference23Ideal.Read.val_main_cst_1, times, gates, gate]

theorem ref_tokens (p : FVec Ideal S16512x14336 .f32) (w : FVec Ideal S1024x1024 .bf16) (ct : FVec Ideal S16512x1024 .f32) :
    Cert.Reference23Ideal.Read.val_main_v17 (F := Ideal) p w ct = rowsRows (times (gates 11264 room p) ct) w := by
  funext i
  pointwise [Cert.Reference23Ideal.Read.val_main_v17, Cert.Reference23Ideal.Read.val_main_v16, Cert.Reference23Ideal.Read.val_main_v15, Cert.Reference23Ideal.Read.val_main_v14, Cert.Reference23Ideal.Read.val_main_v13, Cert.Reference23Ideal.Read.val_main_v12, Cert.Reference23Ideal.Read.val_main_v11, Cert.Reference23Ideal.Read.val_main_v10, Cert.Reference23Ideal.Read.val_main_v9, Cert.Reference23Ideal.Read.val_main_v8, Cert.Reference23Ideal.Read.val_main_v7, Cert.Reference23Ideal.Read.val_main_v6, Cert.Reference23Ideal.Read.val_main_v5, Cert.Reference23Ideal.Read.val_main_v4, Cert.Reference23Ideal.Read.val_main_v3, Cert.Reference23Ideal.Read.val_main_v2, Cert.Reference23Ideal.Read.val_main_v1, Cert.Reference23Ideal.Read.val_main_v0, Cert.Reference23Ideal.Read.val_main_cst, Cert.Reference23Ideal.Read.val_main_cst_0, Cert.Reference23Ideal.Read.val_main_cst_1, rowsRows, times, gates, gate]

end Cert.Kernel23Ideal.Prod

namespace Cert.Proof

theorem quiescent23 : Cert.quiescent_Kernel23 (hKernel23 := Cert.Kernel23.Gen.facts) := fun m ρ _ => Cert.Kernel23.Gen.frame m ρ

theorem quiescent23_ideal : Cert.quiescent_Kernel23Ideal (hKernel23Ideal := Cert.Kernel23Ideal.Gen.facts) := fun m ρ _ =>
  Cert.Kernel23Ideal.Gen.frame m ρ

theorem quiescent23_reference : Cert.quiescent_Reference23Ideal (hReference23Ideal := Cert.Reference23Ideal.Gen.facts) := fun m ρ _ =>
  (θ_run Cert.Reference23Ideal.defs _ _).mono (fun r h => ⟨fun c => (h c).2.2.2, sem_eq_zero_of_no_sems (by decide) r.2⟩)
    (Cert.Reference23Ideal.Value.run (F := Ideal) m ρ)

theorem value23 : Cert.algebraic_Kernel23Ideal_Reference23Ideal (hKernel23Ideal := Cert.Kernel23Ideal.Gen.facts)
    (hReference23Ideal := Cert.Reference23Ideal.Gen.facts) := by
  intro m g m' g' _ same
  refine ⟨_, _, _, Cert.Kernel23Ideal.Value.run_blocks (F := Ideal) m g, ?_⟩
  refine (θ_run Cert.Reference23Ideal.defs _ _).mono (fun r k c => ?_) (Cert.Reference23Ideal.Value.run (F := Ideal) m' g')
  obtain ⟨e0, e1, e2, e3⟩ := same c
  obtain ⟨k0, k1, k2, kept⟩ := k c
  exact ⟨(k0.trans (Cert.Reference23Ideal.Read.val_main_v15_eq _ _ _ _ )).trans ((congr (congr (congr (congrArg (Cert.Reference23Ideal.Read.val_main_v15 (F := Ideal)) e0) e1) e2) e3).trans
      ((Cert.Kernel23Ideal.Prod.ref_logits _ _ _ _ ).trans (Cert.Kernel23Ideal.Prod.logits m c).symm)),
    (k1.trans (Cert.Reference23Ideal.Read.val_main_v16_eq _ _ )).trans ((congr (congrArg (Cert.Reference23Ideal.Read.val_main_v16 (F := Ideal)) e1) e3).trans
      ((Cert.Kernel23Ideal.Prod.ref_branch _ _ ).trans (Cert.Kernel23Ideal.Prod.branch m c).symm)),
    (k2.trans (Cert.Reference23Ideal.Read.val_main_v17_eq _ _ _ )).trans ((congr (congr (congrArg (Cert.Reference23Ideal.Read.val_main_v17 (F := Ideal)) e1) e2) e3).trans
      ((Cert.Kernel23Ideal.Prod.ref_tokens _ _ _ ).trans (Cert.Kernel23Ideal.Prod.tokens m c).symm)), kept⟩

end Cert.Proof

end
-- ==== Proof.Call24.lean ====
module

public import proofs.«01_k».proof.Defs
public import proofs.«01_k».proof.Proof.Products
public import proofs.«01_k».proof.Proof.Gen.Kernel24.Frame
public import proofs.«01_k».proof.Proof.Gen.Kernel24Ideal.Value
public import proofs.«01_k».proof.Proof.Gen.Reference24Ideal.Read

/-! The call `branch2_b`: the cotangents of branch 2's gate logits, of its projection and of its tokens. -/

@[expose] public section

set_option maxRecDepth 16384

noncomputable section

open Idealize.ShloMosaic Idealize.ShloMosaic.TcCoe Idealize.SL.Sem
open Idealize.ShloMosaic.Pipeline (Dat)
open Cert.Prod

namespace Cert.Kernel24Ideal.Prod
open Cert.Kernel24Ideal Cert.Kernel24Ideal.Gen

theorem room : 12288 + 1024 ≤ 14336 := by decide

variable (m : (ℓ : Loc nD τ sig) → Buf (Elt Ideal) ℓ) (c : Dev nD)

/-- Which block each window holds at a grid point. -/
theorem index : ∀ t : Fin cfg0.N, win0_0.index t = ![t.val, 0] ∧ win0_1.index t = ![t.val, 12] ∧ win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 12] ∧ win0_2.index t = ![0, 0] ∧ win0_3.index t = ![0, 0] ∧ win0_4.index t = ![t.val, 0] ∧ win0_5.index t = ![t.val, 0] ∧ win0_6.index t = ![t.val, 0] ∧ win0_7.index t = ![t.val, 0])

theorem logits : (dats m 0 c).arrAt 5 cfg0.N = (slopes (m ((c.tc : Thread nD τ).loc main_arg3)) (rowsCols (m ((c.tc : Thread nD τ).loc main_arg0)) (m ((c.tc : Thread nD τ).loc main_arg2))) (gates 12288 room (m ((c.tc : Thread nD τ).loc main_arg1))) : FVec Ideal S16512x1024 .f32) := by
  refine (dats m 0 c).arrAt_eq_of_covers 5 _ (by decide +kernel) fun t hf y => ?_
  blk_simp
  rw [after0_5]
  frame_out
  pointwise [k0_pay2, k0_pay1]
  rw [mul_assoc]
  refine congrArg₂ (· * ·) (congrArg₂ (· * ·) ?_ (Fin.sum_fin_congr fun k => congrArg₂ (· * ·) ?_ ?_)) (slope_of ?_)
    <;> blk_ext [iblk, V, index t]

theorem branch : (dats m 0 c).arrAt 6 cfg0.N = (times (gates 12288 room (m ((c.tc : Thread nD τ).loc main_arg1))) (m ((c.tc : Thread nD τ).loc main_arg3)) : FVec Ideal S16512x1024 .bf16) := by
  refine (dats m 0 c).arrAt_eq_of_covers 6 _ (by decide +kernel) fun t hf y => ?_
  blk_simp
  rw [after0_6]
  frame_out
  pointwise [k0_pay3, k0_pay1]
  rw [mul_comm]
  refine congrArg₂ (· * ·) (gate_of ?_) ?_ <;> blk_ext [iblk, V, index t]

theorem tokens : (dats m 0 c).arrAt 7 cfg0.N = (rowsRows (times (gates 12288 room (m ((c.tc : Thread nD τ).loc main_arg1))) (m ((c.tc : Thread nD τ).loc main_arg3))) (m ((c.tc : Thread nD τ).loc main_arg2)) : FVec Ideal S16512x1024 .f32) := by
  refine (dats m 0 c).arrAt_eq_of_covers 7 _ (by decide +kernel) fun t hf y => ?_
  blk_simp
  rw [after0_7]
  frame_out
  pointwise [k0_pay4, k0_pay3, k0_pay1]
  refine Fin.sum_fin_congr fun k => congrArg₂ (· * ·) ((mul_comm _ _).trans (congrArg₂ (· * ·) (gate_of ?_) ?_)) ?_
    <;> blk_ext! [iblk, V, index t]

theorem ref_logits (y : FVec Ideal S16512x1024 .f32) (p : FVec Ideal S16512x14336 .f32) (w : FVec Ideal S1024x1024 .bf16) (ct : FVec Ideal S16512x1024 .f32) :
    Cert.Reference24Ideal.Read.val_main_v15 (F := Ideal) y p w ct = slopes ct (rowsCols y w) (gates 12288 room p) := by
  funext i
  pointwise [Cert.Reference24Ideal.Read.val_main_v15, Cert.Reference24Ideal.Read.val_main_v14, Cert.Reference24Ideal.Read.val_main_v13, Cert.Reference24Ideal.Read.val_main_v12, Cert.Reference24Ideal.Read.val_main_v11, Cert.Reference24Ideal.Read.val_main_v10, Cert.Reference24Ideal.Read.val_main_v9, Cert.Reference24Ideal.Read.val_main_v8, Cert.Reference24Ideal.Read.val_main_v7, Cert.Reference24Ideal.Read.val_main_v6, Cert.Reference24Ideal.Read.val_main_v5, Cert.Reference24Ideal.Read.val_main_v4, Cert.Reference24Ideal.Read.val_main_v3, Cert.Reference24Ideal.Read.val_main_v2, Cert.Reference24Ideal.Read.val_main_v1, Cert.Reference24Ideal.Read.val_main_v0, Cert.Reference24Ideal.Read.val_main_cst, Cert.Reference24Ideal.Read.val_main_cst_0, Cert.Reference24Ideal.Read.val_main_cst_1, slopes, rowsCols, gates, gate]

theorem ref_branch (p : FVec Ideal S16512x14336 .f32) (ct : FVec Ideal S16512x1024 .f32) :
    Cert.Reference24Ideal.Read.val_main_v16 (F := Ideal) p ct = times (gates 12288 room p) ct := by
  funext i
  pointwise [Cert.Reference24Ideal.Read.val_main_v16, Cert.Reference24Ideal.Read.val_main_v13, Cert.Reference24Ideal.Read.val_main_v8, Cert.Reference24Ideal.Read.val_main_v7, Cert.Reference24Ideal.Read.val_main_v6, Cert.Reference24Ideal.Read.val_main_v5, Cert.Reference24Ideal.Read.val_main_v4, Cert.Reference24Ideal.Read.val_main_v3, Cert.Reference24Ideal.Read.val_main_v2, Cert.Reference24Ideal.Read.val_main_v1, Cert.Reference24Ideal.Read.val_main_v0, Cert.Reference24Ideal.Read.val_main_cst, Cert.Reference24Ideal.Read.val_main_cst_0, Cert.Reference24Ideal.Read.val_main_cst_1, times, gates, gate]

theorem ref_tokens (p : FVec Ideal S16512x14336 .f32) (w : FVec Ideal S1024x1024 .bf16) (ct : FVec Ideal S16512x1024 .f32) :
    Cert.Reference24Ideal.Read.val_main_v17 (F := Ideal) p w ct = rowsRows (times (gates 12288 room p) ct) w := by
  funext i
  pointwise [Cert.Reference24Ideal.Read.val_main_v17, Cert.Reference24Ideal.Read.val_main_v16, Cert.Reference24Ideal.Read.val_main_v15, Cert.Reference24Ideal.Read.val_main_v14, Cert.Reference24Ideal.Read.val_main_v13, Cert.Reference24Ideal.Read.val_main_v12, Cert.Reference24Ideal.Read.val_main_v11, Cert.Reference24Ideal.Read.val_main_v10, Cert.Reference24Ideal.Read.val_main_v9, Cert.Reference24Ideal.Read.val_main_v8, Cert.Reference24Ideal.Read.val_main_v7, Cert.Reference24Ideal.Read.val_main_v6, Cert.Reference24Ideal.Read.val_main_v5, Cert.Reference24Ideal.Read.val_main_v4, Cert.Reference24Ideal.Read.val_main_v3, Cert.Reference24Ideal.Read.val_main_v2, Cert.Reference24Ideal.Read.val_main_v1, Cert.Reference24Ideal.Read.val_main_v0, Cert.Reference24Ideal.Read.val_main_cst, Cert.Reference24Ideal.Read.val_main_cst_0, Cert.Reference24Ideal.Read.val_main_cst_1, rowsRows, times, gates, gate]

end Cert.Kernel24Ideal.Prod

namespace Cert.Proof

theorem quiescent24 : Cert.quiescent_Kernel24 (hKernel24 := Cert.Kernel24.Gen.facts) := fun m ρ _ => Cert.Kernel24.Gen.frame m ρ

theorem quiescent24_ideal : Cert.quiescent_Kernel24Ideal (hKernel24Ideal := Cert.Kernel24Ideal.Gen.facts) := fun m ρ _ =>
  Cert.Kernel24Ideal.Gen.frame m ρ

theorem quiescent24_reference : Cert.quiescent_Reference24Ideal (hReference24Ideal := Cert.Reference24Ideal.Gen.facts) := fun m ρ _ =>
  (θ_run Cert.Reference24Ideal.defs _ _).mono (fun r h => ⟨fun c => (h c).2.2.2, sem_eq_zero_of_no_sems (by decide) r.2⟩)
    (Cert.Reference24Ideal.Value.run (F := Ideal) m ρ)

theorem value24 : Cert.algebraic_Kernel24Ideal_Reference24Ideal (hKernel24Ideal := Cert.Kernel24Ideal.Gen.facts)
    (hReference24Ideal := Cert.Reference24Ideal.Gen.facts) := by
  intro m g m' g' _ same
  refine ⟨_, _, _, Cert.Kernel24Ideal.Value.run_blocks (F := Ideal) m g, ?_⟩
  refine (θ_run Cert.Reference24Ideal.defs _ _).mono (fun r k c => ?_) (Cert.Reference24Ideal.Value.run (F := Ideal) m' g')
  obtain ⟨e0, e1, e2, e3⟩ := same c
  obtain ⟨k0, k1, k2, kept⟩ := k c
  exact ⟨(k0.trans (Cert.Reference24Ideal.Read.val_main_v15_eq _ _ _ _ )).trans ((congr (congr (congr (congrArg (Cert.Reference24Ideal.Read.val_main_v15 (F := Ideal)) e0) e1) e2) e3).trans
      ((Cert.Kernel24Ideal.Prod.ref_logits _ _ _ _ ).trans (Cert.Kernel24Ideal.Prod.logits m c).symm)),
    (k1.trans (Cert.Reference24Ideal.Read.val_main_v16_eq _ _ )).trans ((congr (congrArg (Cert.Reference24Ideal.Read.val_main_v16 (F := Ideal)) e1) e3).trans
      ((Cert.Kernel24Ideal.Prod.ref_branch _ _ ).trans (Cert.Kernel24Ideal.Prod.branch m c).symm)),
    (k2.trans (Cert.Reference24Ideal.Read.val_main_v17_eq _ _ _ )).trans ((congr (congr (congrArg (Cert.Reference24Ideal.Read.val_main_v17 (F := Ideal)) e1) e2) e3).trans
      ((Cert.Kernel24Ideal.Prod.ref_tokens _ _ _ ).trans (Cert.Kernel24Ideal.Prod.tokens m c).symm)), kept⟩

end Cert.Proof

end
-- ==== Proof.Call25.lean ====
module

public import proofs.«01_k».proof.Defs
public import proofs.«01_k».proof.Proof.Products
public import proofs.«01_k».proof.Proof.Gen.Kernel25.Frame
public import proofs.«01_k».proof.Proof.Gen.Kernel25Ideal.Value
public import proofs.«01_k».proof.Proof.Gen.Reference25Ideal.Read

/-! The call `branch3_b`: the cotangents of branch 3's gate logits, of its projection and of its tokens. -/

@[expose] public section

set_option maxRecDepth 16384

noncomputable section

open Idealize.ShloMosaic Idealize.ShloMosaic.TcCoe Idealize.SL.Sem
open Idealize.ShloMosaic.Pipeline (Dat)
open Cert.Prod

namespace Cert.Kernel25Ideal.Prod
open Cert.Kernel25Ideal Cert.Kernel25Ideal.Gen

theorem room : 13312 + 1024 ≤ 14336 := by decide

variable (m : (ℓ : Loc nD τ sig) → Buf (Elt Ideal) ℓ) (c : Dev nD)

/-- Which block each window holds at a grid point. -/
theorem index : ∀ t : Fin cfg0.N, win0_0.index t = ![t.val, 0] ∧ win0_1.index t = ![t.val, 13] ∧ win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 13] ∧ win0_2.index t = ![0, 0] ∧ win0_3.index t = ![0, 0] ∧ win0_4.index t = ![t.val, 0] ∧ win0_5.index t = ![t.val, 0] ∧ win0_6.index t = ![t.val, 0] ∧ win0_7.index t = ![t.val, 0])

theorem logits : (dats m 0 c).arrAt 5 cfg0.N = (slopes (m ((c.tc : Thread nD τ).loc main_arg3)) (rowsCols (m ((c.tc : Thread nD τ).loc main_arg0)) (m ((c.tc : Thread nD τ).loc main_arg2))) (gates 13312 room (m ((c.tc : Thread nD τ).loc main_arg1))) : FVec Ideal S16512x1024 .f32) := by
  refine (dats m 0 c).arrAt_eq_of_covers 5 _ (by decide +kernel) fun t hf y => ?_
  blk_simp
  rw [after0_5]
  frame_out
  pointwise [k0_pay2, k0_pay1]
  rw [mul_assoc]
  refine congrArg₂ (· * ·) (congrArg₂ (· * ·) ?_ (Fin.sum_fin_congr fun k => congrArg₂ (· * ·) ?_ ?_)) (slope_of ?_)
    <;> blk_ext [iblk, V, index t]

theorem branch : (dats m 0 c).arrAt 6 cfg0.N = (times (gates 13312 room (m ((c.tc : Thread nD τ).loc main_arg1))) (m ((c.tc : Thread nD τ).loc main_arg3)) : FVec Ideal S16512x1024 .bf16) := by
  refine (dats m 0 c).arrAt_eq_of_covers 6 _ (by decide +kernel) fun t hf y => ?_
  blk_simp
  rw [after0_6]
  frame_out
  pointwise [k0_pay3, k0_pay1]
  rw [mul_comm]
  refine congrArg₂ (· * ·) (gate_of ?_) ?_ <;> blk_ext [iblk, V, index t]

theorem tokens : (dats m 0 c).arrAt 7 cfg0.N = (rowsRows (times (gates 13312 room (m ((c.tc : Thread nD τ).loc main_arg1))) (m ((c.tc : Thread nD τ).loc main_arg3))) (m ((c.tc : Thread nD τ).loc main_arg2)) : FVec Ideal S16512x1024 .f32) := by
  refine (dats m 0 c).arrAt_eq_of_covers 7 _ (by decide +kernel) fun t hf y => ?_
  blk_simp
  rw [after0_7]
  frame_out
  pointwise [k0_pay4, k0_pay3, k0_pay1]
  refine Fin.sum_fin_congr fun k => congrArg₂ (· * ·) ((mul_comm _ _).trans (congrArg₂ (· * ·) (gate_of ?_) ?_)) ?_
    <;> blk_ext! [iblk, V, index t]

theorem ref_logits (y : FVec Ideal S16512x1024 .f32) (p : FVec Ideal S16512x14336 .f32) (w : FVec Ideal S1024x1024 .bf16) (ct : FVec Ideal S16512x1024 .f32) :
    Cert.Reference25Ideal.Read.val_main_v15 (F := Ideal) y p w ct = slopes ct (rowsCols y w) (gates 13312 room p) := by
  funext i
  pointwise [Cert.Reference25Ideal.Read.val_main_v15, Cert.Reference25Ideal.Read.val_main_v14, Cert.Reference25Ideal.Read.val_main_v13, Cert.Reference25Ideal.Read.val_main_v12, Cert.Reference25Ideal.Read.val_main_v11, Cert.Reference25Ideal.Read.val_main_v10, Cert.Reference25Ideal.Read.val_main_v9, Cert.Reference25Ideal.Read.val_main_v8, Cert.Reference25Ideal.Read.val_main_v7, Cert.Reference25Ideal.Read.val_main_v6, Cert.Reference25Ideal.Read.val_main_v5, Cert.Reference25Ideal.Read.val_main_v4, Cert.Reference25Ideal.Read.val_main_v3, Cert.Reference25Ideal.Read.val_main_v2, Cert.Reference25Ideal.Read.val_main_v1, Cert.Reference25Ideal.Read.val_main_v0, Cert.Reference25Ideal.Read.val_main_cst, Cert.Reference25Ideal.Read.val_main_cst_0, Cert.Reference25Ideal.Read.val_main_cst_1, slopes, rowsCols, gates, gate]

theorem ref_branch (p : FVec Ideal S16512x14336 .f32) (ct : FVec Ideal S16512x1024 .f32) :
    Cert.Reference25Ideal.Read.val_main_v16 (F := Ideal) p ct = times (gates 13312 room p) ct := by
  funext i
  pointwise [Cert.Reference25Ideal.Read.val_main_v16, Cert.Reference25Ideal.Read.val_main_v13, Cert.Reference25Ideal.Read.val_main_v8, Cert.Reference25Ideal.Read.val_main_v7, Cert.Reference25Ideal.Read.val_main_v6, Cert.Reference25Ideal.Read.val_main_v5, Cert.Reference25Ideal.Read.val_main_v4, Cert.Reference25Ideal.Read.val_main_v3, Cert.Reference25Ideal.Read.val_main_v2, Cert.Reference25Ideal.Read.val_main_v1, Cert.Reference25Ideal.Read.val_main_v0, Cert.Reference25Ideal.Read.val_main_cst, Cert.Reference25Ideal.Read.val_main_cst_0, Cert.Reference25Ideal.Read.val_main_cst_1, times, gates, gate]

theorem ref_tokens (p : FVec Ideal S16512x14336 .f32) (w : FVec Ideal S1024x1024 .bf16) (ct : FVec Ideal S16512x1024 .f32) :
    Cert.Reference25Ideal.Read.val_main_v17 (F := Ideal) p w ct = rowsRows (times (gates 13312 room p) ct) w := by
  funext i
  pointwise [Cert.Reference25Ideal.Read.val_main_v17, Cert.Reference25Ideal.Read.val_main_v16, Cert.Reference25Ideal.Read.val_main_v15, Cert.Reference25Ideal.Read.val_main_v14, Cert.Reference25Ideal.Read.val_main_v13, Cert.Reference25Ideal.Read.val_main_v12, Cert.Reference25Ideal.Read.val_main_v11, Cert.Reference25Ideal.Read.val_main_v10, Cert.Reference25Ideal.Read.val_main_v9, Cert.Reference25Ideal.Read.val_main_v8, Cert.Reference25Ideal.Read.val_main_v7, Cert.Reference25Ideal.Read.val_main_v6, Cert.Reference25Ideal.Read.val_main_v5, Cert.Reference25Ideal.Read.val_main_v4, Cert.Reference25Ideal.Read.val_main_v3, Cert.Reference25Ideal.Read.val_main_v2, Cert.Reference25Ideal.Read.val_main_v1, Cert.Reference25Ideal.Read.val_main_v0, Cert.Reference25Ideal.Read.val_main_cst, Cert.Reference25Ideal.Read.val_main_cst_0, Cert.Reference25Ideal.Read.val_main_cst_1, rowsRows, times, gates, gate]

end Cert.Kernel25Ideal.Prod

namespace Cert.Proof

theorem quiescent25 : Cert.quiescent_Kernel25 (hKernel25 := Cert.Kernel25.Gen.facts) := fun m ρ _ => Cert.Kernel25.Gen.frame m ρ

theorem quiescent25_ideal : Cert.quiescent_Kernel25Ideal (hKernel25Ideal := Cert.Kernel25Ideal.Gen.facts) := fun m ρ _ =>
  Cert.Kernel25Ideal.Gen.frame m ρ

theorem quiescent25_reference : Cert.quiescent_Reference25Ideal (hReference25Ideal := Cert.Reference25Ideal.Gen.facts) := fun m ρ _ =>
  (θ_run Cert.Reference25Ideal.defs _ _).mono (fun r h => ⟨fun c => (h c).2.2.2, sem_eq_zero_of_no_sems (by decide) r.2⟩)
    (Cert.Reference25Ideal.Value.run (F := Ideal) m ρ)

theorem value25 : Cert.algebraic_Kernel25Ideal_Reference25Ideal (hKernel25Ideal := Cert.Kernel25Ideal.Gen.facts)
    (hReference25Ideal := Cert.Reference25Ideal.Gen.facts) := by
  intro m g m' g' _ same
  refine ⟨_, _, _, Cert.Kernel25Ideal.Value.run_blocks (F := Ideal) m g, ?_⟩
  refine (θ_run Cert.Reference25Ideal.defs _ _).mono (fun r k c => ?_) (Cert.Reference25Ideal.Value.run (F := Ideal) m' g')
  obtain ⟨e0, e1, e2, e3⟩ := same c
  obtain ⟨k0, k1, k2, kept⟩ := k c
  exact ⟨(k0.trans (Cert.Reference25Ideal.Read.val_main_v15_eq _ _ _ _ )).trans ((congr (congr (congr (congrArg (Cert.Reference25Ideal.Read.val_main_v15 (F := Ideal)) e0) e1) e2) e3).trans
      ((Cert.Kernel25Ideal.Prod.ref_logits _ _ _ _ ).trans (Cert.Kernel25Ideal.Prod.logits m c).symm)),
    (k1.trans (Cert.Reference25Ideal.Read.val_main_v16_eq _ _ )).trans ((congr (congrArg (Cert.Reference25Ideal.Read.val_main_v16 (F := Ideal)) e1) e3).trans
      ((Cert.Kernel25Ideal.Prod.ref_branch _ _ ).trans (Cert.Kernel25Ideal.Prod.branch m c).symm)),
    (k2.trans (Cert.Reference25Ideal.Read.val_main_v17_eq _ _ _ )).trans ((congr (congr (congrArg (Cert.Reference25Ideal.Read.val_main_v17 (F := Ideal)) e1) e2) e3).trans
      ((Cert.Kernel25Ideal.Prod.ref_tokens _ _ _ ).trans (Cert.Kernel25Ideal.Prod.tokens m c).symm)), kept⟩

end Cert.Proof

end
-- ==== Proof.Call26.lean ====
module

public import proofs.«01_k».proof.Defs
public import proofs.«01_k».proof.Proof.Products
public import proofs.«01_k».proof.Proof.Gen.Kernel26.Frame
public import proofs.«01_k».proof.Proof.Gen.Kernel26Ideal.Value
public import proofs.«01_k».proof.Proof.Gen.Reference26Ideal.Read

/-! The call `branch0`: branch 0 projected, gated. -/

@[expose] public section

set_option maxRecDepth 16384

noncomputable section

open Idealize.ShloMosaic Idealize.ShloMosaic.TcCoe Idealize.SL.Sem
open Idealize.ShloMosaic.Pipeline (Dat)
open Cert.Prod

namespace Cert.Kernel26Ideal.Prod
open Cert.Kernel26Ideal Cert.Kernel26Ideal.Gen

theorem room : 10240 + 1024 ≤ 14336 := by decide

variable (m : (ℓ : Loc nD τ sig) → Buf (Elt Ideal) ℓ) (c : Dev nD)

/-- Which block each window holds at a grid point. -/
theorem index : ∀ t : Fin cfg0.N, win0_0.index t = ![t.val, 0] ∧ win0_1.index t = ![t.val, 10] ∧ win0_2.index t = ![0, 0] ∧ win0_3.index t = ![t.val, 0] :=
  (by decide +kernel : ∀ t : Fin grid0.N, win0_0.index t = ![t.val, 0] ∧ win0_1.index t = ![t.val, 10] ∧ win0_2.index t = ![0, 0] ∧ win0_3.index t = ![t.val, 0])

theorem array : (dats m 0 c).arrAt 3 cfg0.N = (times (gates 10240 room (m ((c.tc : Thread nD τ).loc main_arg1))) (rowsCols (m ((c.tc : Thread nD τ).loc main_arg0)) (m ((c.tc : Thread nD τ).loc main_arg2))) : FVec Ideal S16512x1024 .f32) := by
  refine (dats m 0 c).arrAt_eq_of_covers 3 _ (by decide +kernel) fun t hf y => ?_
  blk_simp
  rw [after0_3]
  frame_out
  pointwise [k0_pay1]
  refine congrArg₂ (· * ·) (gate_of ?_) (Fin.sum_fin_congr fun k => congrArg₂ (· * ·) ?_ ?_)
    <;> blk_ext [iblk, V, index t]

theorem ref (y : FVec Ideal S16512x1024 .f32) (p : FVec Ideal S16512x14336 .f32) (w : FVec Ideal S1024x1024 .bf16) :
    Cert.Reference26Ideal.Read.val_main_v9 (F := Ideal) y p w = times (gates 10240 room p) (rowsCols y w) := by
  funext i
  pointwise [Cert.Reference26Ideal.Read.val_main_v9, Cert.Reference26Ideal.Read.val_main_v8, Cert.Reference26Ideal.Read.val_main_v7, Cert.Reference26Ideal.Read.val_main_v6, Cert.Reference26Ideal.Read.val_main_v5, Cert.Reference26Ideal.Read.val_main_v4, Cert.Reference26Ideal.Read.val_main_v3, Cert.Reference26Ideal.Read.val_main_v2, Cert.Reference26Ideal.Read.val_main_v1, Cert.Reference26Ideal.Read.val_main_v0, Cert.Reference26Ideal.Read.val_main_cst, Cert.Reference26Ideal.Read.val_main_cst_0, times, rowsCols, gates, gate]

end Cert.Kernel26Ideal.Prod

namespace Cert.Proof

theorem quiescent26 : Cert.quiescent_Kernel26 (hKernel26 := Cert.Kernel26.Gen.facts) := fun m ρ _ => Cert.Kernel26.Gen.frame m ρ

theorem quiescent26_ideal : Cert.quiescent_Kernel26Ideal (hKernel26Ideal := Cert.Kernel26Ideal.Gen.facts) := fun m ρ _ =>
  Cert.Kernel26Ideal.Gen.frame m ρ

theorem quiescent26_reference : Cert.quiescent_Reference26Ideal (hReference26Ideal := Cert.Reference26Ideal.Gen.facts) := fun m ρ _ =>
  (θ_run Cert.Reference26Ideal.defs _ _).mono (fun r h => ⟨fun c => (h c).2, sem_eq_zero_of_no_sems (by decide) r.2⟩)
    (Cert.Reference26Ideal.Value.run (F := Ideal) m ρ)

theorem value26 : Cert.algebraic_Kernel26Ideal_Reference26Ideal (hKernel26Ideal := Cert.Kernel26Ideal.Gen.facts)
    (hReference26Ideal := Cert.Reference26Ideal.Gen.facts) := by
  intro m g m' g' _ same
  refine ⟨_, Cert.Kernel26Ideal.Value.run_blocks (F := Ideal) m g, ?_⟩
  refine (θ_run Cert.Reference26Ideal.defs _ _).mono (fun r k c => ?_) (Cert.Reference26Ideal.Value.run (F := Ideal) m' g')
  obtain ⟨e0, e1, e2⟩ := same c
  exact ⟨((k c).1.trans (Cert.Reference26Ideal.Read.val_main_v9_eq _ _ _ )).trans ((congr (congr (congrArg (Cert.Reference26Ideal.Read.val_main_v9 (F := Ideal)) e0) e1) e2).trans
    ((Cert.Kernel26Ideal.Prod.ref _ _ _ ).trans (Cert.Kernel26Ideal.Prod.array m c).symm)), (k c).2⟩

end Cert.Proof

end
-- ==== Proof.Call27.lean ====
module

public import proofs.«01_k».proof.Defs
public import proofs.«01_k».proof.Proof.Products
public import proofs.«01_k».proof.Proof.Gen.Kernel27.Frame
public import proofs.«01_k».proof.Proof.Gen.Kernel27Ideal.Value
public import proofs.«01_k».proof.Proof.Gen.Reference27Ideal.Read

/-! The call `branch1`: branch 1 projected, gated and added to the branches before it. -/

@[expose] public section

set_option maxRecDepth 16384

noncomputable section

open Idealize.ShloMosaic Idealize.ShloMosaic.TcCoe Idealize.SL.Sem
open Idealize.ShloMosaic.Pipeline (Dat)
open Cert.Prod

namespace Cert.Kernel27Ideal.Prod
open Cert.Kernel27Ideal Cert.Kernel27Ideal.Gen

theorem room : 11264 + 1024 ≤ 14336 := by decide

variable (m : (ℓ : Loc nD τ sig) → Buf (Elt Ideal) ℓ) (c : Dev nD)

/-- Which block each window holds at a grid point. -/
theorem index : ∀ t : Fin cfg0.N, win0_0.index t = ![t.val, 0] ∧ win0_1.index t = ![t.val, 11] ∧ win0_2.index t = ![0, 0] ∧ win0_3.index t = ![t.val, 0] ∧ win0_4.index t = ![t.val, 0] :=
  (by decide +kernel : ∀ t : Fin grid0.N, win0_0.index t = ![t.val, 0] ∧ win0_1.index t = ![t.val, 11] ∧ win0_2.index t = ![0, 0] ∧ win0_3.index t = ![t.val, 0] ∧ win0_4.index t = ![t.val, 0])

theorem array : (dats m 0 c).arrAt 4 cfg0.N = (plus (m ((c.tc : Thread nD τ).loc main_arg3)) (times (gates 11264 room (m ((c.tc : Thread nD τ).loc main_arg1))) (rowsCols (m ((c.tc : Thread nD τ).loc main_arg0)) (m ((c.tc : Thread nD τ).loc main_arg2)))) : FVec Ideal S16512x1024 .f32) := by
  refine (dats m 0 c).arrAt_eq_of_covers 4 _ (by decide +kernel) fun t hf y => ?_
  blk_simp
  rw [after0_4]
  frame_out
  pointwise [k0_pay1]
  rw [add_comm]
  refine congrArg₂ (· + ·) ?_ (congrArg₂ (· * ·) (gate_of ?_) (Fin.sum_fin_congr fun k => congrArg₂ (· * ·) ?_ ?_))
    <;> blk_ext [iblk, V, index t]

theorem ref (y : FVec Ideal S16512x1024 .f32) (p : FVec Ideal S16512x14336 .f32) (w : FVec Ideal S1024x1024 .bf16) (a : FVec Ideal S16512x1024 .f32) :
    Cert.Reference27Ideal.Read.val_main_v10 (F := Ideal) y p w a = plus a (times (gates 11264 room p) (rowsCols y w)) := by
  funext i
  pointwise [Cert.Reference27Ideal.Read.val_main_v10, Cert.Reference27Ideal.Read.val_main_v9, Cert.Reference27Ideal.Read.val_main_v8, Cert.Reference27Ideal.Read.val_main_v7, Cert.Reference27Ideal.Read.val_main_v6, Cert.Reference27Ideal.Read.val_main_v5, Cert.Reference27Ideal.Read.val_main_v4, Cert.Reference27Ideal.Read.val_main_v3, Cert.Reference27Ideal.Read.val_main_v2, Cert.Reference27Ideal.Read.val_main_v1, Cert.Reference27Ideal.Read.val_main_v0, Cert.Reference27Ideal.Read.val_main_cst, Cert.Reference27Ideal.Read.val_main_cst_0, times, rowsCols, gates, gate, plus]

end Cert.Kernel27Ideal.Prod

namespace Cert.Proof

theorem quiescent27 : Cert.quiescent_Kernel27 (hKernel27 := Cert.Kernel27.Gen.facts) := fun m ρ _ => Cert.Kernel27.Gen.frame m ρ

theorem quiescent27_ideal : Cert.quiescent_Kernel27Ideal (hKernel27Ideal := Cert.Kernel27Ideal.Gen.facts) := fun m ρ _ =>
  Cert.Kernel27Ideal.Gen.frame m ρ

theorem quiescent27_reference : Cert.quiescent_Reference27Ideal (hReference27Ideal := Cert.Reference27Ideal.Gen.facts) := fun m ρ _ =>
  (θ_run Cert.Reference27Ideal.defs _ _).mono (fun r h => ⟨fun c => (h c).2, sem_eq_zero_of_no_sems (by decide) r.2⟩)
    (Cert.Reference27Ideal.Value.run (F := Ideal) m ρ)

theorem value27 : Cert.algebraic_Kernel27Ideal_Reference27Ideal (hKernel27Ideal := Cert.Kernel27Ideal.Gen.facts)
    (hReference27Ideal := Cert.Reference27Ideal.Gen.facts) := by
  intro m g m' g' _ same
  refine ⟨_, Cert.Kernel27Ideal.Value.run_blocks (F := Ideal) m g, ?_⟩
  refine (θ_run Cert.Reference27Ideal.defs _ _).mono (fun r k c => ?_) (Cert.Reference27Ideal.Value.run (F := Ideal) m' g')
  obtain ⟨e0, e1, e2, e3⟩ := same c
  exact ⟨((k c).1.trans (Cert.Reference27Ideal.Read.val_main_v10_eq _ _ _ _ )).trans ((congr (congr (congr (congrArg (Cert.Reference27Ideal.Read.val_main_v10 (F := Ideal)) e0) e1) e2) e3).trans
    ((Cert.Kernel27Ideal.Prod.ref _ _ _ _ ).trans (Cert.Kernel27Ideal.Prod.array m c).symm)), (k c).2⟩

end Cert.Proof

end
-- ==== Proof.Call28.lean ====
module

public import proofs.«01_k».proof.Defs
public import proofs.«01_k».proof.Proof.Products
public import proofs.«01_k».proof.Proof.Gen.Kernel28.Frame
public import proofs.«01_k».proof.Proof.Gen.Kernel28Ideal.Value
public import proofs.«01_k».proof.Proof.Gen.Reference28Ideal.Read

/-! The call `branch2`: branch 2 projected, gated and added to the branches before it. -/

@[expose] public section

set_option maxRecDepth 16384

noncomputable section

open Idealize.ShloMosaic Idealize.ShloMosaic.TcCoe Idealize.SL.Sem
open Idealize.ShloMosaic.Pipeline (Dat)
open Cert.Prod

namespace Cert.Kernel28Ideal.Prod
open Cert.Kernel28Ideal Cert.Kernel28Ideal.Gen

theorem room : 12288 + 1024 ≤ 14336 := by decide

variable (m : (ℓ : Loc nD τ sig) → Buf (Elt Ideal) ℓ) (c : Dev nD)

/-- Which block each window holds at a grid point. -/
theorem index : ∀ t : Fin cfg0.N, win0_0.index t = ![t.val, 0] ∧ win0_1.index t = ![t.val, 12] ∧ win0_2.index t = ![0, 0] ∧ win0_3.index t = ![t.val, 0] ∧ win0_4.index t = ![t.val, 0] :=
  (by decide +kernel : ∀ t : Fin grid0.N, win0_0.index t = ![t.val, 0] ∧ win0_1.index t = ![t.val, 12] ∧ win0_2.index t = ![0, 0] ∧ win0_3.index t = ![t.val, 0] ∧ win0_4.index t = ![t.val, 0])

theorem array : (dats m 0 c).arrAt 4 cfg0.N = (plus (m ((c.tc : Thread nD τ).loc main_arg3)) (times (gates 12288 room (m ((c.tc : Thread nD τ).loc main_arg1))) (rowsCols (m ((c.tc : Thread nD τ).loc main_arg0)) (m ((c.tc : Thread nD τ).loc main_arg2)))) : FVec Ideal S16512x1024 .f32) := by
  refine (dats m 0 c).arrAt_eq_of_covers 4 _ (by decide +kernel) fun t hf y => ?_
  blk_simp
  rw [after0_4]
  frame_out
  pointwise [k0_pay1]
  rw [add_comm]
  refine congrArg₂ (· + ·) ?_ (congrArg₂ (· * ·) (gate_of ?_) (Fin.sum_fin_congr fun k => congrArg₂ (· * ·) ?_ ?_))
    <;> blk_ext [iblk, V, index t]

theorem ref (y : FVec Ideal S16512x1024 .f32) (p : FVec Ideal S16512x14336 .f32) (w : FVec Ideal S1024x1024 .bf16) (a : FVec Ideal S16512x1024 .f32) :
    Cert.Reference28Ideal.Read.val_main_v10 (F := Ideal) y p w a = plus a (times (gates 12288 room p) (rowsCols y w)) := by
  funext i
  pointwise [Cert.Reference28Ideal.Read.val_main_v10, Cert.Reference28Ideal.Read.val_main_v9, Cert.Reference28Ideal.Read.val_main_v8, Cert.Reference28Ideal.Read.val_main_v7, Cert.Reference28Ideal.Read.val_main_v6, Cert.Reference28Ideal.Read.val_main_v5, Cert.Reference28Ideal.Read.val_main_v4, Cert.Reference28Ideal.Read.val_main_v3, Cert.Reference28Ideal.Read.val_main_v2, Cert.Reference28Ideal.Read.val_main_v1, Cert.Reference28Ideal.Read.val_main_v0, Cert.Reference28Ideal.Read.val_main_cst, Cert.Reference28Ideal.Read.val_main_cst_0, times, rowsCols, gates, gate, plus]

end Cert.Kernel28Ideal.Prod

namespace Cert.Proof

theorem quiescent28 : Cert.quiescent_Kernel28 (hKernel28 := Cert.Kernel28.Gen.facts) := fun m ρ _ => Cert.Kernel28.Gen.frame m ρ

theorem quiescent28_ideal : Cert.quiescent_Kernel28Ideal (hKernel28Ideal := Cert.Kernel28Ideal.Gen.facts) := fun m ρ _ =>
  Cert.Kernel28Ideal.Gen.frame m ρ

theorem quiescent28_reference : Cert.quiescent_Reference28Ideal (hReference28Ideal := Cert.Reference28Ideal.Gen.facts) := fun m ρ _ =>
  (θ_run Cert.Reference28Ideal.defs _ _).mono (fun r h => ⟨fun c => (h c).2, sem_eq_zero_of_no_sems (by decide) r.2⟩)
    (Cert.Reference28Ideal.Value.run (F := Ideal) m ρ)

theorem value28 : Cert.algebraic_Kernel28Ideal_Reference28Ideal (hKernel28Ideal := Cert.Kernel28Ideal.Gen.facts)
    (hReference28Ideal := Cert.Reference28Ideal.Gen.facts) := by
  intro m g m' g' _ same
  refine ⟨_, Cert.Kernel28Ideal.Value.run_blocks (F := Ideal) m g, ?_⟩
  refine (θ_run Cert.Reference28Ideal.defs _ _).mono (fun r k c => ?_) (Cert.Reference28Ideal.Value.run (F := Ideal) m' g')
  obtain ⟨e0, e1, e2, e3⟩ := same c
  exact ⟨((k c).1.trans (Cert.Reference28Ideal.Read.val_main_v10_eq _ _ _ _ )).trans ((congr (congr (congr (congrArg (Cert.Reference28Ideal.Read.val_main_v10 (F := Ideal)) e0) e1) e2) e3).trans
    ((Cert.Kernel28Ideal.Prod.ref _ _ _ _ ).trans (Cert.Kernel28Ideal.Prod.array m c).symm)), (k c).2⟩

end Cert.Proof

end
-- ==== Proof.Call29.lean ====
module

public import proofs.«01_k».proof.Defs
public import proofs.«01_k».proof.Proof.Products
public import proofs.«01_k».proof.Proof.Gen.Kernel29.Frame
public import proofs.«01_k».proof.Proof.Gen.Kernel29Ideal.Value
public import proofs.«01_k».proof.Proof.Gen.Reference29Ideal.Read

/-! The call `branch3`: branch 3 projected, gated and added to the branches before it. -/

@[expose] public section

set_option maxRecDepth 16384

noncomputable section

open Idealize.ShloMosaic Idealize.ShloMosaic.TcCoe Idealize.SL.Sem
open Idealize.ShloMosaic.Pipeline (Dat)
open Cert.Prod

namespace Cert.Kernel29Ideal.Prod
open Cert.Kernel29Ideal Cert.Kernel29Ideal.Gen

theorem room : 13312 + 1024 ≤ 14336 := by decide

variable (m : (ℓ : Loc nD τ sig) → Buf (Elt Ideal) ℓ) (c : Dev nD)

/-- Which block each window holds at a grid point. -/
theorem index : ∀ t : Fin cfg0.N, win0_0.index t = ![t.val, 0] ∧ win0_1.index t = ![t.val, 13] ∧ win0_2.index t = ![0, 0] ∧ win0_3.index t = ![t.val, 0] ∧ win0_4.index t = ![t.val, 0] :=
  (by decide +kernel : ∀ t : Fin grid0.N, win0_0.index t = ![t.val, 0] ∧ win0_1.index t = ![t.val, 13] ∧ win0_2.index t = ![0, 0] ∧ win0_3.index t = ![t.val, 0] ∧ win0_4.index t = ![t.val, 0])

theorem array : (dats m 0 c).arrAt 4 cfg0.N = (plus (m ((c.tc : Thread nD τ).loc main_arg3)) (times (gates 13312 room (m ((c.tc : Thread nD τ).loc main_arg1))) (rowsCols (m ((c.tc : Thread nD τ).loc main_arg0)) (m ((c.tc : Thread nD τ).loc main_arg2)))) : FVec Ideal S16512x1024 .f32) := by
  refine (dats m 0 c).arrAt_eq_of_covers 4 _ (by decide +kernel) fun t hf y => ?_
  blk_simp
  rw [after0_4]
  frame_out
  pointwise [k0_pay1]
  rw [add_comm]
  refine congrArg₂ (· + ·) ?_ (congrArg₂ (· * ·) (gate_of ?_) (Fin.sum_fin_congr fun k => congrArg₂ (· * ·) ?_ ?_))
    <;> blk_ext [iblk, V, index t]

theorem ref (y : FVec Ideal S16512x1024 .f32) (p : FVec Ideal S16512x14336 .f32) (w : FVec Ideal S1024x1024 .bf16) (a : FVec Ideal S16512x1024 .f32) :
    Cert.Reference29Ideal.Read.val_main_v10 (F := Ideal) y p w a = plus a (times (gates 13312 room p) (rowsCols y w)) := by
  funext i
  pointwise [Cert.Reference29Ideal.Read.val_main_v10, Cert.Reference29Ideal.Read.val_main_v9, Cert.Reference29Ideal.Read.val_main_v8, Cert.Reference29Ideal.Read.val_main_v7, Cert.Reference29Ideal.Read.val_main_v6, Cert.Reference29Ideal.Read.val_main_v5, Cert.Reference29Ideal.Read.val_main_v4, Cert.Reference29Ideal.Read.val_main_v3, Cert.Reference29Ideal.Read.val_main_v2, Cert.Reference29Ideal.Read.val_main_v1, Cert.Reference29Ideal.Read.val_main_v0, Cert.Reference29Ideal.Read.val_main_cst, Cert.Reference29Ideal.Read.val_main_cst_0, times, rowsCols, gates, gate, plus]

end Cert.Kernel29Ideal.Prod

namespace Cert.Proof

theorem quiescent29 : Cert.quiescent_Kernel29 (hKernel29 := Cert.Kernel29.Gen.facts) := fun m ρ _ => Cert.Kernel29.Gen.frame m ρ

theorem quiescent29_ideal : Cert.quiescent_Kernel29Ideal (hKernel29Ideal := Cert.Kernel29Ideal.Gen.facts) := fun m ρ _ =>
  Cert.Kernel29Ideal.Gen.frame m ρ

theorem quiescent29_reference : Cert.quiescent_Reference29Ideal (hReference29Ideal := Cert.Reference29Ideal.Gen.facts) := fun m ρ _ =>
  (θ_run Cert.Reference29Ideal.defs _ _).mono (fun r h => ⟨fun c => (h c).2, sem_eq_zero_of_no_sems (by decide) r.2⟩)
    (Cert.Reference29Ideal.Value.run (F := Ideal) m ρ)

theorem value29 : Cert.algebraic_Kernel29Ideal_Reference29Ideal (hKernel29Ideal := Cert.Kernel29Ideal.Gen.facts)
    (hReference29Ideal := Cert.Reference29Ideal.Gen.facts) := by
  intro m g m' g' _ same
  refine ⟨_, Cert.Kernel29Ideal.Value.run_blocks (F := Ideal) m g, ?_⟩
  refine (θ_run Cert.Reference29Ideal.defs _ _).mono (fun r k c => ?_) (Cert.Reference29Ideal.Value.run (F := Ideal) m' g')
  obtain ⟨e0, e1, e2, e3⟩ := same c
  exact ⟨((k c).1.trans (Cert.Reference29Ideal.Read.val_main_v10_eq _ _ _ _ )).trans ((congr (congr (congr (congrArg (Cert.Reference29Ideal.Read.val_main_v10 (F := Ideal)) e0) e1) e2) e3).trans
    ((Cert.Kernel29Ideal.Prod.ref _ _ _ _ ).trans (Cert.Kernel29Ideal.Prod.array m c).symm)), (k c).2⟩

end Cert.Proof

end
-- ==== Proof.Offsets.lean ====
/- The side condition the kernel body checks of the first block to visit (`k0_chk1`), at the word 0: the loop's bounds,
   the two block offsets of a trip as arithmetic of the trip, and that the remainder loop makes no trip. -/
module

public import proofs.«01_k».proof.Proof.Gen.KernelIdeal

@[expose] public section

namespace Cert.KernelIdeal.Sb

open Idealize.ShloMosaic Idealize.SL.Sem

theorem zero_int : Affine.IsInt 0#32 0 := Affine.ofNat _ (by omega)
theorem w128_int : Affine.IsInt 128#32 128 := Affine.ofNat _ (by omega)
theorem w2_int : Affine.IsInt 2#32 2 := Affine.ofNat _ (by omega)
theorem w3_int : Affine.IsInt 3#32 3 := Affine.ofNat _ (by omega)
theorem one_int : Affine.IsInt 1#32 1 := Affine.ofNat _ (by omega)

/-- The last block of keys that query block `i` visits, by its word. -/
theorem top_int (i : grid0.Coords) (v : BitVec 32) (hv : Affine.IsInt v 0) :
    Affine.IsInt (k0_t1_loop i v).ub (3 * ((i 1).val : Int) + 4) ∧ Affine.IsInt (k0_t2_loop i v).ub (3 * ((i 1).val : Int) + 4)
      ∧ Affine.IsInt (k0_t2_loop i v).lb (3 * ((i 1).val : Int) + 4) := by
  have r : (i 1).val < 43 := (i 1).isLt
  have one : Affine.IsInt 1#32 (1) := Affine.ofNat _ (by omega)
  have a : Affine.IsInt (BitVec.ofNat 32 (i 1).val) (((i 1).val : Int)) := Affine.ofNat _ (by omega)
  have b : Affine.IsInt _ (((i 1).val : Int) + 1) := Affine.addi a one (by omega)
  have b3 : Affine.IsInt _ (3 * ((i 1).val : Int) + 3) := Affine.muli b w3_int (by omega)
  have b2 : Affine.IsInt _ (3 * ((i 1).val : Int) + 2) := Affine.subi b3 one (by omega)
  have b4 : Affine.IsInt _ (3 * ((i 1).val : Int) + 4) := Affine.addi b2 w2_int (by omega)
  have n : Affine.IsInt _ (3 * ((i 1).val : Int) + 4) := Affine.subi b4 hv (by omega)
  have q : Affine.IsInt _ (3 * ((i 1).val : Int) + 4) := Affine.divsi n one (by omega)
  have p : Affine.IsInt _ (3 * ((i 1).val : Int) + 4) := Affine.muli q one (by omega)
  have u : Affine.IsInt _ (3 * ((i 1).val : Int) + 4) := Affine.addi hv p (by omega)
  have u2 : Affine.IsInt _ (3 * ((i 1).val : Int) + 4) := Affine.addi hv n (by omega)
  exact ⟨u, u2, u⟩

/-- The main loop runs from block 0 over all the blocks, and the remainder loop makes no trip. -/
theorem loop_abs (i : grid0.Coords) : (k0_t1_loop i 0#32).OK ∧ (k0_t1_loop i 0#32).trips ≤ 130 ∧ (k0_t1_loop i 0#32).ub.toInt ≤ 130
    ∧ (k0_t2_loop i 0#32).OK ∧ (k0_t2_loop i 0#32).trips ≤ 0 := by
  have r : (i 1).val < 43 := (i 1).isLt
  obtain ⟨h, h2, h3⟩ := top_int i _ zero_int
  exact ⟨Affine.ok zero_int h one_int (by omega), Affine.trips_le zero_int h one_int _ (by omega), Affine.le_of h _ (by omega),
    Affine.ok h3 h2 one_int (by omega), Affine.trips_le h3 h2 one_int _ (by omega)⟩

theorem iv_int (i : grid0.Coords) (k : Fin (k0_t1_loop i 0#32).trips) : Affine.IsInt (Scf.iv 0#32 1#32 k) (k.val : Int) ∧ k.val ≤ 129 := by
  have r : k.val < 130 := Nat.lt_of_lt_of_le k.isLt (loop_abs i).2.1
  exact ⟨Affine.iv zero_int one_int k.val (by omega), by omega⟩

theorem mult1_int (i : grid0.Coords) (k : Fin (k0_t1_loop i 0#32).trips) :
    Affine.IsInt (k0_mult1 i 0#32 k) (128 * (min 128 (k.val : Int))) := by
  obtain ⟨h, r⟩ := iv_int i k
  have a : Affine.IsInt _ ((k.val : Int)) := Affine.maxsi zero_int h (by omega)
  have b : Affine.IsInt _ ((min 128 (k.val : Int))) := Affine.minsi w128_int a (by omega)
  have c : Affine.IsInt _ (128 * (min 128 (k.val : Int))) := Affine.muli b w128_int (by omega)
  exact c

theorem mult2_int (i : grid0.Coords) (k : Fin (k0_t1_loop i 0#32).trips) :
    Affine.IsInt (k0_mult2 i 0#32 k) (128 * (max 0 ((k.val : Int) - 1))) := by
  obtain ⟨h, r⟩ := iv_int i k
  have a : Affine.IsInt _ ((k.val : Int) - 1) := Affine.subi h one_int (by omega)
  have b : Affine.IsInt _ (max 0 ((k.val : Int) - 1)) := Affine.maxsi zero_int a (by omega)
  have c : Affine.IsInt _ (max 0 ((k.val : Int) - 1)) := Affine.minsi w128_int b (by omega)
  have d : Affine.IsInt _ (128 * (max 0 ((k.val : Int) - 1))) := Affine.muli c w128_int (by omega)
  exact d

/-- The rows of the block read ahead in trip `k`. -/
theorem off2_eq (i : grid0.Coords) (k : Fin (k0_t1_loop i 0#32).trips) : k0_off2 i 0#32 k = ![128 * min 128 k.val, 0] := by
  have r := (iv_int i k).2
  have c : Affine.IsInt _ (128 * (min 128 (k.val : Int))) := Affine.indexCast (mult1_int i k)
  exact Affine.vec_cons c (by omega) <| Affine.vec_cons (Affine.ofNat 0 (by omega) : Affine.IsInt 0#32 0) (by omega) <| Affine.vec_nil

/-- The rows of the block trip `k` finishes, one block behind. -/
theorem off3_eq (i : grid0.Coords) (k : Fin (k0_t1_loop i 0#32).trips) : k0_off3 i 0#32 k = ![128 * (k.val - 1), 0] := by
  have r := (iv_int i k).2
  have c : Affine.IsInt _ (128 * (max 0 ((k.val : Int) - 1))) := Affine.indexCast (mult2_int i k)
  exact Affine.vec_cons c (by omega) <| Affine.vec_cons (Affine.ofNat 0 (by omega) : Affine.IsInt 0#32 0) (by omega) <| Affine.vec_nil

/-- The body's side condition holds of the word 0. -/
theorem chk_zero (i : grid0.Coords) : k0_chk1 i 0#32 := by
  have none : ∀ k : Fin (k0_t2_loop i 0#32).trips, False := fun k =>
    absurd k.isLt (Nat.not_lt.2 (Nat.le_trans (loop_abs i).2.2.2.2 (Nat.zero_le _)))
  refine ⟨(loop_abs i).1, fun k => ?_, fun k a => ?_, fun k => ?_, fun k a => ?_, (loop_abs i).2.2.2.1,
    fun k => (none k).elim, fun k => (none k).elim, fun k => (none k).elim, fun k => (none k).elim⟩
  · have r := (iv_int i k).2
    exact Affine.dvd_of (mult1_int i k) 128 (by omega)
  · have r := (iv_int i k).2
    rw [off2_eq]
    fin_cases a <;> simp [Shape.size, S128x128, S16512x128] <;> omega
  · have r := (iv_int i k).2
    exact Affine.dvd_of (mult2_int i k) 128 (by omega)
  · have r := (iv_int i k).2
    rw [off3_eq]
    fin_cases a <;> simp [Shape.size, S128x128, S16512x128] <;> omega

/-- The main loop's number of trips. -/
theorem trips_eq (i : grid0.Coords) : (k0_t1_loop i 0#32).trips = 3 * (i 1).val + 4 := by
  obtain ⟨h, -, -⟩ := top_int i _ zero_int
  have h0 := zero_int
  have h1 := one_int
  unfold Affine.IsInt at h h0 h1
  show Scf.trips (0#32) (k0_t1_loop i 0#32).ub 1#32 = _
  unfold Scf.trips
  rw [h, h0, h1]
  simp only [Int.ediv_one]
  omega

theorem trips2_eq (i : grid0.Coords) : (k0_t2_loop i 0#32).trips = 0 := Nat.le_zero.mp (loop_abs i).2.2.2.2

end Cert.KernelIdeal.Sb

end
-- ==== Proof.Points.lean ====
/- Where the body takes its branch, and the staging memrefs of the windows at a grid point. -/
module

public import proofs.«01_k».proof.Proof.Offsets
public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev isFirst (i : grid0.Coords) : Prop := (Scalar.cmpi .ne (Scalar.extui (Scalar.cmpi .eq (BitVec.ofNat 32 (i 1).val) 0#32)) 0#32) = 1#1
/-- It holds at the points ≡ 0 (mod 43) — by arithmetic of the point. -/
theorem isFirst_iff : ∀ t : Fin cfg0.N, isFirst (grid0.coords t) ↔ t.val % 43 = 0 :=
  (fun t => by
    have ht : t.val < 344 := Nat.lt_of_lt_of_eq t.isLt N_0
    have e0 : (grid0.coords t 0).val = t.val / 43 % 8 := Pipeline.Grid.coords_val t 0 (by decide) rfl
    have e1 : (grid0.coords t 1).val = t.val / 1 % 43 := Pipeline.Grid.coords_val t 1 (by decide) rfl
    simp only [isFirst, e0, e1]
    word_cmp
   : ∀ t : Fin grid0.N, isFirst (grid0.coords t) ↔ t.val % 43 = 0)

abbrev out6 : View sig .tc .vmem S384x128 .f32 := (Memref.whole cc0_stg6_0 : Memref sig .tc .vmem S384x128 .f32).view
abbrev out7 : View sig .tc .vmem S16512x128 .f32 := (Memref.whole cc0_stg7_0 : Memref sig .tc .vmem S16512x128 .f32).view
abbrev out8 : View sig .tc .vmem S16512x128 .f32 := (Memref.whole cc0_stg8_0 : Memref sig .tc .vmem S16512x128 .f32).view
/-- Each window's current staging memref at point `t`, spelled as the pipeline passes it (`bodyAt0`), and its wholeness. -/
abbrev ms0_0 (t : Fin cfg0.N) : Memref sig .tc .smem S8x43 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16512x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16512x128 .f32 := win0_8.stage (cfg0.slots t 8)
abbrev hs0_8 (t : Fin cfg0.N) : (ms0_8 t).IsWhole := hstage0_8 ((cfg0.slots t 8).cast nbuf0_8)

end Cert.KernelIdeal.Sb

end
-- ==== Proof.RunA.lean ====
/- The body run at the first query block of a head, which clears the two accumulators. -/
module

public import proofs.«01_k».proof.Proof.Points

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- What the body leaves in each output, as pieces, with the proof that it runs there; the word it reads of the first
    array must satisfy the condition it checks (`hw`). -/
noncomputable def runA (c : Dev nD) (i : grid0.Coords) (arg2 : Memref sig .tc .smem S8x43 .i32) (harg2 : arg2.IsWhole) (arg3 : Memref sig .tc .vmem S384x128 .bf16) (harg3 : arg3.IsWhole) (arg4 : Memref sig .tc .vmem S16512x128 .bf16) (harg4 : arg4.IsWhole) (arg5 : Memref sig .tc .vmem S16512x128 .bf16) (harg5 : arg5.IsWhole) (arg6 : Memref sig .tc .vmem S1x1x8x128 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S16512x128 .f32) (harg9 : arg9.IsWhole) (arg10 : Memref sig .tc .vmem S16512x128 .f32) (harg10 : arg10.IsWhole) (hc0 : isFirst i)
    (x0 : Vec F S8x43 .i32) (x1 : Vec F S384x128 .bf16) (x2 : Vec F S16512x128 .bf16) (x3 : Vec F S16512x128 .bf16) (x4 : Vec F S1x1x8x128 .f32) (x5 : Vec F S384x128 .f32) (hw : k0_chk1 i (arg2.view.readAt (Elt F) (Rect.unit (s := S8x43) (k0_off1 i) S1x1.size (k0_off1_inb i)).toLoadRect (harg2.unread x0) (Shape.Idx.first (numel1_S1x1.symm ▸ Nat.one_pos)))) :
    Σ' (L6 : List (View.Piece (Elt F) S384x128 .f32)), Σ' (L7 : List (View.Piece (Elt F) S16512x128 .f32)), { L8 : List (View.Piece (Elt F) S16512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_sb i arg2 harg2 arg3 harg3 arg4 harg4 arg5 harg5 arg6 harg6 arg7 harg7 arg8 harg8 arg9 harg9 arg10 harg10) K } := by
  refine ⟨?_, ?_, ?_, fun E K => ?run⟩
  case run =>
    simp only [cc0_sb_eq_skeleton]; unfold cc0_sb_skel
    simp only [k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hw)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.KernelIdeal.Sb

end
-- ==== Proof.RunB.lean ====
/- The body run at a later query block of a head, which adds to the accumulators it finds. -/
module

public import proofs.«01_k».proof.Proof.RunA

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- What the body leaves in each output, as pieces, with the proof that it runs there; the word it reads of the first
    array must satisfy the condition it checks (`hw`). -/
noncomputable def runB (c : Dev nD) (i : grid0.Coords) (arg2 : Memref sig .tc .smem S8x43 .i32) (harg2 : arg2.IsWhole) (arg3 : Memref sig .tc .vmem S384x128 .bf16) (harg3 : arg3.IsWhole) (arg4 : Memref sig .tc .vmem S16512x128 .bf16) (harg4 : arg4.IsWhole) (arg5 : Memref sig .tc .vmem S16512x128 .bf16) (harg5 : arg5.IsWhole) (arg6 : Memref sig .tc .vmem S1x1x8x128 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S16512x128 .f32) (harg9 : arg9.IsWhole) (arg10 : Memref sig .tc .vmem S16512x128 .f32) (harg10 : arg10.IsWhole) (hc0 : ¬isFirst i)
    (x0 : Vec F S8x43 .i32) (x1 : Vec F S384x128 .bf16) (x2 : Vec F S16512x128 .bf16) (x3 : Vec F S16512x128 .bf16) (x4 : Vec F S1x1x8x128 .f32) (x5 : Vec F S384x128 .f32) (hw : k0_chk1 i (arg2.view.readAt (Elt F) (Rect.unit (s := S8x43) (k0_off1 i) S1x1.size (k0_off1_inb i)).toLoadRect (harg2.unread x0) (Shape.Idx.first (numel1_S1x1.symm ▸ Nat.one_pos)))) (xo7 : Vec F S16512x128 .f32) (xo8 : Vec F S16512x128 .f32) :
    Σ' (L6 : List (View.Piece (Elt F) S384x128 .f32)), Σ' (L7 : List (View.Piece (Elt F) S16512x128 .f32)), { L8 : List (View.Piece (Elt F) S16512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xo7) L7) ∗ (arg10.view.loc (c : Thread nD τ) ↦[arg10.view.set]{fullShare} arg10.view.writes (Elt F) (harg10.unread xo8) L8)) -∗ K ⟨⟩))
          ⊢ wp frame (wpE (defs₀ (F := F)) Variants.none c none) E (cc0_sb i arg2 harg2 arg3 harg3 arg4 harg4 arg5 harg5 arg6 harg6 arg7 harg7 arg8 harg8 arg9 harg9 arg10 harg10) K } := by
  refine ⟨?_, ?_, ?_, fun E K => ?run⟩
  case run =>
    simp only [cc0_sb_eq_skeleton]; unfold cc0_sb_skel
    simp only [k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hw)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexact H7
    iexact H8

end Cert.KernelIdeal.Sb

end
-- ==== Proof.Host.lean ====
/- What the arrays prepared on the host hold when the region is entered. -/
module

public import proofs.«01_k».proof.Proof.Points
public import Idealize.ShloMosaic.Lib.Claim
public import Idealize.ShloMosaic.Lib.StableHlo.RunRead

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The array of first blocks is the zero constant broadcast. -/
theorem V_first (c : Dev nD) : V m c main_v26 = broadcastInDim S8x43 ![] bcast_S_S8x43 (constantI S_ 32 0#32) := by
  unfold V
  simp only [List.flatten_cons, List.flatten_nil, List.append_nil, List.cons_append, List.nil_append]
  after_reads_simp

theorem word_zero (c : Dev nD) (t : Fin cfg0.N) (j : S8x43.Idx) : iblk m c 0 t j = 0#32 := by
  unfold iblk
  rw [show V m c (Pipeline.arrRef spec0 0) = _ from V_first m c]
  rfl

end Cert.KernelIdeal.Sb

end
-- ==== Proof.Body.lean ====
/- The pipeline's proof data: what the three outputs hold after each grid point, the body at a point, and the run of the
   whole program, from which the frame follows. -/
module

public import proofs.«01_k».proof.Proof.RunB
public import proofs.«01_k».proof.Proof.Host
public import Idealize.ShloMosaic.Lib.Claim

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Covers
variable (c : Dev nD) (i : grid0.Coords) (arg2 : Memref sig .tc .smem S8x43 .i32) (harg2 : arg2.IsWhole) (arg3 : Memref sig .tc .vmem S384x128 .bf16) (harg3 : arg3.IsWhole) (arg4 : Memref sig .tc .vmem S16512x128 .bf16) (harg4 : arg4.IsWhole) (arg5 : Memref sig .tc .vmem S16512x128 .bf16) (harg5 : arg5.IsWhole) (arg6 : Memref sig .tc .vmem S1x1x8x128 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S16512x128 .f32) (harg9 : arg9.IsWhole) (arg10 : Memref sig .tc .vmem S16512x128 .f32) (harg10 : arg10.IsWhole)
  (x0 : Vec F S8x43 .i32) (x1 : Vec F S384x128 .bf16) (x2 : Vec F S16512x128 .bf16) (x3 : Vec F S16512x128 .bf16) (x4 : Vec F S1x1x8x128 .f32) (x5 : Vec F S384x128 .f32)
  (hw : k0_chk1 i (arg2.view.readAt (Elt F) (Rect.unit (s := S8x43) (k0_off1 i) S1x1.size (k0_off1_inb i)).toLoadRect (harg2.unread x0) (Shape.Idx.first (numel1_S1x1.symm ▸ Nat.one_pos))))

/-- The first block's three stores cover the block of the first output, -/
theorem coverA6 (hc0 : isFirst i) (y : S384x128.Idx) : ∃ pc ∈ (runA c i arg2 harg2 arg3 harg3 arg4 harg4 arg5 harg5 arg6 harg6 arg7 harg7 arg8 harg8 arg9 harg9 arg10 harg10 hc0 x0 x1 x2 x3 x4 x5 hw).1, y ∈ pc.1.set :=
  View.cover_of_tiledL (runA c i arg2 harg2 arg3 harg3 arg4 harg4 arg5 harg5 arg6 harg6 arg7 harg7 arg8 harg8 arg9 harg9 arg10 harg10 hc0 x0 x1 x2 x3 x4 x5 hw).1 S128x128.size (by sl_kernel_rfl) y
/-- and the clearing store covers each accumulator. -/
theorem coverA7 (hc0 : isFirst i) (y : S16512x128.Idx) : ∃ pc ∈ (runA c i arg2 harg2 arg3 harg3 arg4 harg4 arg5 harg5 arg6 harg6 arg7 harg7 arg8 harg8 arg9 harg9 arg10 harg10 hc0 x0 x1 x2 x3 x4 x5 hw).2.1, y ∈ pc.1.set :=
  View.cover_of_wholeMem (runA c i arg2 harg2 arg3 harg3 arg4 harg4 arg5 harg5 arg6 harg6 arg7 harg7 arg8 harg8 arg9 harg9 arg10 harg10 hc0 x0 x1 x2 x3 x4 x5 hw).2.1 (by sl_whole_mem) y
theorem coverA8 (hc0 : isFirst i) (y : S16512x128.Idx) : ∃ pc ∈ (runA c i arg2 harg2 arg3 harg3 arg4 harg4 arg5 harg5 arg6 harg6 arg7 harg7 arg8 harg8 arg9 harg9 arg10 harg10 hc0 x0 x1 x2 x3 x4 x5 hw).2.2.1, y ∈ pc.1.set :=
  View.cover_of_wholeMem (runA c i arg2 harg2 arg3 harg3 arg4 harg4 arg5 harg5 arg6 harg6 arg7 harg7 arg8 harg8 arg9 harg9 arg10 harg10 hc0 x0 x1 x2 x3 x4 x5 hw).2.2.1 (by sl_whole_mem) y
/-- A later block's three stores cover the block of the first output. -/
theorem coverB6 (hc0 : ¬isFirst i) (xo7 xo8 : Vec F S16512x128 .f32) (y : S384x128.Idx) :
    ∃ pc ∈ (runB c i arg2 harg2 arg3 harg3 arg4 harg4 arg5 harg5 arg6 harg6 arg7 harg7 arg8 harg8 arg9 harg9 arg10 harg10 hc0 x0 x1 x2 x3 x4 x5 hw xo7 xo8).1, y ∈ pc.1.set :=
  View.cover_of_tiledL (runB c i arg2 harg2 arg3 harg3 arg4 harg4 arg5 harg5 arg6 harg6 arg7 harg7 arg8 harg8 arg9 harg9 arg10 harg10 hc0 x0 x1 x2 x3 x4 x5 hw xo7 xo8).1 S128x128.size (by sl_kernel_rfl) y
end Covers

variable (m : (ℓ : Loc nD τ sig) → Buf (Elt F) ℓ) (ρ : Dev nD → PrngReg)

/-- So the word the body reads satisfies the condition it checks. -/
theorem word_ok (c : Dev nD) (t : Fin cfg0.N) (i : grid0.Coords) (arg2 : Memref sig .tc .smem S8x43 .i32) (harg2 : arg2.IsWhole) :
    k0_chk1 i (arg2.view.readAt (Elt F) (Rect.unit (s := S8x43) (k0_off1 i) S1x1.size (k0_off1_inb i)).toLoadRect (harg2.unread (iblk m c 0 t)) (Shape.Idx.first (numel1_S1x1.symm ▸ Nat.one_pos))) := by
  rw [View.readAt_apply, harg2.read_unread, word_zero]
  exact chk_zero i

/-- The run at a point that opens a head, -/
def firstAt (c : Dev nD) (t : Fin cfg0.N) (h0 : t.val % 43 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((isFirst_iff t).mpr h0) (iblk m c 0 t) (iblk m c 1 t) (iblk m c 2 t) (iblk m c 3 t) (iblk m c 4 t) (iblk m c 5 t) (word_ok m c t _ _ _)
/-- and at any other, on what it finds in the accumulators. -/
def laterAt (c : Dev nD) (t : Fin cfg0.N) (h0 : ¬t.val % 43 = 0) (xo7 xo8 : Vec F S16512x128 .f32) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((isFirst_iff t).mp h)) (iblk m c 0 t) (iblk m c 1 t) (iblk m c 2 t) (iblk m c 3 t) (iblk m c 4 t) (iblk m c 5 t) (word_ok m c t _ _ _) xo7 xo8

theorem cover_first6 (c : Dev nD) (t : Fin cfg0.N) (h0 : t.val % 43 = 0) (y : S384x128.Idx) : ∃ pc ∈ (firstAt m c t h0).1, y ∈ pc.1.set :=
  coverA6 _ _ _ _ _ _ _ _ _ _ _ _ _ _ _ _ _ _ _ _ _ _ _ _ _ _ _ _ y
theorem cover_first7 (c : Dev nD) (t : Fin cfg0.N) (h0 : t.val % 43 = 0) (y : S16512x128.Idx) : ∃ pc ∈ (firstAt m c t h0).2.1, y ∈ pc.1.set :=
  coverA7 _ _ _ _ _ _ _ _ _ _ _ _ _ _ _ _ _ _ _ _ _ _ _ _ _ _ _ _ y
theorem cover_first8 (c : Dev nD) (t : Fin cfg0.N) (h0 : t.val % 43 = 0) (y : S16512x128.Idx) : ∃ pc ∈ (firstAt m c t h0).2.2.1, y ∈ pc.1.set :=
  coverA8 _ _ _ _ _ _ _ _ _ _ _ _ _ _ _ _ _ _ _ _ _ _ _ _ _ _ _ _ y
theorem cover_later6 (c : Dev nD) (t : Fin cfg0.N) (h0 : ¬t.val % 43 = 0) (xo7 xo8 : Vec F S16512x128 .f32) (y : S384x128.Idx) :
    ∃ pc ∈ (laterAt m c t h0 xo7 xo8).1, y ∈ pc.1.set :=
  coverB6 _ _ _ _ _ _ _ _ _ _ _ _ _ _ _ _ _ _ _ _ _ _ _ _ _ _ _ _ _ _ y

/-- What a point that opens a head leaves in the three outputs' staging buffers, -/
def outA (c : Dev nD) (t : Fin cfg0.N) (h0 : t.val % 43 = 0) : Vec F S384x128 .f32 × Vec F S16512x128 .f32 × Vec F S16512x128 .f32 :=
  (out6.read (Elt F) (out6.writes (Elt F) out6.junk (firstAt m c t h0).1),
    out7.read (Elt F) (out7.writes (Elt F) out7.junk (firstAt m c t h0).2.1),
    out8.read (Elt F) (out8.writes (Elt F) out8.junk (firstAt m c t h0).2.2.1))
/-- and what any other point leaves there. -/
def outB (c : Dev nD) (t : Fin cfg0.N) (h0 : ¬t.val % 43 = 0) (xo7 xo8 : Vec F S16512x128 .f32) :
    Vec F S384x128 .f32 × Vec F S16512x128 .f32 × Vec F S16512x128 .f32 :=
  (out6.read (Elt F) (out6.writes (Elt F) out6.junk (laterAt m c t h0 xo7 xo8).1),
    (ms0_7 t).view.read (Elt F) ((ms0_7 t).view.writes (Elt F) ((hs0_7 t).unread xo7) (laterAt m c t h0 xo7 xo8).2.1),
    (ms0_8 t).view.read (Elt F) ((ms0_8 t).view.writes (Elt F) ((hs0_8 t).unread xo8) (laterAt m c t h0 xo7 xo8).2.2.1))

/-- The accumulation over the grid's points, in order. -/
def outsAt (c : Dev nD) : (n : ℕ) → n < cfg0.N → Vec F S384x128 .f32 × Vec F S16512x128 .f32 × Vec F S16512x128 .f32
  | 0, hn => outA m c ⟨0, hn⟩ (Nat.zero_mod _)
  | n + 1, hn =>
    if h0 : (n + 1) % 43 = 0 then outA m c ⟨n + 1, hn⟩ h0
    else outB m c ⟨n + 1, hn⟩ h0 (outsAt c n (Nat.lt_of_succ_lt hn)).2.1 (outsAt c n (Nat.lt_of_succ_lt hn)).2.2

theorem outsAt_first (c : Dev nD) (t : Fin cfg0.N) (h0 : t.val % 43 = 0) : outsAt m c t.val t.isLt = outA m c t h0 := by
  obtain ⟨n, hn⟩ := t
  cases n with
  | zero => rfl
  | succ n => exact (dif_pos h0).trans rfl

theorem outsAt_later (c : Dev nD) (t : Fin cfg0.N) (h0 : ¬t.val % 43 = 0) :
    outsAt m c t.val t.isLt = outB m c t h0 (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact absurd (Nat.zero_mod _) h0
  | succ n => exact (dif_neg h0).trans rfl

/-- The proof data of the one pipeline on core `c`: the arrays as the region finds them (`V`); after the body at
    point `t` each input's buffer at its block and the outputs' at `outsAt`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt m c t.val t.isLt).1 := by dsimp only [dats]
theorem after0_7 (c : Dev nD) (t : Fin cfg0.N) : (dats m 0 c).after 7 t = (outsAt m c t.val t.isLt).2.1 := by dsimp only [dats]
theorem after0_8 (c : Dev nD) (t : Fin cfg0.N) : (dats m 0 c).after 8 t = (outsAt m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 43 = 0) (d) :
    (dats m 0 c).before 7 t d = (outsAt m c (t.val - 1) (Nat.lt_of_le_of_lt (Nat.sub_le _ _) t.isLt)).2.1 := by
  have hN : t.val < 344 := lt_of_lt_of_eq t.isLt (show cfg0.N = 344 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 43 = 0) (d) :
    (dats m 0 c).before 8 t d = (outsAt m c (t.val - 1) (Nat.lt_of_le_of_lt (Nat.sub_le _ _) t.isLt)).2.2 := by
  have hN : t.val < 344 := lt_of_lt_of_eq t.isLt (show cfg0.N = 344 from N_0)
  rw [Dat.before_out_kept _ 8 rfl t (by omega) (Bool.eq_false_iff.mpr fun h => by have := (flush0_8 _).mp h; dsimp only at this; omega)
    (fun _ => rfl) (fun _ _ => rfl)]
  dsimp only [dats]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 344 := lt_of_lt_of_eq t.isLt (show cfg0.N = 344 from N_0)
  by_cases h0 : t.val % 43 = 0
  · rw [outsAt_first m c t h0]
    unfold outA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstAt m c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover_first6 m c t h0)
    isplitl [H7]
    · unfold owns; iexists _; isplitr
      swap; · iexact H7
      ipureintro; exact View.read_writes_of_cover _ _ _ _ _ (cover_first7 m c t h0)
    unfold owns; iexists _; isplitr
    swap; · iexact H8
    ipureintro; exact View.read_writes_of_cover _ _ _ _ _ (cover_first8 m c t h0)
  · rw [outsAt_later m c t h0]
    simp only [before0_7_B m c t h0, before0_8_B m c t h0]
    unfold outB; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((laterAt m c t h0 _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover_later6 m c t h0 _ _)
    isplitl [H7]
    · unfold owns; iexists _; isplitr
      swap; · iexact H7
      ipureintro; rfl
    unfold owns; iexists _; isplitr
    swap; · iexact H8
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame_shared`'s implicit arguments are found by unifying its conclusion with this one, which takes unfolding plain
-- definitions in a metavariable's type
set_option backward.isDefEq.respectTransparency.types false in
/-- The run of the program, every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run of the program to the contents the proof data give. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Sb

end
-- ==== Proof.Frames.lean ====
/- The three frames: the run of the idealized program is written over any interpretation of the floats, so it also gives the frame
   of the program as printed; the reference is a line of host operations. -/
module

public import proofs.«01_k».proof.Defs
public import proofs.«01_k».proof.Proof.Body
public import proofs.«01_k».proof.Proof.Gen.Kernel
public import proofs.«01_k».proof.Proof.Gen.KernelIdeal
public import proofs.«01_k».proof.Proof.Gen.ReferenceIdeal.Read
public import Idealize.ShloMosaic.Adequacy

@[expose] public section

noncomputable section

namespace Cert.Proof

open Idealize.ShloMosaic Idealize.SL.Sem

/-- The frame of the idealized program, its floats read as bits. -/
def frameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The two programs have one text, so the two frames are one statement. -/
theorem frame_same : Cert.quiescent_Kernel (hKernel := Cert.Kernel.Gen.facts) = frameAtBits := by
  sl_kernel_rfl

theorem frame_kernel : Cert.quiescent_Kernel (hKernel := Cert.Kernel.Gen.facts) :=
  frame_same.mpr fun m ρ _ => Cert.KernelIdeal.Sb.frame (F := Bits) m ρ

theorem frame_ideal : Cert.quiescent_KernelIdeal (hKernelIdeal := Cert.KernelIdeal.Gen.facts) := fun m ρ _ =>
  Cert.KernelIdeal.Sb.frame (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof

end
-- ==== Proof.Step.lean ====
/- One trip of the sweep over the key blocks, in plain vector operations: the same lines for each of the three blocks of queries. -/
module

public import proofs.«01_k».proof.Proof.Offsets
public import proofs.«01_k».proof.Proof.Gen.KernelIdeal.Loops

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- A block of 128 keys (rows) by 128 queries (lanes), -/
abbrev Blk (F : FTy → Type) := FVec F S128x128 .f32
/-- one number per query, -/
abbrev Row (F : FTy → Type) := FVec F S1x128 .f32
/-- and a block in the short format. -/
abbrev Half (F : FTy → Type) := FVec F S128x128 .bf16

/-- What the sweep carries: for the block before, the logarithms of the gates, the products of the cotangent with the values, the
    sums over the later keys and over all keys; then the sums over the blocks before that one, and the gradient of the queries. -/
abbrev Carried (F : FTy → Type) :=
  Blk F × Blk F × Blk F × Blk F × Blk F × Blk F × Blk F × Blk F × Blk F × Row F × Row F × Row F × Row F × Row F × Row F × Row F × Row F × Row F × Blk F × Blk F × Blk F

/-- key − query within a block, and key. -/
def diff : IVec S128x128 32 := subi (iota .tc S128x128 32 [0] iota_S128x128_d0_w32) (iota .tc S128x128 32 [1] iota_S128x128_d1_w32)
def keyIdx : IVec S128x128 32 := iota .tc S128x128 32 [0] iota_S128x128_d0_w32

/-- The keys of block `b` that a query of block `r` of the three looks at. -/
def seen (a1 r b : BitVec 32) : IVec S128x128 1 :=
  andi (cmpi .slt diff (broadcast S128x128 (Scalar.muli (Scalar.subi (Scalar.addi (Scalar.muli a1 3#32) r) b) 128#32)))
    (cmpi .sge keyIdx (broadcast S128x128 (Scalar.subi 112#32 (Scalar.muli b 128#32))))

def zeros : Blk F := broadcast S128x128 (Scalar.ofBits .f32 0x00000000#32)
def ones : Blk F := broadcast S128x128 (Scalar.ofBits .f32 0x3F800000#32)
def scale : Blk F := broadcast S128x128 (Scalar.ofBits .f32 0x3DB504F3#32)

def scores (kb qb : Half F) : Blk F :=
  mulf (matmul dot_S128x128_S128x128_S128x128_1_1_0_0_n_n none kb qb (constant S128x128 .f32 0x00000000#32)) scale
def pair (vb gb : Half F) : Blk F := matmul dot_S128x128_S128x128_S128x128_1_1_0_0_n_n none vb gb (constant S128x128 .f32 0x00000000#32)
def logGate (z : Blk F) : Blk F := subf (minimumf z zeros) (log (addf ones (exp (subf zeros (absf z)))))
def logKeep (s : IVec S128x128 1) (l z : Blk F) : Blk F := select s (subf l z) zeros

/-- A block over itself less its short form: the two summed give the block. -/
def stacked (x : Blk F) : FVec F S256x128 .bf16 :=
  concatenate S256x128 0 [⟨S128x128, truncf .bf16 x bitsLt_bf16_f32⟩, ⟨S128x128, truncf .bf16 (subf x (extf .f32 (truncf .bf16 x bitsLt_bf16_f32) bitsLt_bf16_f32)) bitsLt_bf16_f32⟩] concatenates_S128x128_S128x128_S256x128_d0
/-- The matrices that sum over the later keys and over the earlier keys, twice side by side. -/
def twice (c : IVec S128x128 1) : FVec F S128x256 .bf16 :=
  concatenate S128x256 1 [⟨S128x128, truncf .bf16 (sitofp .f32 (extui 32 c natLt_1_32)) bitsLt_bf16_f32⟩, ⟨S128x128, truncf .bf16 (sitofp .f32 (extui 32 c natLt_1_32)) bitsLt_bf16_f32⟩] concatenates_S128x128_S128x128_S128x256_d1
def later : FVec F S128x256 .bf16 :=
  twice (cmpi .sgt (iota .tc S128x128 32 [1] iota_S128x128_d1_w32) (iota .tc S128x128 32 [0] iota_S128x128_d0_w32))
def earlier : FVec F S128x256 .bf16 :=
  twice (cmpi .slt (iota .tc S128x128 32 [1] iota_S128x128_d1_w32) (iota .tc S128x128 32 [0] iota_S128x128_d0_w32))
def keySums (w : FVec F S128x256 .bf16) (x : Blk F) : Blk F :=
  matmul dot_S128x256_S256x128_S128x128_1_0_0_1_n_n none w (stacked x) (constant S128x128 .f32 0x00000000#32)

def firstRow (x : Blk F) : Row F := extractStridedSlice S1x128 ![0, 0] x slices_S128x128_o0_0_S1x128
def lastRow (x : Blk F) : Row F := extractStridedSlice S1x128 ![127, 0] x slices_S128x128_o127_0_S1x128

/-- The weights of a block's keys, -/
def weights (s : IVec S128x128 1) (l suf : Blk F) (a p : Row F) : Blk F :=
  select s (exp (addf (addf l (broadcastTo S128x128 (subf a p) broadcasts_S1x128_S128x128)) suf)) zeros
/-- and the gradient of its scores. -/
def gradScores (s : IVec S128x128 1) (e pre sg : Blk F) (er : Row F) : Half F :=
  truncf .bf16 (mulf (subf (mulf e (subf ones sg)) (select s (mulf (addf (broadcastTo S128x128 er broadcasts_S1x128_S128x128) pre) sg) zeros)) scale) bitsLt_bf16_f32
def gradQuery (q : Blk F) (dz kb : Half F) : Blk F :=
  addf q (matmul dot_S128x128_S128x128_S128x128_0_0_1_1_n_n none dz kb (constant S128x128 .f32 0x00000000#32))
/-- A block of a key gradient and what the three blocks of queries add to it. -/
def gradKey (x : Blk F) (d0 d1 d2 : Half F) (y : FVec F S384x128 .bf16) : Blk F :=
  addf (shapeCast S128x128 x shapeCasts_S128x128_S128x128)
    (matmul dot_S128x384_S384x128_S128x128_1_0_0_1_n_n none (concatenate S128x384 1 [⟨S128x128, d0⟩, ⟨S128x128, d1⟩, ⟨S128x128, d2⟩] concatenates_S128x128_S128x128_S128x128_S128x384_d1) y (constant S128x128 .f32 0x00000000#32))

/-- One block of queries through one trip: the weights, the products with the cotangent, the gradient of the scores. -/
def wOf (a1 r b : BitVec 32) (l suf : Blk F) (a p t : Row F) : Blk F := weights (seen a1 r (Scalar.subi b 1#32)) l suf a (addf p t)
def eOf (a1 r b : BitVec 32) (l dw suf : Blk F) (a p t : Row F) : Blk F := mulf (wOf a1 r b l suf a p t) dw
def dzOf (a1 r b : BitVec 32) (l dw suf : Blk F) (a p t e : Row F) : Half F :=
  gradScores (seen a1 r (Scalar.subi b 1#32)) (eOf a1 r b l dw suf a p t) (keySums earlier (eOf a1 r b l dw suf a p t)) (exp l) e
def eNext (a1 r b : BitVec 32) (l dw suf : Blk F) (a p t e : Row F) : Row F :=
  addf (addf e (lastRow (keySums earlier (eOf a1 r b l dw suf a p t)))) (lastRow (eOf a1 r b l dw suf a p t))
def keepOf (a1 r b : BitVec 32) (kb qb : Half F) : Blk F := logKeep (seen a1 r b) (logGate (scores kb qb)) (scores kb qb)
def sufNext (a1 r b : BitVec 32) (kb qb : Half F) : Blk F := keySums later (keepOf a1 r b kb qb)
def totNext (a1 r b : BitVec 32) (kb qb : Half F) : Row F := addf (firstRow (sufNext a1 r b kb qb)) (firstRow (keepOf a1 r b kb qb))

/-- The carried values after a trip: `kb`, `vb` this trip's blocks of keys and values, `k1` the keys of the block before. -/
def next (a1 b : BitVec 32) (kb vb k1 : Half F) (q0 q1 q2 g0 g1 g2 : Half F) (a0 a1' a2 : Row F) : Carried F → Carried F
  | (l0, l1, l2, d0, d1, d2, s0, s1, s2, t0, t1, t2, p0, p1, p2, e0, e1, e2, x0, x1, x2) =>
    (logGate (scores kb q0), logGate (scores kb q1), logGate (scores kb q2), pair vb g0, pair vb g1, pair vb g2,
      sufNext a1 0#32 b kb q0, sufNext a1 1#32 b kb q1, sufNext a1 2#32 b kb q2,
      totNext a1 0#32 b kb q0, totNext a1 1#32 b kb q1, totNext a1 2#32 b kb q2,
      addf p0 t0, addf p1 t1, addf p2 t2,
      eNext a1 0#32 b l0 d0 s0 a0 p0 t0 e0, eNext a1 1#32 b l1 d1 s1 a1' p1 t1 e1, eNext a1 2#32 b l2 d2 s2 a2 p2 t2 e2,
      gradQuery x0 (dzOf a1 0#32 b l0 d0 s0 a0 p0 t0 e0) k1, gradQuery x1 (dzOf a1 1#32 b l1 d1 s1 a1' p1 t1 e1) k1,
      gradQuery x2 (dzOf a1 2#32 b l2 d2 s2 a2 p2 t2 e2) k1)
/-- The block of the key gradient it stores, -/
def nextK (a1 b : BitVec 32) (old : Blk F) (qs : FVec F S384x128 .bf16) (a0 a1' a2 : Row F) : Carried F → Blk F
  | (l0, l1, l2, d0, d1, d2, s0, s1, s2, t0, t1, t2, p0, p1, p2, e0, e1, e2, x0, x1, x2) =>
    gradKey old (dzOf a1 0#32 b l0 d0 s0 a0 p0 t0 e0) (dzOf a1 1#32 b l1 d1 s1 a1' p1 t1 e1) (dzOf a1 2#32 b l2 d2 s2 a2 p2 t2 e2) qs
/-- and of the value gradient. -/
def nextV (a1 b : BitVec 32) (old : Blk F) (gs : FVec F S384x128 .bf16) (a0 a1' a2 : Row F) : Carried F → Blk F
  | (l0, l1, l2, d0, d1, d2, s0, s1, s2, t0, t1, t2, p0, p1, p2, e0, e1, e2, x0, x1, x2) =>
    gradKey old (truncf .bf16 (wOf a1 0#32 b l0 s0 a0 p0 t0) bitsLt_bf16_f32) (truncf .bf16 (wOf a1 1#32 b l1 s1 a1' p1 t1) bitsLt_bf16_f32)
      (truncf .bf16 (wOf a1 2#32 b l2 s2 a2 p2 t2) bitsLt_bf16_f32) gs

section Trip
variable (𝒱 : Variants) (c : Dev nD) (bd : Option 𝒱.V) (i : grid0.Coords) (arg2 : Memref sig .tc .smem S8x43 .i32) (harg2 : arg2.IsWhole) (arg3 : Memref sig .tc .vmem S384x128 .bf16) (harg3 : arg3.IsWhole) (arg4 : Memref sig .tc .vmem S16512x128 .bf16) (harg4 : arg4.IsWhole) (arg5 : Memref sig .tc .vmem S16512x128 .bf16) (harg5 : arg5.IsWhole) (arg6 : Memref sig .tc .vmem S1x1x8x128 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S16512x128 .f32) (harg9 : arg9.IsWhole) (arg10 : Memref sig .tc .vmem S16512x128 .f32) (harg10 : arg10.IsWhole)
  (a1 v2 v5 : BitVec 32) (hw : k0_chk1 i v5) (v9 v10 v11 : Half F) (v13 v15 v17 : Half F) (v18 v20 : FVec F S384x128 .bf16) (v22 v24 : Row F)
  (v25 : Vec F S1x1x1x128 .f32) (X4 : BufTy.Contents (Elt F) arg4.view.ty) (X5 : BufTy.Contents (Elt F) arg5.view.ty) (k : Fin (k0_t1_loop i v5).trips)
  (acc : Carried F) (f9 : BufTy.Contents (Elt F) arg9.view.ty) (f10 : BufTy.Contents (Elt F) arg10.view.ty)

/-- The block of an array at this trip's block of keys, and at the block before. -/
abbrev here (i : grid0.Coords) (v5 : BitVec 32) (hw : k0_chk1 i v5) (k : Fin (k0_t1_loop i v5).trips) : LoadRect S16512x128 :=
  (Rect.unit (s := S16512x128) (k0_off2 i v5 k) S128x128.size (k0_off2_inb i v5 hw k)).toLoadRect
abbrev behind (i : grid0.Coords) (v5 : BitVec 32) (hw : k0_chk1 i v5) (k : Fin (k0_t1_loop i v5).trips) : Rect S16512x128 :=
  Rect.unit (s := S16512x128) (k0_off3 i v5 k) S128x128.size (k0_off3_inb i v5 hw k)

theorem trip_next :
    (trip_k0_t1 (F := F) 𝒱 c bd i arg2 harg2 arg3 harg3 arg4 harg4 arg5 harg5 arg6 harg6 arg7 harg7 arg8 harg8 arg9 harg9 arg10 harg10 a1 v2 v5 hw v9 v10 v11 v13 v15 v17 v18 v20 v22 v24 v25 keyIdx X4 X5 k).1 acc f9 f10
      = next a1 (Scf.iv v5 1#32 k) (arg4.view.readAt (Elt F) (here i v5 hw k) X4) (arg5.view.readAt (Elt F) (here i v5 hw k) X5)
          (arg4.view.readAt (Elt F) (behind i v5 hw k).toLoadRect X4) v9 v10 v11 v13 v15 v17 v22 v24 (shapeCast S1x128 v25 shapeCasts_S1x1x1x128_S1x128) acc := by
  unfold trip_k0_t1
  rfl

theorem trip_key :
    (trip_k0_t1 (F := F) 𝒱 c bd i arg2 harg2 arg3 harg3 arg4 harg4 arg5 harg5 arg6 harg6 arg7 harg7 arg8 harg8 arg9 harg9 arg10 harg10 a1 v2 v5 hw v9 v10 v11 v13 v15 v17 v18 v20 v22 v24 v25 keyIdx X4 X5 k).2.1 acc f9 f10
      = [⟨behind i v5 hw k, nextK a1 (Scf.iv v5 1#32 k) (arg9.view.readAt (Elt F) (behind i v5 hw k).toLoadRect f9) v18 v22 v24 (shapeCast S1x128 v25 shapeCasts_S1x1x1x128_S1x128) acc⟩] := by
  unfold trip_k0_t1
  rfl

theorem trip_value :
    (trip_k0_t1 (F := F) 𝒱 c bd i arg2 harg2 arg3 harg3 arg4 harg4 arg5 harg5 arg6 harg6 arg7 harg7 arg8 harg8 arg9 harg9 arg10 harg10 a1 v2 v5 hw v9 v10 v11 v13 v15 v17 v18 v20 v22 v24 v25 keyIdx X4 X5 k).2.2.1 acc f9 f10
      = [⟨behind i v5 hw k, nextV a1 (Scf.iv v5 1#32 k) (arg10.view.readAt (Elt F) (behind i v5 hw k).toLoadRect f10) v20 v22 v24 (shapeCast S1x128 v25 shapeCasts_S1x1x1x128_S1x128) acc⟩] := by
  unfold trip_k0_t1
  rfl
end Trip

end Cert.KernelIdeal.Sb

end
-- ==== Proof.Runs.lean ====
/- What the body leaves, in terms of the sweep: one sweep over the key blocks, and three stores of the query gradient. -/
module

public import proofs.«01_k».proof.Proof.Step
public import proofs.«01_k».proof.Proof.RunA
public import proofs.«01_k».proof.Proof.RunB

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The first carried values are the queries times 0. -/
def cleared (q : Half F) : Blk F := mulf (extf .f32 q bitsLt_bf16_f32) zeros
def opening (q0 q1 q2 : Half F) : Carried F :=
  (cleared q0, cleared q1, cleared q2, cleared q0, cleared q1, cleared q2, cleared q0, cleared q1, cleared q2,
    firstRow (cleared q0), firstRow (cleared q1), firstRow (cleared q2), firstRow (cleared q0), firstRow (cleared q1), firstRow (cleared q2),
    firstRow (cleared q0), firstRow (cleared q1), firstRow (cleared q2), cleared q0, cleared q1, cleared q2)

section Runs
variable (c : Dev nD) (i : grid0.Coords) (arg2 : Memref sig .tc .smem S8x43 .i32) (harg2 : arg2.IsWhole) (arg3 : Memref sig .tc .vmem S384x128 .bf16) (harg3 : arg3.IsWhole) (arg4 : Memref sig .tc .vmem S16512x128 .bf16) (harg4 : arg4.IsWhole) (arg5 : Memref sig .tc .vmem S16512x128 .bf16) (harg5 : arg5.IsWhole) (arg6 : Memref sig .tc .vmem S1x1x8x128 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S16512x128 .f32) (harg9 : arg9.IsWhole) (arg10 : Memref sig .tc .vmem S16512x128 .f32) (harg10 : arg10.IsWhole) (x0 : Vec F S8x43 .i32) (x1 : Vec F S384x128 .bf16) (x2 : Vec F S16512x128 .bf16) (x3 : Vec F S16512x128 .bf16) (x4 : Vec F S1x1x8x128 .f32) (x5 : Vec F S384x128 .f32)

/-- Rows of the block of queries, and of the block of the cotangent, -/
def q0 : Half F := arg3.view.readAt (Elt F) (Rect.unit (s := S384x128) ![0, 0] S128x128.size inb_S384x128_S128x128_0_0).toLoadRect (harg3.unread x1)
def q1 : Half F := arg3.view.readAt (Elt F) (Rect.unit (s := S384x128) ![128, 0] S128x128.size inb_S384x128_S128x128_128_0).toLoadRect (harg3.unread x1)
def q2 : Half F := arg3.view.readAt (Elt F) (Rect.unit (s := S384x128) ![256, 0] S128x128.size inb_S384x128_S128x128_256_0).toLoadRect (harg3.unread x1)
def qs : FVec F S384x128 .bf16 := arg3.view.readAt (Elt F) (Rect.unit (s := S384x128) ![0, 0] S384x128.size inb_S384x128_S384x128_0_0).toLoadRect (harg3.unread x1)
def g0 : Half F := truncf .bf16 (φ := .f32) (arg7.view.readAt (Elt F) (Rect.unit (s := S384x128) ![0, 0] S128x128.size inb_S384x128_S128x128_0_0).toLoadRect (harg7.unread x5)) bitsLt_bf16_f32
def g1 : Half F := truncf .bf16 (φ := .f32) (arg7.view.readAt (Elt F) (Rect.unit (s := S384x128) ![128, 0] S128x128.size inb_S384x128_S128x128_128_0).toLoadRect (harg7.unread x5)) bitsLt_bf16_f32
def g2 : Half F := truncf .bf16 (φ := .f32) (arg7.view.readAt (Elt F) (Rect.unit (s := S384x128) ![256, 0] S128x128.size inb_S384x128_S128x128_256_0).toLoadRect (harg7.unread x5)) bitsLt_bf16_f32
def gs : FVec F S384x128 .bf16 := truncf .bf16 (φ := .f32) (arg7.view.readAt (Elt F) (Rect.unit (s := S384x128) ![0, 0] S384x128.size inb_S384x128_S384x128_0_0).toLoadRect (harg7.unread x5)) bitsLt_bf16_f32
/-- and the three rows of totals. -/
def a0 : Vec F S1x1x1x128 .f32 := arg6.view.readAt (Elt F) (Rect.unit (s := S1x1x8x128) ![0, 0, 0, 0] S1x1x1x128.size inb_S1x1x8x128_S1x1x1x128_0_0_0_0).toLoadRect (harg6.unread x4)
def a1 : Vec F S1x1x1x128 .f32 := arg6.view.readAt (Elt F) (Rect.unit (s := S1x1x8x128) ![0, 0, 1, 0] S1x1x1x128.size inb_S1x1x8x128_S1x1x1x128_0_0_1_0).toLoadRect (harg6.unread x4)
def a2 : Vec F S1x1x1x128 .f32 := arg6.view.readAt (Elt F) (Rect.unit (s := S1x1x8x128) ![0, 0, 2, 0] S1x1x1x128.size inb_S1x1x8x128_S1x1x1x128_0_0_2_0).toLoadRect (harg6.unread x4)
abbrev asRow (a : Vec F S1x1x1x128 .f32) : Row F := shapeCast S1x128 a shapeCasts_S1x1x1x128_S1x128

/-- The sweep on contents `G9`, `G10` of the accumulators, after `k` trips; `v5` its first block. -/
def sweep (v5 : BitVec 32) (hw : k0_chk1 i v5) (G9 : BufTy.Contents (Elt F) arg9.view.ty) (G10 : BufTy.Contents (Elt F) arg10.view.ty) (k : ℕ) :
    Carried F × List (View.Piece (Elt F) S16512x128 .f32) × List (View.Piece (Elt F) S16512x128 .f32) :=
  st_k0_t1 (F := F) Variants.none c none i arg2 harg2 arg3 harg3 arg4 harg4 arg5 harg5 arg6 harg6 arg7 harg7 arg8 harg8 arg9 harg9 arg10 harg10 (BitVec.ofNat 32 (i 1).val) (Scalar.subi (Scalar.muli (Scalar.addi (BitVec.ofNat 32 (i 1).val) 1#32) 3#32) 1#32) v5 hw (q0 arg3 harg3 x1) (q1 arg3 harg3 x1) (q2 arg3 harg3 x1) (g0 arg7 harg7 x5) (g1 arg7 harg7 x5) (g2 arg7 harg7 x5) (qs arg3 harg3 x1) (gs arg7 harg7 x5)
    (asRow (a0 arg6 harg6 x4)) (asRow (a1 arg6 harg6 x4)) (a2 arg6 harg6 x4) keyIdx (harg4.unread x2) (harg5.unread x3) G9 G10 (opening (q0 arg3 harg3 x1) (q1 arg3 harg3 x1) (q2 arg3 harg3 x1)) k

def threeRows (x : Carried F) : List (View.Piece (Elt F) S384x128 .f32) :=
  [⟨Rect.unit (s := S384x128) ![256, 0] S128x128.size inb_S384x128_S128x128_256_0, x.2.2.2.2.2.2.2.2.2.2.2.2.2.2.2.2.2.2.2.2⟩,
    ⟨Rect.unit (s := S384x128) ![128, 0] S128x128.size inb_S384x128_S128x128_128_0, x.2.2.2.2.2.2.2.2.2.2.2.2.2.2.2.2.2.2.2.1⟩,
    ⟨Rect.unit (s := S384x128) ![0, 0] S128x128.size inb_S384x128_S128x128_0_0, x.2.2.2.2.2.2.2.2.2.2.2.2.2.2.2.2.2.2.1⟩]
abbrev allZero : List (View.Piece (Elt F) S16512x128 .f32) :=
  [⟨Rect.unit (s := S16512x128) ![0, 0] S16512x128.size inb_S16512x128_S16512x128_0_0, broadcast S16512x128 (Scalar.ofBits .f32 0x00000000#32)⟩]

/-- The remainder loop makes no trip when the sweep starts at block 0, -/
theorem rest_carried (v5 : BitVec 32) (hw : k0_chk1 i v5) (h : v5 = 0#32) v2 v62 v9 v10 v11 v13 v15 v17 v18 v20 v22 v24 v25 v44 X4 X5 G9 G10 init :
    st_k0_t2 (F := F) Variants.none c none i arg2 harg2 arg3 harg3 arg4 harg4 arg5 harg5 arg6 harg6 arg7 harg7 arg8 harg8 arg9 harg9 arg10 harg10 (BitVec.ofNat 32 (i 1).val) v2 v5 hw v9 v10 v11 v13 v15 v17 v18 v20 v22 v24 v25 v44 v62 X4 X5 G9 G10 init (k0_t2_loop i v5).trips = (init, [], []) := by
  subst h
  rw [trips2_eq]
  rfl

/-- the remainder loop after the sweep. -/
def rest (v5 : BitVec 32) (hw : k0_chk1 i v5) (G9 H9 : BufTy.Contents (Elt F) arg9.view.ty) (G10 H10 : BufTy.Contents (Elt F) arg10.view.ty) :
    Carried F × List (View.Piece (Elt F) S16512x128 .f32) × List (View.Piece (Elt F) S16512x128 .f32) :=
  st_k0_t2 (F := F) Variants.none c none i arg2 harg2 arg3 harg3 arg4 harg4 arg5 harg5 arg6 harg6 arg7 harg7 arg8 harg8 arg9 harg9 arg10 harg10 (BitVec.ofNat 32 (i 1).val) (Scalar.subi (Scalar.muli (Scalar.addi (BitVec.ofNat 32 (i 1).val) 1#32) 3#32) 1#32) v5 hw (q0 arg3 harg3 x1) (q1 arg3 harg3 x1) (q2 arg3 harg3 x1) (g0 arg7 harg7 x5) (g1 arg7 harg7 x5) (g2 arg7 harg7 x5) (qs arg3 harg3 x1) (gs arg7 harg7 x5)
    (asRow (a0 arg6 harg6 x4)) (asRow (a1 arg6 harg6 x4)) (a2 arg6 harg6 x4) keyIdx (Scalar.addi v5 (Scalar.muli (Scalar.divsi (Scalar.subi (Scalar.addi (Scalar.subi (Scalar.muli (Scalar.addi (BitVec.ofNat 32 (i 1).val) 1#32) 3#32) 1#32) 2#32) v5) 1#32) 1#32)) (harg4.unread x2) (harg5.unread x3)
    H9 H10
    (sweep c i arg2 harg2 arg3 harg3 arg4 harg4 arg5 harg5 arg6 harg6 arg7 harg7 arg8 harg8 arg9 harg9 arg10 harg10 x1 x2 x3 x4 x5 v5 hw G9 G10 (k0_t1_loop i v5).trips).1 (k0_t2_loop i v5).trips

theorem rest_eq (v5 : BitVec 32) (hw : k0_chk1 i v5) (h : v5 = 0#32) (G9 H9 : BufTy.Contents (Elt F) arg9.view.ty) (G10 H10 : BufTy.Contents (Elt F) arg10.view.ty) :
    rest c i arg2 harg2 arg3 harg3 arg4 harg4 arg5 harg5 arg6 harg6 arg7 harg7 arg8 harg8 arg9 harg9 arg10 harg10 x1 x2 x3 x4 x5 v5 hw G9 H9 G10 H10 = ((sweep c i arg2 harg2 arg3 harg3 arg4 harg4 arg5 harg5 arg6 harg6 arg7 harg7 arg8 harg8 arg9 harg9 arg10 harg10 x1 x2 x3 x4 x5 0#32 (chk_zero i) G9 G10 (3 * (i 1).val + 4)).1, [], []) := by
  subst h
  unfold rest
  rw [rest_carried c i arg2 harg2 arg3 harg3 arg4 harg4 arg5 harg5 arg6 harg6 arg7 harg7 arg8 harg8 arg9 harg9 arg10 harg10 _ hw rfl, trips_eq]

theorem sweep_eq (v5 : BitVec 32) (hw : k0_chk1 i v5) (h : v5 = 0#32) (G9 : BufTy.Contents (Elt F) arg9.view.ty) (G10 : BufTy.Contents (Elt F) arg10.view.ty) :
    sweep c i arg2 harg2 arg3 harg3 arg4 harg4 arg5 harg5 arg6 harg6 arg7 harg7 arg8 harg8 arg9 harg9 arg10 harg10 x1 x2 x3 x4 x5 v5 hw G9 G10 (k0_t1_loop i v5).trips = sweep c i arg2 harg2 arg3 harg3 arg4 harg4 arg5 harg5 arg6 harg6 arg7 harg7 arg8 harg8 arg9 harg9 arg10 harg10 x1 x2 x3 x4 x5 0#32 (chk_zero i) G9 G10 (3 * (i 1).val + 4) := by
  subst h
  rw [trips_eq]

/-- The word the body reads. -/
abbrev word : BitVec 32 := arg2.view.readAt (Elt F) (Rect.unit (s := S8x43) (k0_off1 i) S1x1.size (k0_off1_inb i)).toLoadRect (harg2.unread x0) (Shape.Idx.first (numel1_S1x1.symm ▸ Nat.one_pos))

section Later
variable (hc0 : ¬isFirst i) (hw : k0_chk1 i (word (F := F) i arg2 harg2 x0)) (xo7 xo8 : Vec F S16512x128 .f32)

theorem laterRaw6 : (runB c i arg2 harg2 arg3 harg3 arg4 harg4 arg5 harg5 arg6 harg6 arg7 harg7 arg8 harg8 arg9 harg9 arg10 harg10 hc0 x0 x1 x2 x3 x4 x5 hw xo7 xo8).1 = threeRows (rest c i arg2 harg2 arg3 harg3 arg4 harg4 arg5 harg5 arg6 harg6 arg7 harg7 arg8 harg8 arg9 harg9 arg10 harg10 x1 x2 x3 x4 x5 (word (F := F) i arg2 harg2 x0) hw (harg9.unread xo7) (arg9.view.writes (Elt F) (harg9.unread xo7) (sweep c i arg2 harg2 arg3 harg3 arg4 harg4 arg5 harg5 arg6 harg6 arg7 harg7 arg8 harg8 arg9 harg9 arg10 harg10 x1 x2 x3 x4 x5 (word (F := F) i arg2 harg2 x0) hw (harg9.unread xo7) (harg10.unread xo8) (k0_t1_loop i (word (F := F) i arg2 harg2 x0)).trips).2.1) (harg10.unread xo8) (arg10.view.writes (Elt F) (harg10.unread xo8) (sweep c i arg2 harg2 arg3 harg3 arg4 harg4 arg5 harg5 arg6 harg6 arg7 harg7 arg8 harg8 arg9 harg9 arg10 harg10 x1 x2 x3 x4 x5 (word (F := F) i arg2 harg2 x0) hw (harg9.unread xo7) (harg10.unread xo8) (k0_t1_loop i (word (F := F) i arg2 harg2 x0)).trips).2.2)).1 := by
  sl_kernel_rfl
theorem laterRaw7 : (runB c i arg2 harg2 arg3 harg3 arg4 harg4 arg5 harg5 arg6 harg6 arg7 harg7 arg8 harg8 arg9 harg9 arg10 harg10 hc0 x0 x1 x2 x3 x4 x5 hw xo7 xo8).2.1 = (rest c i arg2 harg2 arg3 harg3 arg4 harg4 arg5 harg5 arg6 harg6 arg7 harg7 arg8 harg8 arg9 harg9 arg10 harg10 x1 x2 x3 x4 x5 (word (F := F) i arg2 harg2 x0) hw (harg9.unread xo7) (arg9.view.writes (Elt F) (harg9.unread xo7) (sweep c i arg2 harg2 arg3 harg3 arg4 harg4 arg5 harg5 arg6 harg6 arg7 harg7 arg8 harg8 arg9 harg9 arg10 harg10 x1 x2 x3 x4 x5 (word (F := F) i arg2 harg2 x0) hw (harg9.unread xo7) (harg10.unread xo8) (k0_t1_loop i (word (F := F) i arg2 harg2 x0)).trips).2.1) (harg10.unread xo8) (arg10.view.writes (Elt F) (harg10.unread xo8) (sweep c i arg2 harg2 arg3 harg3 arg4 harg4 arg5 harg5 arg6 harg6 arg7 harg7 arg8 harg8 arg9 harg9 arg10 harg10 x1 x2 x3 x4 x5 (word (F := F) i arg2 harg2 x0) hw (harg9.unread xo7) (harg10.unread xo8) (k0_t1_loop i (word (F := F) i arg2 harg2 x0)).trips).2.2)).2.1
    ++ (sweep c i arg2 harg2 arg3 harg3 arg4 harg4 arg5 harg5 arg6 harg6 arg7 harg7 arg8 harg8 arg9 harg9 arg10 harg10 x1 x2 x3 x4 x5 (word (F := F) i arg2 harg2 x0) hw (harg9.unread xo7) (harg10.unread xo8) (k0_t1_loop i (word (F := F) i arg2 harg2 x0)).trips).2.1 := by
  sl_kernel_rfl
theorem laterRaw8 : (runB c i arg2 harg2 arg3 harg3 arg4 harg4 arg5 harg5 arg6 harg6 arg7 harg7 arg8 harg8 arg9 harg9 arg10 harg10 hc0 x0 x1 x2 x3 x4 x5 hw xo7 xo8).2.2.1 = (rest c i arg2 harg2 arg3 harg3 arg4 harg4 arg5 harg5 arg6 harg6 arg7 harg7 arg8 harg8 arg9 harg9 arg10 harg10 x1 x2 x3 x4 x5 (word (F := F) i arg2 harg2 x0) hw (harg9.unread xo7) (arg9.view.writes (Elt F) (harg9.unread xo7) (sweep c i arg2 harg2 arg3 harg3 arg4 harg4 arg5 harg5 arg6 harg6 arg7 harg7 arg8 harg8 arg9 harg9 arg10 harg10 x1 x2 x3 x4 x5 (word (F := F) i arg2 harg2 x0) hw (harg9.unread xo7) (harg10.unread xo8) (k0_t1_loop i (word (F := F) i arg2 harg2 x0)).trips).2.1) (harg10.unread xo8) (arg10.view.writes (Elt F) (harg10.unread xo8) (sweep c i arg2 harg2 arg3 harg3 arg4 harg4 arg5 harg5 arg6 harg6 arg7 harg7 arg8 harg8 arg9 harg9 arg10 harg10 x1 x2 x3 x4 x5 (word (F := F) i arg2 harg2 x0) hw (harg9.unread xo7) (harg10.unread xo8) (k0_t1_loop i (word (F := F) i arg2 harg2 x0)).trips).2.2)).2.2
    ++ (sweep c i arg2 harg2 arg3 harg3 arg4 harg4 arg5 harg5 arg6 harg6 arg7 harg7 arg8 harg8 arg9 harg9 arg10 harg10 x1 x2 x3 x4 x5 (word (F := F) i arg2 harg2 x0) hw (harg9.unread xo7) (harg10.unread xo8) (k0_t1_loop i (word (F := F) i arg2 harg2 x0)).trips).2.2 := by
  sl_kernel_rfl

variable (h : word (F := F) i arg2 harg2 x0 = 0#32)
include h
/-- So a later point leaves what the sweep leaves, -/
theorem later6 : (runB c i arg2 harg2 arg3 harg3 arg4 harg4 arg5 harg5 arg6 harg6 arg7 harg7 arg8 harg8 arg9 harg9 arg10 harg10 hc0 x0 x1 x2 x3 x4 x5 hw xo7 xo8).1
    = threeRows (sweep c i arg2 harg2 arg3 harg3 arg4 harg4 arg5 harg5 arg6 harg6 arg7 harg7 arg8 harg8 arg9 harg9 arg10 harg10 x1 x2 x3 x4 x5 0#32 (chk_zero i) (harg9.unread xo7) (harg10.unread xo8) (3 * (i 1).val + 4)).1 := by
  rw [laterRaw6, rest_eq c i arg2 harg2 arg3 harg3 arg4 harg4 arg5 harg5 arg6 harg6 arg7 harg7 arg8 harg8 arg9 harg9 arg10 harg10 x1 x2 x3 x4 x5 _ hw h]
theorem later7 : (runB c i arg2 harg2 arg3 harg3 arg4 harg4 arg5 harg5 arg6 harg6 arg7 harg7 arg8 harg8 arg9 harg9 arg10 harg10 hc0 x0 x1 x2 x3 x4 x5 hw xo7 xo8).2.1
    = (sweep c i arg2 harg2 arg3 harg3 arg4 harg4 arg5 harg5 arg6 harg6 arg7 harg7 arg8 harg8 arg9 harg9 arg10 harg10 x1 x2 x3 x4 x5 0#32 (chk_zero i) (harg9.unread xo7) (harg10.unread xo8) (3 * (i 1).val + 4)).2.1 := by
  rw [laterRaw7, rest_eq c i arg2 harg2 arg3 harg3 arg4 harg4 arg5 harg5 arg6 harg6 arg7 harg7 arg8 harg8 arg9 harg9 arg10 harg10 x1 x2 x3 x4 x5 _ hw h, sweep_eq c i arg2 harg2 arg3 harg3 arg4 harg4 arg5 harg5 arg6 harg6 arg7 harg7 arg8 harg8 arg9 harg9 arg10 harg10 x1 x2 x3 x4 x5 _ hw h]; rfl
theorem later8 : (runB c i arg2 harg2 arg3 harg3 arg4 harg4 arg5 harg5 arg6 harg6 arg7 harg7 arg8 harg8 arg9 harg9 arg10 harg10 hc0 x0 x1 x2 x3 x4 x5 hw xo7 xo8).2.2.1
    = (sweep c i arg2 harg2 arg3 harg3 arg4 harg4 arg5 harg5 arg6 harg6 arg7 harg7 arg8 harg8 arg9 harg9 arg10 harg10 x1 x2 x3 x4 x5 0#32 (chk_zero i) (harg9.unread xo7) (harg10.unread xo8) (3 * (i 1).val + 4)).2.2 := by
  rw [laterRaw8, rest_eq c i arg2 harg2 arg3 harg3 arg4 harg4 arg5 harg5 arg6 harg6 arg7 harg7 arg8 harg8 arg9 harg9 arg10 harg10 x1 x2 x3 x4 x5 _ hw h, sweep_eq c i arg2 harg2 arg3 harg3 arg4 harg4 arg5 harg5 arg6 harg6 arg7 harg7 arg8 harg8 arg9 harg9 arg10 harg10 x1 x2 x3 x4 x5 _ hw h]; rfl
end Later

section First
variable (hc0 : isFirst i) (hw : k0_chk1 i (word (F := F) i arg2 harg2 x0))

theorem firstRaw6 : (runA c i arg2 harg2 arg3 harg3 arg4 harg4 arg5 harg5 arg6 harg6 arg7 harg7 arg8 harg8 arg9 harg9 arg10 harg10 hc0 x0 x1 x2 x3 x4 x5 hw).1
    = threeRows (rest c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg9.view.writes (Elt F) arg9.view.junk ((sweep c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg10.view.writes (Elt F) arg10.view.junk allZero) (k0_t1_loop i (word (F := F) i arg2 harg2 x0)).trips).2.1 ++ allZero)) (arg10.view.writes (Elt F) arg10.view.junk allZero) (arg10.view.writes (Elt F) arg10.view.junk ((sweep c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg10.view.writes (Elt F) arg10.view.junk allZero) (k0_t1_loop i (word (F := F) i arg2 harg2 x0)).trips).2.2 ++ allZero))).1 := by
  sl_kernel_rfl
theorem firstRaw7 : (runA c i arg2 harg2 arg3 harg3 arg4 harg4 arg5 harg5 arg6 harg6 arg7 harg7 arg8 harg8 arg9 harg9 arg10 harg10 hc0 x0 x1 x2 x3 x4 x5 hw).2.1
    = (rest c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg9.view.writes (Elt F) arg9.view.junk ((sweep c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg10.view.writes (Elt F) arg10.view.junk allZero) (k0_t1_loop i (word (F := F) i arg2 harg2 x0)).trips).2.1 ++ allZero)) (arg10.view.writes (Elt F) arg10.view.junk allZero) (arg10.view.writes (Elt F) arg10.view.junk ((sweep c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg10.view.writes (Elt F) arg10.view.junk allZero) (k0_t1_loop i (word (F := F) i arg2 harg2 x0)).trips).2.2 ++ allZero))).2.1
      ++ ((sweep c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg10.view.writes (Elt F) arg10.view.junk allZero) (k0_t1_loop i (word (F := F) i arg2 harg2 x0)).trips).2.1 ++ allZero) := by
  sl_kernel_rfl
theorem firstRaw8 : (runA c i arg2 harg2 arg3 harg3 arg4 harg4 arg5 harg5 arg6 harg6 arg7 harg7 arg8 harg8 arg9 harg9 arg10 harg10 hc0 x0 x1 x2 x3 x4 x5 hw).2.2.1
    = (rest c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg9.view.writes (Elt F) arg9.view.junk ((sweep c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg10.view.writes (Elt F) arg10.view.junk allZero) (k0_t1_loop i (word (F := F) i arg2 harg2 x0)).trips).2.1 ++ allZero)) (arg10.view.writes (Elt F) arg10.view.junk allZero) (arg10.view.writes (Elt F) arg10.view.junk ((sweep c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg10.view.writes (Elt F) arg10.view.junk allZero) (k0_t1_loop i (word (F := F) i arg2 harg2 x0)).trips).2.2 ++ allZero))).2.2
      ++ ((sweep c i arg2 harg2 arg3 harg3 arg4 harg4 arg5 harg5 arg6 harg6 arg7 harg7 arg8 harg8 arg9 harg9 arg10 harg10 x1 x2 x3 x4 x5 (word (F := F) i arg2 harg2 x0) hw (arg9.view.writes (Elt F) arg9.view.junk allZero) (arg10.view.writes (Elt F) arg10.view.junk allZero) (k0_t1_loop i (word (F := F) i arg2 harg2 x0)).trips).2.2 ++ allZero) := by
  sl_kernel_rfl

variable (h : word (F := F) i arg2 harg2 x0 = 0#32)
include h
/-- and the first point of a head what it leaves on cleared accumulators. -/
theorem first6 : (runA c i arg2 harg2 arg3 harg3 arg4 harg4 arg5 harg5 arg6 harg6 arg7 harg7 arg8 harg8 arg9 harg9 arg10 harg10 hc0 x0 x1 x2 x3 x4 x5 hw).1
    = threeRows (sweep c i arg2 harg2 arg3 harg3 arg4 harg4 arg5 harg5 arg6 harg6 arg7 harg7 arg8 harg8 arg9 harg9 arg10 harg10 x1 x2 x3 x4 x5 0#32 (chk_zero i) (arg9.view.writes (Elt F) arg9.view.junk allZero) (arg10.view.writes (Elt F) arg10.view.junk allZero) (3 * (i 1).val + 4)).1 := by
  rw [firstRaw6, rest_eq c i arg2 harg2 arg3 harg3 arg4 harg4 arg5 harg5 arg6 harg6 arg7 harg7 arg8 harg8 arg9 harg9 arg10 harg10 x1 x2 x3 x4 x5 _ hw h]
theorem first7 : (runA c i arg2 harg2 arg3 harg3 arg4 harg4 arg5 harg5 arg6 harg6 arg7 harg7 arg8 harg8 arg9 harg9 arg10 harg10 hc0 x0 x1 x2 x3 x4 x5 hw).2.1
    = (sweep c i arg2 harg2 arg3 harg3 arg4 harg4 arg5 harg5 arg6 harg6 arg7 harg7 arg8 harg8 arg9 harg9 arg10 harg10 x1 x2 x3 x4 x5 0#32 (chk_zero i) (arg9.view.writes (Elt F) arg9.view.junk allZero) (arg10.view.writes (Elt F) arg10.view.junk allZero) (3 * (i 1).val + 4)).2.1 ++ allZero := by
  rw [firstRaw7, rest_eq c i arg2 harg2 arg3 harg3 arg4 harg4 arg5 harg5 arg6 harg6 arg7 harg7 arg8 harg8 arg9 harg9 arg10 harg10 x1 x2 x3 x4 x5 _ hw h, sweep_eq c i arg2 harg2 arg3 harg3 arg4 harg4 arg5 harg5 arg6 harg6 arg7 harg7 arg8 harg8 arg9 harg9 arg10 harg10 x1 x2 x3 x4 x5 _ hw h]; rfl
theorem first8 : (runA c i arg2 harg2 arg3 harg3 arg4 harg4 arg5 harg5 arg6 harg6 arg7 harg7 arg8 harg8 arg9 harg9 arg10 harg10 hc0 x0 x1 x2 x3 x4 x5 hw).2.2.1
    = (sweep c i arg2 harg2 arg3 harg3 arg4 harg4 arg5 harg5 arg6 harg6 arg7 harg7 arg8 harg8 arg9 harg9 arg10 harg10 x1 x2 x3 x4 x5 0#32 (chk_zero i) (arg9.view.writes (Elt F) arg9.view.junk allZero) (arg10.view.writes (Elt F) arg10.view.junk allZero) (3 * (i 1).val + 4)).2.2 ++ allZero := by
  rw [firstRaw8, rest_eq c i arg2 harg2 arg3 harg3 arg4 harg4 arg5 harg5 arg6 harg6 arg7 harg7 arg8 harg8 arg9 harg9 arg10 harg10 x1 x2 x3 x4 x5 _ hw h, sweep_eq c i arg2 harg2 arg3 harg3 arg4 harg4 arg5 harg5 arg6 harg6 arg7 harg7 arg8 harg8 arg9 harg9 arg10 harg10 x1 x2 x3 x4 x5 _ hw h]; rfl
end First
end Runs

end Cert.KernelIdeal.Sb

end
-- ==== Proof.Spec.lean ====
/- Stick-breaking attention's gradient on real numbers: the formulas over the whole of the keys, and the same by a sweep over blocks of
   128 keys. Rows of the four arrays are numbered by naturals: key `t`, query `q`. -/
module

public import Mathlib.Analysis.SpecialFunctions.Log.Basic
public import Mathlib.Algebra.BigOperators.Intervals

@[expose] public section

noncomputable section

namespace Cert.Stick

open Finset

/-- The logarithm of `1 / (1 + e^(-z))`, as the kernel computes it. -/
def gate (z : ℝ) : ℝ := min z 0 - Real.log (1 + Real.exp (0 - max z (-z)))

/-- Query `q` looks at key `t`. -/
def Sees (t q : ℕ) : Prop := t < q ∧ 112 ≤ t
instance (t q : ℕ) : Decidable (Sees t q) := inferInstanceAs (Decidable (_ ∧ _))

section Whole
variable (c : ℝ) (Q K V D : ℕ → ℕ → ℝ) (n : ℕ)

def score (t q : ℕ) : ℝ := (∑ d ∈ range 128, K t d * Q q d) * c
def dw (t q : ℕ) : ℝ := ∑ d ∈ range 128, V t d * D q d
def keep (t q : ℕ) : ℝ := if Sees t q then gate (score c Q K t q) - score c Q K t q else 0
def weight (t q : ℕ) : ℝ := if Sees t q then Real.exp (gate (score c Q K t q) + ∑ t' ∈ Ico (t + 1) n, keep c Q K t' q) else 0
def flow (t q : ℕ) : ℝ := weight c Q K n t q * dw V D t q
def dscore (t q : ℕ) : ℝ :=
  (flow c Q K V D n t q * (1 - Real.exp (gate (score c Q K t q)))
    - if Sees t q then (∑ t' ∈ range t, flow c Q K V D n t' q) * Real.exp (gate (score c Q K t q)) else 0) * c

def dq (q d : ℕ) : ℝ := ∑ t ∈ range n, dscore c Q K V D n t q * K t d
def dk (t d : ℕ) : ℝ := ∑ q ∈ range n, dscore c Q K V D n t q * Q q d
def dv (t d : ℕ) : ℝ := ∑ q ∈ range n, weight c Q K n t q * D q d

variable {c Q K V D n}
theorem keep_of_not {t q : ℕ} (h : ¬Sees t q) : keep c Q K t q = 0 := if_neg h
theorem weight_of_not {t q : ℕ} (h : ¬Sees t q) : weight c Q K n t q = 0 := if_neg h
theorem flow_of_not {t q : ℕ} (h : ¬Sees t q) : flow c Q K V D n t q = 0 := by rw [flow, weight_of_not h, zero_mul]
theorem dscore_of_not {t q : ℕ} (h : ¬Sees t q) : dscore c Q K V D n t q = 0 := by
  rw [dscore, flow_of_not h, if_neg h]; ring
end Whole

/-- What the sweep carries for one block of queries: of the block of keys before, the logarithms of the gates, the products of the
    cotangent with the values, the sums over the later keys and over all; then the sums over the blocks before, and the gradient. -/
structure Sweep where
  l : ℕ → ℕ → ℝ
  dw : ℕ → ℕ → ℝ
  suf : ℕ → ℕ → ℝ
  t : ℕ → ℝ
  p : ℕ → ℝ
  e : ℕ → ℝ
  x : ℕ → ℕ → ℝ

namespace Sweep
def start : Sweep := ⟨fun _ _ => 0, fun _ _ => 0, fun _ _ => 0, fun _ => 0, fun _ => 0, fun _ => 0, fun _ _ => 0⟩

/-- Sums over a block's later keys, over its earlier keys. -/
def laterSum (f : ℕ → ℕ → ℝ) (r l : ℕ) : ℝ := ∑ k ∈ range 128, if r < k then f k l else 0
def earlierSum (f : ℕ → ℕ → ℝ) (r l : ℕ) : ℝ := ∑ k ∈ range 128, if k < r then f k l else 0

variable (c : ℝ) (s s' : ℕ → ℕ → Prop) [∀ r l, Decidable (s r l)] [∀ r l, Decidable (s' r l)] (z' dw' k1 : ℕ → ℕ → ℝ) (a : ℕ → ℝ) (C : Sweep)

def wt (r l : ℕ) : ℝ := if s r l then Real.exp (C.l r l + (a l - (C.p l + C.t l)) + C.suf r l) else 0
def fl (r l : ℕ) : ℝ := C.wt s a r l * C.dw r l
def dz (r l : ℕ) : ℝ :=
  (C.fl s a r l * (1 - Real.exp (C.l r l)) - if s r l then (C.e l + earlierSum (C.fl s a) r l) * Real.exp (C.l r l) else 0) * c
def kept (r l : ℕ) : ℝ := if s' r l then gate (z' r l) - z' r l else 0

/-- One trip: `s`, `k1` of the block before, `s'`, `z'`, `dw'` of this one. -/
def next : Sweep where
  l r l' := gate (z' r l')
  dw := dw'
  suf := laterSum (kept s' z')
  t l := laterSum (kept s' z') 0 l + kept s' z' 0 l
  p l := C.p l + C.t l
  e l := C.e l + earlierSum (C.fl s a) 127 l + C.fl s a 127 l
  x l d := C.x l d + ∑ k ∈ range 128, C.dz c s a k l * k1 k d
end Sweep

end Cert.Stick

end
-- ==== Proof.Ops.lean ====
/- One trip of the sweep over the extended reals, on real numbers: each vector operation's value element by element. -/
module

public import proofs.«01_k».proof.Proof.Step
public import proofs.«01_k».proof.Proof.Spec
public import Idealize.ShloMosaic.Lib.Pointwise

@[expose] public section

noncomputable section

namespace Cert.KernelIdeal.Sb

open Idealize.ShloMosaic Idealize.ShloMosaic.TcCoe
open Cert.KernelIdeal.Gen
open Cert.Stick
open Finset (range)

/-- A matrix, and a row, of real numbers. -/
def mat {φ : FTy} {a b : ℕ} (f : ℕ → ℕ → ℝ) : FVec Ideal ⟨2, ![a, b]⟩ φ := fun j => ((f (j 0).val (j 1).val : ℝ) : EReal)
def row (f : ℕ → ℝ) : Row Ideal := fun j => ((f (j 1).val : ℝ) : EReal)

/-- The scale `1 / √128` as the kernel and the reference write it. -/
def cst : ℝ := (Ideal.ofBits .f32 0x3DB504F3#32).toReal
theorem cst_eq : Ideal.ofBits .f32 0x3DB504F3#32 = ((cst : ℝ) : EReal) := by
  have h : ∃ r : ℝ, Ideal.ofBits .f32 0x3DB504F3#32 = ((r : ℝ) : EReal) := by
    unfold Ideal.ofBits Ideal.ieee
    dsimp only
    rw [if_neg (by decide), if_neg (by decide)]
    exact ⟨_, rfl⟩
  obtain ⟨r, h⟩ := h
  rw [cst, h, EReal.toReal_coe]

theorem sum_coe (n : ℕ) (f : ℕ → ℝ) : ∑ x : Fin n, ((f x.val : ℝ) : EReal) = ((∑ x ∈ range n, f x : ℝ) : EReal) := by
  rw [Fin.sum_univ_eq_sum_range (fun x => ((f x : ℝ) : EReal)) n]
  induction n with
  | zero => simp
  | succ n ih => rw [Finset.sum_range_succ, Finset.sum_range_succ, ih, EReal.coe_add]

theorem sum_mul_coe (n : ℕ) (f g : ℕ → ℝ) : ∑ x : Fin n, ((f x.val : ℝ) : EReal) * ((g x.val : ℝ) : EReal) = ((∑ x ∈ range n, f x * g x : ℝ) : EReal) := by
  rw [← sum_coe]
  exact Finset.sum_congr rfl fun x _ => (EReal.coe_mul _ _).symm

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm
theorem exp_coe (a : ℝ) : Ideal.exp (a : EReal) = ((Real.exp a : ℝ) : EReal) := rfl
theorem log_coe (a : ℝ) (h : 0 < a) : Ideal.log (a : EReal) = ((Real.log a : ℝ) : EReal) := if_neg (not_le.mpr h)

theorem sub_coe (a b : ℝ) : (a : EReal) - (b : EReal) = ((a - b : ℝ) : EReal) := (EReal.coe_sub a b).symm
theorem add_coe (a b : ℝ) : (a : EReal) + (b : EReal) = ((a + b : ℝ) : EReal) := (EReal.coe_add a b).symm
theorem mul_coe (a b : ℝ) : (a : EReal) * (b : EReal) = ((a * b : ℝ) : EReal) := (EReal.coe_mul a b).symm
theorem zero_coe : (0 : EReal) = ((0 : ℝ) : EReal) := rfl
theorem one_coe : (1 : EReal) = ((1 : ℝ) : EReal) := rfl

variable (f g h : ℕ → ℕ → ℝ)

theorem scores_mat : scores (F := Ideal) (mat f) (mat g) = mat fun t q => (∑ d ∈ range 128, f t d * g q d) * cst := by
  funext j
  pointwise [scores, scale, mat]
  rw [sum_mul_coe 128 (fun x => f (j 0).val x) (fun x => g (j 1).val x), cst_eq, mul_coe]

theorem pair_mat : pair (F := Ideal) (mat f) (mat g) = mat fun t q => ∑ d ∈ range 128, f t d * g q d := by
  funext j
  pointwise [pair, mat]
  exact sum_mul_coe 128 (fun x => f (j 0).val x) (fun x => g (j 1).val x)

theorem logGate_mat : logGate (F := Ideal) (mat f) = mat fun t q => gate (f t q) := by
  funext j
  pointwise [logGate, zeros, ones, mat]
  rw [show FloatOps.absf (F := Ideal) (φ := .f32) ((f (j 0).val (j 1).val : ℝ) : EReal) = max ((f (j 0).val (j 1).val : ℝ) : EReal) (-((f (j 0).val (j 1).val : ℝ) : EReal)) from rfl,
    ← EReal.coe_neg, max_coe, zero_coe, sub_coe, exp_coe, one_coe, add_coe, log_coe _ (by positivity), min_coe, sub_coe]
  rfl

/-- A choice element by element, by a mask that says when `s` holds. -/
def IsMask (m : IVec S128x128 1) (s : ℕ → ℕ → Prop) [∀ r l, Decidable (s r l)] : Prop := ∀ j : S128x128.Idx, m j = if s (j 0).val (j 1).val then 1#1 else 0#1

section Masked
variable {m m' : IVec S128x128 1} {s s' : ℕ → ℕ → Prop} [∀ r l, Decidable (s r l)] [∀ r l, Decidable (s' r l)]

theorem choose (hm : IsMask m s) (j : S128x128.Idx) (x y : EReal) : Scalar.select (m j) x y = if s (j 0).val (j 1).val then x else y := by
  rw [hm j]; split <;> rfl

theorem logKeep_mat (hm : IsMask m s) : logKeep (F := Ideal) m (mat f) (mat g) = mat fun t q => if s t q then f t q - g t q else 0 := by
  funext j
  pointwise [logKeep, zeros, mat]
  rw [choose hm, sub_coe]; split <;> rfl

theorem weights_mat (hm : IsMask m s) (a p : ℕ → ℝ) : weights (F := Ideal) m (mat f) (mat g) (row a) (row p)
    = mat fun t q => if s t q then Real.exp (f t q + (a q - p q) + g t q) else 0 := by
  funext j
  pointwise [weights, zeros, mat, row]
  rw [choose hm, sub_coe, add_coe, add_coe, exp_coe]; split <;> rfl

theorem gradScores_mat (hm : IsMask m s) (e pre sg : ℕ → ℕ → ℝ) (er : ℕ → ℝ) : gradScores (F := Ideal) m (mat e) (mat pre) (mat sg) (row er)
    = mat fun t q => (e t q * (1 - sg t q) - if s t q then (er q + pre t q) * sg t q else 0) * cst := by
  funext j
  pointwise [gradScores, zeros, ones, scale, mat, row]
  rw [choose hm, one_coe, sub_coe, mul_coe, add_coe, mul_coe, zero_coe, cst_eq]
  split <;> rw [sub_coe, mul_coe]
end Masked

theorem word_lt {a b : ℕ} (ha : a < 128) (hb : b < 128) : (BitVec.ofNat 32 a).slt (BitVec.ofNat 32 b) = decide (a < b) := by
  unfold BitVec.slt
  have e : ∀ n < 128, (BitVec.ofNat 32 n).toInt = n := fun n hn => by
    rw [BitVec.toInt_eq_toNat_of_lt (by rw [BitVec.toNat_ofNat]; omega), BitVec.toNat_ofNat, Nat.mod_eq_of_lt (by omega)]
  rw [e a ha, e b hb]
  simp

theorem bit_real (p : Prop) [Decidable p] : FloatOps.sitofp (F := Ideal) .f32 (BitVec.setWidth 32 (BitVec.ofBool (decide p))) = (((if p then 1 else 0 : ℝ)) : EReal) := by
  show ((((BitVec.setWidth 32 (BitVec.ofBool (decide p))).toInt : ℤ) : ℝ) : EReal) = _
  by_cases h : p <;> simp [h]

theorem later_mat : keySums (F := Ideal) later (mat f) = mat (Sweep.laterSum f) := by
  funext j
  pointwise [keySums, stacked, mat, later, twice]
  have h0 : (j 0).val < 128 := (j 0).isLt
  have e : ∀ x : Fin 128, FloatOps.sitofp (F := Ideal) .f32 (BitVec.setWidth 32 (IntOp.cmpi CmpIPredicate.sgt (BitVec.ofNat 32 x.val) (BitVec.ofNat 32 (j 0).val)))
      = (((if (j 0).val < x.val then 1 else 0 : ℝ)) : EReal) := fun x => by
    rw [← bit_real, ← word_lt h0 x.isLt]; rfl
  simp only [e, sub_coe]
  rw [sum_mul_coe 128 (fun x => if (j 0).val < x then 1 else 0) (fun x => f x (j 1).val),
    sum_mul_coe 128 (fun x => if (j 0).val < x then 1 else 0) (fun x => f x (j 1).val - f x (j 1).val), add_coe]
  simp [Sweep.laterSum]

theorem earlier_mat : keySums (F := Ideal) earlier (mat f) = mat (Sweep.earlierSum f) := by
  funext j
  pointwise [keySums, stacked, mat, earlier, twice]
  have h0 : (j 0).val < 128 := (j 0).isLt
  have e : ∀ x : Fin 128, FloatOps.sitofp (F := Ideal) .f32 (BitVec.setWidth 32 (IntOp.cmpi CmpIPredicate.slt (BitVec.ofNat 32 x.val) (BitVec.ofNat 32 (j 0).val)))
      = (((if x.val < (j 0).val then 1 else 0 : ℝ)) : EReal) := fun x => by
    rw [← bit_real, ← word_lt x.isLt h0]; rfl
  simp only [e, sub_coe]
  rw [sum_mul_coe 128 (fun x => if x < (j 0).val then 1 else 0) (fun x => f x (j 1).val),
    sum_mul_coe 128 (fun x => if x < (j 0).val then 1 else 0) (fun x => f x (j 1).val - f x (j 1).val), add_coe]
  simp [Sweep.earlierSum]

theorem firstRow_mat : firstRow (F := Ideal) (mat f) = row fun q => f 0 q := by
  funext j
  pointwise [firstRow, mat, row]
theorem lastRow_mat : lastRow (F := Ideal) (mat f) = row fun q => f 127 q := by
  funext j
  pointwise [lastRow, mat, row]

theorem addRow_mat (p t : ℕ → ℝ) : addf (row p) (row t) = row fun q => p q + t q := by
  funext j
  exact add_coe _ _
theorem mul_mat : mulf (F := Ideal) (s := S128x128) (φ := .f32) (mat f) (mat g) = mat fun t q => f t q * g t q := by
  funext j
  exact mul_coe _ _
theorem exp_mat : exp (F := Ideal) (s := S128x128) (φ := .f32) (mat f) = mat fun t q => Real.exp (f t q) := rfl
theorem truncf_mat : truncf (F := Ideal) (s := S128x128) .bf16 (mat (φ := .f32) f) bitsLt_bf16_f32 = mat f := rfl

theorem gradQuery_mat (x : ℕ → ℕ → ℝ) : gradQuery (F := Ideal) (mat x) (mat f) (mat g) = mat fun q d => x q d + ∑ t ∈ range 128, f t q * g t d := by
  funext j
  pointwise [gradQuery, mat]
  rw [sum_mul_coe 128 (fun x => f x (j 0).val) (fun x => g x (j 1).val), add_coe]

/-- Three matrices side by side. -/
def beside (f0 f1 f2 : ℕ → ℕ → ℝ) (t q : ℕ) : ℝ := if q < 128 then f0 t q else if q < 256 then f1 t (q - 128) else f2 t (q - 256)

theorem gradKey_mat (x f0 f1 f2 y : ℕ → ℕ → ℝ) : gradKey (F := Ideal) (mat x) (mat f0) (mat f1) (mat f2) (mat y)
    = mat fun t d => x t d + ∑ q ∈ range 384, beside f0 f1 f2 t q * y q d := by
  funext j
  pointwise [gradKey, mat]
  rw [← add_coe, ← sum_mul_coe 384 (fun q => beside f0 f1 f2 (j 0).val q) (fun q => y q (j 1).val)]
  congr 1

/-! ### The trip -/

section Trip
variable (a1 r b : BitVec 32) (s s' : ℕ → ℕ → Prop) [∀ r l, Decidable (s r l)] [∀ r l, Decidable (s' r l)] (C : Sweep) (a : ℕ → ℝ)

theorem wOf_mat (hs : IsMask (seen a1 r (Scalar.subi b 1#32)) s) :
    wOf (F := Ideal) a1 r b (mat C.l) (mat C.suf) (row a) (row C.p) (row C.t) = mat (C.wt s a) := by
  rw [wOf, addRow_mat, weights_mat C.l C.suf hs]; rfl
theorem eOf_mat (hs : IsMask (seen a1 r (Scalar.subi b 1#32)) s) :
    eOf (F := Ideal) a1 r b (mat C.l) (mat C.dw) (mat C.suf) (row a) (row C.p) (row C.t) = mat (C.fl s a) := by
  rw [eOf, wOf_mat a1 r b s C a hs, mul_mat]; rfl
theorem dzOf_mat (hs : IsMask (seen a1 r (Scalar.subi b 1#32)) s) :
    dzOf (F := Ideal) a1 r b (mat C.l) (mat C.dw) (mat C.suf) (row a) (row C.p) (row C.t) (row C.e) = mat (C.dz cst s a) := by
  rw [dzOf, eOf_mat a1 r b s C a hs, earlier_mat, exp_mat, gradScores_mat hs]; rfl
theorem eNext_mat (hs : IsMask (seen a1 r (Scalar.subi b 1#32)) s) :
    eNext (F := Ideal) a1 r b (mat C.l) (mat C.dw) (mat C.suf) (row a) (row C.p) (row C.t) (row C.e)
      = row fun l => C.e l + Sweep.earlierSum (C.fl s a) 127 l + C.fl s a 127 l := by
  rw [eNext, eOf_mat a1 r b s C a hs, earlier_mat, lastRow_mat, lastRow_mat, addRow_mat, addRow_mat]
theorem keepOf_mat (hs : IsMask (seen a1 r b) s') : keepOf (F := Ideal) a1 r b (mat f) (mat g)
    = mat (Sweep.kept s' fun t q => (∑ d ∈ range 128, f t d * g q d) * cst) := by
  rw [keepOf, scores_mat, logGate_mat, logKeep_mat _ _ hs]; rfl
theorem sufNext_mat (hs : IsMask (seen a1 r b) s') : sufNext (F := Ideal) a1 r b (mat f) (mat g)
    = mat (Sweep.laterSum (Sweep.kept s' fun t q => (∑ d ∈ range 128, f t d * g q d) * cst)) := by
  rw [sufNext, keepOf_mat f g a1 r b s' hs, later_mat]
theorem totNext_mat (hs : IsMask (seen a1 r b) s') : totNext (F := Ideal) a1 r b (mat f) (mat g)
    = row fun l => Sweep.laterSum (Sweep.kept s' fun t q => (∑ d ∈ range 128, f t d * g q d) * cst) 0 l
        + Sweep.kept s' (fun t q => (∑ d ∈ range 128, f t d * g q d) * cst) 0 l := by
  rw [totNext, sufNext_mat f g a1 r b s' hs, keepOf_mat f g a1 r b s' hs, firstRow_mat, firstRow_mat, addRow_mat]
end Trip

/-- The three blocks' carried values together. -/
def carried (C0 C1 C2 : Sweep) : Carried Ideal :=
  (mat C0.l, mat C1.l, mat C2.l, mat C0.dw, mat C1.dw, mat C2.dw, mat C0.suf, mat C1.suf, mat C2.suf, row C0.t, row C1.t, row C2.t,
    row C0.p, row C1.p, row C2.p, row C0.e, row C1.e, row C2.e, mat C0.x, mat C1.x, mat C2.x)

section Next
variable (a1 b : BitVec 32) (s0 s1 s2 s0' s1' s2' : ℕ → ℕ → Prop) [∀ r l, Decidable (s0 r l)] [∀ r l, Decidable (s1 r l)] [∀ r l, Decidable (s2 r l)]
  [∀ r l, Decidable (s0' r l)] [∀ r l, Decidable (s1' r l)] [∀ r l, Decidable (s2' r l)]
  (h0 : IsMask (seen a1 0#32 (Scalar.subi b 1#32)) s0) (h1 : IsMask (seen a1 1#32 (Scalar.subi b 1#32)) s1) (h2 : IsMask (seen a1 2#32 (Scalar.subi b 1#32)) s2)
  (h0' : IsMask (seen a1 0#32 b) s0') (h1' : IsMask (seen a1 1#32 b) s1') (h2' : IsMask (seen a1 2#32 b) s2')
  (kb vb k1 q0 q1 q2 g0 g1 g2 : ℕ → ℕ → ℝ) (a0 a1' a2 : ℕ → ℝ) (C0 C1 C2 : Sweep)

include h0 h1 h2 in
theorem nextK_mat (old ys : ℕ → ℕ → ℝ) : nextK (F := Ideal) a1 b (mat old) (mat ys) (row a0) (row a1') (row a2) (carried C0 C1 C2)
    = mat fun t d => old t d + ∑ q ∈ range 384, beside (C0.dz cst s0 a0) (C1.dz cst s1 a1') (C2.dz cst s2 a2) t q * ys q d := by
  dsimp only [carried, nextK]
  rw [dzOf_mat a1 0#32 b s0 C0 a0 h0, dzOf_mat a1 1#32 b s1 C1 a1' h1, dzOf_mat a1 2#32 b s2 C2 a2 h2, gradKey_mat]
include h0 h1 h2 in
theorem nextV_mat (old ys : ℕ → ℕ → ℝ) : nextV (F := Ideal) a1 b (mat old) (mat ys) (row a0) (row a1') (row a2) (carried C0 C1 C2)
    = mat fun t d => old t d + ∑ q ∈ range 384, beside (C0.wt s0 a0) (C1.wt s1 a1') (C2.wt s2 a2) t q * ys q d := by
  dsimp only [carried, nextV]
  rw [wOf_mat a1 0#32 b s0 C0 a0 h0, wOf_mat a1 1#32 b s1 C1 a1' h1, wOf_mat a1 2#32 b s2 C2 a2 h2, truncf_mat, truncf_mat, truncf_mat, gradKey_mat]
include h0 h1 h2 h0' h1' h2' in
theorem next_mat : next (F := Ideal) a1 b (mat kb) (mat vb) (mat k1) (mat q0) (mat q1) (mat q2) (mat g0) (mat g1) (mat g2) (row a0) (row a1') (row a2) (carried C0 C1 C2)
    = carried (C0.next cst s0 s0' (fun t q => (∑ d ∈ range 128, kb t d * q0 q d) * cst) (fun t q => ∑ d ∈ range 128, vb t d * g0 q d) k1 a0)
        (C1.next cst s1 s1' (fun t q => (∑ d ∈ range 128, kb t d * q1 q d) * cst) (fun t q => ∑ d ∈ range 128, vb t d * g1 q d) k1 a1')
        (C2.next cst s2 s2' (fun t q => (∑ d ∈ range 128, kb t d * q2 q d) * cst) (fun t q => ∑ d ∈ range 128, vb t d * g2 q d) k1 a2) := by
  dsimp only [carried, next]
  rw [dzOf_mat a1 0#32 b s0 C0 a0 h0, dzOf_mat a1 1#32 b s1 C1 a1' h1, dzOf_mat a1 2#32 b s2 C2 a2 h2,
    eNext_mat a1 0#32 b s0 C0 a0 h0, eNext_mat a1 1#32 b s1 C1 a1' h1, eNext_mat a1 2#32 b s2 C2 a2 h2,
    sufNext_mat kb q0 a1 0#32 b s0' h0', sufNext_mat kb q1 a1 1#32 b s1' h1', sufNext_mat kb q2 a1 2#32 b s2' h2',
    totNext_mat kb q0 a1 0#32 b s0' h0', totNext_mat kb q1 a1 1#32 b s1' h1', totNext_mat kb q2 a1 2#32 b s2' h2']
  simp only [scores_mat, pair_mat, logGate_mat, addRow_mat, gradQuery_mat]
  rfl
end Next

end Cert.KernelIdeal.Sb

end
-- ==== Proof.Masks.lean ====
/- Which keys of a block a query looks at: the mask's words, read as numbers. -/
module

public import proofs.«01_k».proof.Proof.Ops

@[expose] public section

noncomputable section

namespace Cert.KernelIdeal.Sb

open Idealize.ShloMosaic Idealize.ShloMosaic.TcCoe
open Cert.KernelIdeal.Gen
open Cert.Stick

theorem seen_word (a1 r b : BitVec 32) (ea er eb : Int) (ha : Affine.IsInt a1 ea) (hr : Affine.IsInt r er) (hb : Affine.IsInt b eb)
    (h : 0 ≤ ea ∧ ea < 64 ∧ 0 ≤ er ∧ er < 4 ∧ -2 ≤ eb ∧ eb < 256) (j : S128x128.Idx) :
    seen a1 r b j = if ((j 0).val : Int) - (j 1).val < (ea * 3 + er - eb) * 128 ∧ 112 - eb * 128 ≤ (j 0).val then 1#1 else 0#1 := by
  have h0 : (j 0).val < 128 := (j 0).isLt
  have h1 : (j 1).val < 128 := (j 1).isLt
  have w0 : Affine.IsInt (BitVec.ofNat 32 (j 0).val) ((j 0).val : Int) := Affine.ofNat _ (by omega)
  have w1 : Affine.IsInt (BitVec.ofNat 32 (j 1).val) ((j 1).val : Int) := Affine.ofNat _ (by omega)
  have c3 : Affine.IsInt 3#32 3 := Affine.ofNat _ (by omega)
  have c128 : Affine.IsInt 128#32 128 := Affine.ofNat _ (by omega)
  have c112 : Affine.IsInt 112#32 112 := Affine.ofNat _ (by omega)
  have d : Affine.IsInt _ (((j 0).val : Int) - (j 1).val) := Affine.subi w0 w1 (by omega)
  have x1 : Affine.IsInt _ (ea * 3) := Affine.muli ha c3 (by omega)
  have x2 : Affine.IsInt _ (ea * 3 + er) := Affine.addi x1 hr (by omega)
  have x3 : Affine.IsInt _ (ea * 3 + er - eb) := Affine.subi x2 hb (by omega)
  have x : Affine.IsInt _ ((ea * 3 + er - eb) * 128) := Affine.muli x3 c128 (by omega)
  have y1 : Affine.IsInt _ (eb * 128) := Affine.muli hb c128 (by omega)
  have y : Affine.IsInt _ (112 - eb * 128) := Affine.subi c112 y1 (by omega)
  pointwise [seen, diff, keyIdx]
  show Scalar.andi
      (Scalar.cmpi CmpIPredicate.slt (Scalar.subi (BitVec.ofNat 32 (j 0).val) (BitVec.ofNat 32 (j 1).val))
        (Scalar.muli (Scalar.subi (Scalar.addi (Scalar.muli a1 3#32) r) b) 128#32))
      (Scalar.cmpi CmpIPredicate.sge (BitVec.ofNat 32 (j 0).val) (Scalar.subi (112#32) (Scalar.muli b 128#32))) = _
  by_cases p : ((j 0).val : Int) - (j 1).val < (ea * 3 + er - eb) * 128
  · by_cases q : 112 - eb * 128 ≤ ((j 0).val : Int)
    · rw [if_pos ⟨p, q⟩]; exact Affine.andi_holds (Affine.slt_holds d x p) (Affine.sge_holds w0 y q)
    · rw [if_neg fun h => q h.2]; exact ValueIdx.eq_zero_of_ne_one (Affine.andi_fails_right (Affine.tH (Affine.slt_holds d x p)) (Affine.sge_fails w0 y q))
  · rw [if_neg fun h => p h.1]; exact ValueIdx.eq_zero_of_ne_one (Affine.andi_fails_left (Affine.slt_fails d x p) (Affine.cmpi_term _ w0 y))

/-- Block `k` of the keys against the queries of block `3 i + r`, -/
theorem mask_here (i r k : ℕ) (a1 w b : BitVec 32) (ha : Affine.IsInt a1 i) (hr : Affine.IsInt w r) (hb : Affine.IsInt b k) (hi : i < 43) (hr' : r < 3) (hk : k ≤ 129) :
    IsMask (seen a1 w b) fun t q => Sees (128 * k + t) (384 * i + 128 * r + q) := fun j => by
  rw [seen_word a1 w b i r k ha hr hb (by omega)]
  refine if_congr ?_ rfl rfl
  unfold Sees
  omega
/-- the block before it, -/
theorem mask_before (i r k : ℕ) (a1 w b : BitVec 32) (ha : Affine.IsInt a1 i) (hr : Affine.IsInt w r) (hb : Affine.IsInt b (k + 1 : ℕ)) (hi : i < 43) (hr' : r < 3) (hk : k < 129) :
    IsMask (seen a1 w (Scalar.subi b 1#32)) fun t q => Sees (128 * k + t) (384 * i + 128 * r + q) :=
  mask_here i r k a1 w _ ha hr (Affine.subi hb (Affine.ofNat 1 (by omega) : Affine.IsInt 1#32 1) (by omega)) hi hr' (by omega)
/-- and before the first block there is none. -/
theorem mask_none (i r : ℕ) (a1 w b : BitVec 32) (ha : Affine.IsInt a1 i) (hr : Affine.IsInt w r) (hb : Affine.IsInt b 0) (hi : i < 43) (hr' : r < 3) :
    IsMask (seen a1 w (Scalar.subi b 1#32)) fun _ _ => False := fun j => by
  have h0 : (j 0).val < 128 := (j 0).isLt
  rw [seen_word a1 w _ i r (-1) ha hr (Affine.subi hb (Affine.ofNat 1 (by omega) : Affine.IsInt 1#32 1) (by omega)) (by omega), if_neg (by omega), if_neg not_false]

end Cert.KernelIdeal.Sb

end
-- ==== Proof.Sweeps.lean ====
/- The sweep's carried values in closed form: after block `k` the sums over all the keys before it. -/
module

public import proofs.«01_k».proof.Proof.Spec
public import Mathlib.Tactic.Ring
public import Mathlib.Tactic.Linarith

@[expose] public section

noncomputable section

namespace Cert.Stick

open Finset

theorem Sweep.laterSum_eq (f : ℕ → ℕ → ℝ) {r : ℕ} (l : ℕ) (h : r < 128) :
    Sweep.laterSum f r l = ∑ k ∈ range 128, f k l - ∑ k ∈ range (r + 1), f k l := by
  have e : ∀ n, r < n → ∑ k ∈ range n, (if r < k then f k l else 0) = ∑ k ∈ range n, f k l - ∑ k ∈ range (r + 1), f k l := fun n hn => by
    induction n with
    | zero => exact absurd hn (Nat.not_lt_zero _)
    | succ n ih =>
      rcases Nat.lt_or_ge r n with h | h
      · rw [sum_range_succ, sum_range_succ, ih h, if_pos h]; ring
      · obtain rfl : r = n := by omega
        rw [sub_self]
        exact sum_eq_zero fun k hk => if_neg (by have := mem_range.1 hk; omega)
  exact e 128 h

theorem Sweep.earlierSum_eq (f : ℕ → ℕ → ℝ) {r : ℕ} (l : ℕ) (h : r ≤ 128) : Sweep.earlierSum f r l = ∑ k ∈ range r, f k l := by
  unfold Sweep.earlierSum
  rw [← sum_filter]
  refine sum_congr ?_ fun _ _ => rfl
  ext k
  simp only [mem_filter, mem_range]
  omega

/-- The keys of block `k` that the queries from `q0` on look at. -/
def blockMask (q0 k r l : ℕ) : Prop := Sees (128 * k + r) (q0 + l)
instance (q0 k r l : ℕ) : Decidable (blockMask q0 k r l) := inferInstanceAs (Decidable (Sees _ _))

variable (c : ℝ) (Q K V D : ℕ → ℕ → ℝ) (n q0 : ℕ)

/-- What is carried after block `k`, for the 128 queries from `q0` on. -/
def closed (k : ℕ) : Sweep where
  l r l := gate (score c Q K (128 * min 128 k + r) (q0 + l))
  dw r l := dw V D (128 * min 128 k + r) (q0 + l)
  suf := Sweep.laterSum (Sweep.kept (blockMask q0 k) fun r l => score c Q K (128 * min 128 k + r) (q0 + l))
  t l := Sweep.laterSum (Sweep.kept (blockMask q0 k) fun r l => score c Q K (128 * min 128 k + r) (q0 + l)) 0 l
    + Sweep.kept (blockMask q0 k) (fun r l => score c Q K (128 * min 128 k + r) (q0 + l)) 0 l
  p l := ∑ t ∈ range (128 * k), keep c Q K t (q0 + l)
  e l := ∑ t ∈ range (128 * k), flow c Q K V D n t (q0 + l)
  x l d := ∑ t ∈ range (128 * k), dscore c Q K V D n t (q0 + l) * K t d

/-- The total over all the keys, which the kernel is given. -/
def total (q : ℕ) : ℝ := ∑ t ∈ range n, keep c Q K t q
/-- for the queries from `q0` on. -/
def blockTotal (l : ℕ) : ℝ := total c Q K n (q0 + l)

section Block
variable {c Q K V D n q0} {k : ℕ} (hk : k ≤ 128) (hn : 128 * k + 128 ≤ n)

include hk in
theorem kept_closed : Sweep.kept (blockMask q0 k) (fun r l => score c Q K (128 * min 128 k + r) (q0 + l)) = fun r l => keep c Q K (128 * k + r) (q0 + l) := by
  rw [Nat.min_eq_right hk]; rfl

include hk in
theorem t_closed (l : ℕ) : Sweep.t (closed c Q K V D n q0 k) l = ∑ r ∈ range 128, keep c Q K (128 * k + r) (q0 + l) := by
  show Sweep.laterSum (Sweep.kept (blockMask q0 k) _) 0 l + Sweep.kept (blockMask q0 k) _ 0 l = _
  rw [kept_closed hk, Sweep.laterSum_eq _ _ (by omega)]
  simp

include hk hn in
theorem wt_closed {r : ℕ} (l : ℕ) (hr : r < 128) : Sweep.wt (blockMask q0 k) (blockTotal c Q K n q0) (closed c Q K V D n q0 k) r l = weight c Q K n (128 * k + r) (q0 + l) := by
  unfold Sweep.wt weight
  refine if_congr Iff.rfl (congrArg Real.exp ?_) rfl
  have hs : Sweep.suf (closed c Q K V D n q0 k) r l = ∑ r ∈ range 128, keep c Q K (128 * k + r) (q0 + l) - ∑ r' ∈ range (r + 1), keep c Q K (128 * k + r') (q0 + l) := by
    show Sweep.laterSum (Sweep.kept (blockMask q0 k) _) r l = _
    rw [kept_closed hk, Sweep.laterSum_eq _ _ hr]
  have hp : Sweep.p (closed c Q K V D n q0 k) l = ∑ t ∈ range (128 * k), keep c Q K t (q0 + l) := rfl
  have hl : Sweep.l (closed c Q K V D n q0 k) r l = gate (score c Q K (128 * k + r) (q0 + l)) := by
    show gate (score c Q K (128 * min 128 k + r) (q0 + l)) = _
    rw [Nat.min_eq_right hk]
  rw [hs, hp, hl, t_closed hk, sum_Ico_eq_sub _ (by omega), Nat.add_assoc (128 * k) r 1, sum_range_add (fun t => keep c Q K t (q0 + l)) (128 * k) (r + 1)]
  unfold blockTotal total
  ring

include hk hn in
theorem fl_closed {r : ℕ} (l : ℕ) (hr : r < 128) : Sweep.fl (blockMask q0 k) (blockTotal c Q K n q0) (closed c Q K V D n q0 k) r l = flow c Q K V D n (128 * k + r) (q0 + l) := by
  unfold Sweep.fl flow
  rw [wt_closed hk hn l hr]
  show _ * dw V D (128 * min 128 k + r) (q0 + l) = _
  rw [Nat.min_eq_right hk]

include hk hn in
theorem earlier_closed {r : ℕ} (l : ℕ) (hr : r ≤ 128) : Sweep.e (closed c Q K V D n q0 k) l + Sweep.earlierSum (Sweep.fl (blockMask q0 k) (blockTotal c Q K n q0) (closed c Q K V D n q0 k)) r l
    = ∑ t ∈ range (128 * k + r), flow c Q K V D n t (q0 + l) := by
  rw [Sweep.earlierSum_eq _ _ hr, sum_range_add]
  show _ = Sweep.e (closed c Q K V D n q0 k) l + _
  congr 1
  exact sum_congr rfl fun r' h => fl_closed hk hn l (by have := mem_range.1 h; omega)

include hk hn in
theorem dz_closed {r : ℕ} (l : ℕ) (hr : r < 128) : Sweep.dz c (blockMask q0 k) (blockTotal c Q K n q0) (closed c Q K V D n q0 k) r l = dscore c Q K V D n (128 * k + r) (q0 + l) := by
  unfold Sweep.dz dscore
  rw [fl_closed hk hn l hr, earlier_closed hk hn l (Nat.le_of_lt hr)]
  have hl : Sweep.l (closed c Q K V D n q0 k) r l = gate (score c Q K (128 * k + r) (q0 + l)) := by
    show gate (score c Q K (128 * min 128 k + r) (q0 + l)) = _
    rw [Nat.min_eq_right hk]
  rw [hl]
  rfl

include hk hn in
/-- A trip goes from block `k` to block `k + 1`. -/
theorem next_closed : Sweep.next c (blockMask q0 k) (blockMask q0 (k + 1)) (fun r l => score c Q K (128 * min 128 (k + 1) + r) (q0 + l))
    (fun r l => dw V D (128 * min 128 (k + 1) + r) (q0 + l)) (fun r d => K (128 * k + r) d) (blockTotal c Q K n q0) (closed c Q K V D n q0 k) = closed c Q K V D n q0 (k + 1) := by
  unfold Sweep.next
  have e1 : ∀ l, Sweep.p (closed c Q K V D n q0 k) l + Sweep.t (closed c Q K V D n q0 k) l = ∑ t ∈ range (128 * (k + 1)), keep c Q K t (q0 + l) := fun l => by
    rw [t_closed hk, Nat.mul_succ, sum_range_add]; rfl
  have e2 : ∀ l, Sweep.e (closed c Q K V D n q0 k) l + Sweep.earlierSum (Sweep.fl (blockMask q0 k) (blockTotal c Q K n q0) (closed c Q K V D n q0 k)) 127 l + Sweep.fl (blockMask q0 k) (blockTotal c Q K n q0) (closed c Q K V D n q0 k) 127 l = ∑ t ∈ range (128 * (k + 1)), flow c Q K V D n t (q0 + l) := fun l => by
    rw [earlier_closed hk hn l (by omega), fl_closed hk hn l (by omega), Nat.mul_succ, ← sum_range_succ]
  have e3 : ∀ l d, Sweep.x (closed c Q K V D n q0 k) l d + ∑ r ∈ range 128, Sweep.dz c (blockMask q0 k) (blockTotal c Q K n q0) (closed c Q K V D n q0 k) r l * K (128 * k + r) d
      = ∑ t ∈ range (128 * (k + 1)), dscore c Q K V D n t (q0 + l) * K t d := fun l d => by
    rw [Nat.mul_succ, sum_range_add]
    show _ = Sweep.x (closed c Q K V D n q0 k) l d + _
    congr 1
    exact sum_congr rfl fun r h => by rw [dz_closed hk hn l (mem_range.1 h)]
  simp only [e1, e2, e3]
  rfl
end Block

/-- The first trip finishes nothing: there is no block before the first. -/
theorem next_start (k1 : ℕ → ℕ → ℝ) (a : ℕ → ℝ) : Sweep.next c (fun _ _ => False) (blockMask q0 0) (fun r l => score c Q K (128 * min 128 0 + r) (q0 + l))
    (fun r l => dw V D (128 * min 128 0 + r) (q0 + l)) k1 a Sweep.start = closed c Q K V D n q0 0 := by
  unfold Sweep.next
  have w : Sweep.fl (fun _ _ => False) a Sweep.start = fun _ _ => 0 := by
    funext r l; exact mul_zero _
  have e : ∀ r l, Sweep.earlierSum (fun _ _ => 0) r l = 0 := fun r l => sum_eq_zero fun k _ => by simp
  have z : Sweep.dz c (fun _ _ => False) a Sweep.start = fun _ _ => 0 := by
    funext r l
    unfold Sweep.dz
    rw [w]
    simp
  rw [w, z]
  simp only [e]
  simp [closed, Sweep.start]

theorem dz_start (a : ℕ → ℝ) : Sweep.dz c (fun _ _ => False) a Sweep.start = fun _ _ => 0 := by
  funext r l
  have w : Sweep.fl (fun _ _ => False) a Sweep.start = fun _ _ => 0 := by
    funext r l; exact mul_zero _
  unfold Sweep.dz
  rw [w]
  simp
theorem wt_start (a : ℕ → ℝ) : Sweep.wt (fun _ _ => False) a Sweep.start = fun _ _ => 0 := by
  funext r l
  exact if_neg not_false

end Cert.Stick

end
-- ==== Proof.Whole.lean ====
/- The whole sweep on real numbers: by induction over the trips, what is carried is the closed form, and the accumulators gain the
   contributions of the blocks finished. -/
module

public import proofs.«01_k».proof.Proof.Runs
public import proofs.«01_k».proof.Proof.Ops
public import proofs.«01_k».proof.Proof.Masks
public import proofs.«01_k».proof.Proof.Sweeps
public import Idealize.ShloMosaic.Lib.WritesUnit
public import Idealize.ShloMosaic.Lib.Pipeline.FrameBody

@[expose] public section

set_option maxRecDepth 16384

noncomputable section

namespace Cert.KernelIdeal.Sb

open Idealize.ShloMosaic Idealize.ShloMosaic.TcCoe Idealize.ShloMosaic.Tactic
open Cert.KernelIdeal.Gen
open Cert.Stick
open Finset (range)

/-! ### The sweep's closed form, with the state before the first block -/

section Real
variable (c : ℝ) (Q K V D : ℕ → ℕ → ℝ) (n q0 : ℕ)

/-- What is carried before trip `k`, and the keys its block before has. -/
def prev : ℕ → Sweep
  | 0 => Sweep.start
  | k + 1 => closed c Q K V D n q0 k
def prevMask : ℕ → ℕ → ℕ → Prop
  | 0 => fun _ _ => False
  | k + 1 => blockMask q0 k
instance : (k r l : ℕ) → Decidable (prevMask q0 k r l)
  | 0, _, _ => instDecidableFalse
  | _ + 1, _, _ => inferInstanceAs (Decidable (blockMask _ _ _ _))

theorem prev_next (k : ℕ) (hk : k ≤ 129) (hn : n = 16512) :
    Sweep.next c (prevMask q0 k) (blockMask q0 k) (fun r l => score c Q K (128 * min 128 k + r) (q0 + l)) (fun r l => dw V D (128 * min 128 k + r) (q0 + l))
      (fun r d => K (128 * (k - 1) + r) d) (blockTotal c Q K n q0) (prev c Q K V D n q0 k) = prev c Q K V D n q0 (k + 1) := by
  cases k with
  | zero => exact next_start c Q K V D n q0 _ _
  | succ k => exact next_closed (by omega) (by omega)

/-- What trip `k` gives for its block before. -/
theorem prev_dz (k r l : ℕ) (hk : k ≤ 129) (hn : n = 16512) (hr : r < 128) :
    Sweep.dz c (prevMask q0 k) (blockTotal c Q K n q0) (prev c Q K V D n q0 k) r l = if k = 0 then 0 else dscore c Q K V D n (128 * (k - 1) + r) (q0 + l) := by
  cases k with
  | zero => exact congrFun (congrFun (dz_start c _) r) l
  | succ k => exact (dz_closed (by omega) (by omega) l hr).trans (if_neg (Nat.succ_ne_zero k)).symm
theorem prev_wt (k r l : ℕ) (hk : k ≤ 129) (hn : n = 16512) (hr : r < 128) :
    Sweep.wt (prevMask q0 k) (blockTotal c Q K n q0) (prev c Q K V D n q0 k) r l = if k = 0 then 0 else weight c Q K n (128 * (k - 1) + r) (q0 + l) := by
  cases k with
  | zero => exact congrFun (congrFun (wt_start _) r) l
  | succ k => exact (wt_closed (by omega) (by omega) l hr).trans (if_neg (Nat.succ_ne_zero k)).symm

/-- The three blocks of queries side by side are the 384 queries. -/
theorem beside_queries (f : ℕ → ℕ → ℝ) (g0 g1 g2 : ℕ → ℕ → ℝ) (b t q : ℕ) (h0 : ∀ l, g0 t l = f t (b + 128 * 0 + l)) (h1 : ∀ l, g1 t l = f t (b + 128 * 1 + l))
    (h2 : ∀ l, g2 t l = f t (b + 128 * 2 + l)) : beside g0 g1 g2 t q = f t (b + q) := by
  unfold beside
  split_ifs
  · rw [h0]; congr 1
  · rw [h1]; congr 1; omega
  · rw [h2]; congr 1; omega

/-- An accumulator after `k` trips: `f` the coefficients of the rows `y`. -/
def gained (old f y : ℕ → ℕ → ℝ) (b k t d : ℕ) : ℝ := old t d + if t < 128 * (k - 1) then ∑ q ∈ range 384, f t (b + q) * y (b + q) d else 0

theorem gained_in (old f y co : ℕ → ℕ → ℝ) (b k : ℕ) {t : ℕ} (ht : t < 128) (d : ℕ) (hco : ∀ q, co t q = if k = 0 then 0 else f (128 * (k - 1) + t) (b + q)) :
    gained old f y b k (128 * (k - 1) + t) d + ∑ q ∈ range 384, co t q * y (b + q) d = gained old f y b (k + 1) (128 * (k - 1) + t) d := by
  unfold gained
  rw [if_neg (by omega), add_zero]
  congr 1
  by_cases hk : k = 0
  · rw [if_neg (by omega)]
    exact Finset.sum_eq_zero fun q _ => by rw [hco, if_pos hk, zero_mul]
  · rw [if_pos (by omega)]
    exact Finset.sum_congr rfl fun q _ => by rw [hco, if_neg hk]
theorem gained_out (old f y : ℕ → ℕ → ℝ) (b k t d : ℕ) (h : t < 128 * (k - 1) ∨ 128 * (k - 1) + 128 ≤ t) : gained old f y b k t d = gained old f y b (k + 1) t d := by
  unfold gained
  congr 1
  exact if_congr (by omega) rfl rfl
end Real

/-- The mask of the block before trip `k`. -/
theorem mask_prev (i r k : ℕ) (a1 w b : BitVec 32) (ha : Affine.IsInt a1 i) (hr : Affine.IsInt w r) (hb : Affine.IsInt b k) (hi : i < 43) (hr' : r < 3) (hk : k ≤ 129) :
    IsMask (seen a1 w (Scalar.subi b 1#32)) (prevMask (384 * i + 128 * r) k) := by
  cases k with
  | zero => exact mask_none i r a1 w b ha hr hb hi hr'
  | succ k => exact mask_before i r k a1 w b ha hr hb hi hr' (by omega)

/-! ### Reading blocks of rows -/

/-- A load of 128 columns' rows from `o` on reads those rows. -/
theorem read_part {sp : Space} {R r : ℕ} {e : EltTy} (M : Memref sig .tc sp ⟨2, ![R, 128]⟩ e) (o : ℕ) (off : Fin 2 → ℕ) (ho : off = ![o, 0])
    (inb : ∀ a, off a + (![r, 128] : Fin 2 → ℕ) a ≤ (⟨2, ![R, 128]⟩ : Shape).size a) (X : BufTy.Contents (Elt Ideal) M.view.ty)
    (Y : (⟨2, ![R, 128]⟩ : Shape).Idx → Elt Ideal e) (Z : (⟨2, ![r, 128]⟩ : Shape).Idx → Elt Ideal e) (hX : M.view.read (Elt Ideal) X = Y)
    (hYZ : ∀ y z, (y 0).val = o + (z 0).val → (y 1).val = (z 1).val → Y y = Z z) :
    M.view.readAt (Elt Ideal) (Rect.unit (s := ⟨2, ![R, 128]⟩) off ![r, 128] inb).toLoadRect X = Z := by
  subst ho
  funext j
  rw [View.readAt_apply, hX]
  refine hYZ _ _ ?_ ?_
  · show o + 1 * (j 0).val = o + (j 0).val
    omega
  · show 0 + 1 * (j 1).val = (j 1).val
    omega

theorem mat_part {φ : FTy} {R r : ℕ} (f : ℕ → ℕ → ℝ) (o : ℕ) (y : (⟨2, ![R, 128]⟩ : Shape).Idx) (z : (⟨2, ![r, 128]⟩ : Shape).Idx) (h0 : (y 0).val = o + (z 0).val) (h1 : (y 1).val = (z 1).val) :
    mat (φ := φ) f y = mat (φ := φ) (fun t d => f (o + t) d) z := by
  unfold mat
  rw [h0, h1]

theorem read_rows {sp : Space} {R r : ℕ} (M : Memref sig .tc sp ⟨2, ![R, 128]⟩ .bf16) (o : ℕ) (off : Fin 2 → ℕ) (ho : off = ![o, 0])
    (inb : ∀ a, off a + (![r, 128] : Fin 2 → ℕ) a ≤ (⟨2, ![R, 128]⟩ : Shape).size a) (X : BufTy.Contents (Elt Ideal) M.view.ty) (f : ℕ → ℕ → ℝ) (hX : M.view.read (Elt Ideal) X = mat (φ := .bf16) f) :
    M.view.readAt (Elt Ideal) (Rect.unit (s := ⟨2, ![R, 128]⟩) off ![r, 128] inb).toLoadRect X = mat (φ := .bf16) (a := r) (b := 128) fun t d => f (o + t) d :=
  read_part M o off ho inb X _ _ hX (mat_part f o)
theorem read_rows32 {sp : Space} {R r : ℕ} (M : Memref sig .tc sp ⟨2, ![R, 128]⟩ .f32) (o : ℕ) (off : Fin 2 → ℕ) (ho : off = ![o, 0])
    (inb : ∀ a, off a + (![r, 128] : Fin 2 → ℕ) a ≤ (⟨2, ![R, 128]⟩ : Shape).size a) (X : BufTy.Contents (Elt Ideal) M.view.ty) (f : ℕ → ℕ → ℝ) (hX : M.view.read (Elt Ideal) X = mat (φ := .f32) f) :
    M.view.readAt (Elt Ideal) (Rect.unit (s := ⟨2, ![R, 128]⟩) off ![r, 128] inb).toLoadRect X = mat (φ := .f32) (a := r) (b := 128) fun t d => f (o + t) d :=
  read_part M o off ho inb X _ _ hX (mat_part f o)

/-- A store of 128 rows from `o` on. -/
theorem read_store {sp : Space} {R : ℕ} (M : Memref sig .tc sp ⟨2, ![R, 128]⟩ .f32) (o : ℕ) (off : Fin 2 → ℕ) (ho : off = ![o, 0])
    (inb : ∀ a, off a + (![128, 128] : Fin 2 → ℕ) a ≤ (⟨2, ![R, 128]⟩ : Shape).size a) (X : BufTy.Contents (Elt Ideal) M.view.ty) (L : List (View.Piece (Elt Ideal) ⟨2, ![R, 128]⟩ .f32))
    (f g h : ℕ → ℕ → ℝ) (hX : M.view.read (Elt Ideal) (M.view.writes (Elt Ideal) X L) = mat (φ := .f32) f)
    (hin : ∀ t < 128, ∀ d, g t d = h (o + t) d) (hout : ∀ t d, t < o ∨ o + 128 ≤ t → f t d = h t d) :
    M.view.read (Elt Ideal) (M.view.writes (Elt Ideal) X (⟨Rect.unit (s := ⟨2, ![R, 128]⟩) off ![128, 128] inb, mat (φ := .f32) (a := 128) (b := 128) g⟩ :: L)) = mat (φ := .f32) h := by
  funext y
  have hy1 : (y 1).val < 128 := (y 1).isLt
  rw [View.read_writes_cons_unit _ _ inb _ L y ho]
  split_ifs with hc
  · have h0 := hc 0
    have h0 : o ≤ (y 0).val ∧ (y 0).val < o + 128 := h0
    show ((g ((y 0).val - o) ((y 1).val - 0) : ℝ) : EReal) = ((h (y 0).val (y 1).val : ℝ) : EReal)
    rw [hin _ (by omega)]
    congr 2
    omega
  · rw [hX]
    show ((f (y 0).val (y 1).val : ℝ) : EReal) = ((h (y 0).val (y 1).val : ℝ) : EReal)
    rw [hout]
    by_contra hn
    refine hc fun a => ?_
    match a with
    | 0 => exact ⟨by show o ≤ _; omega, by show _ < o + 128; omega⟩
    | 1 => exact ⟨Nat.zero_le _, by show _ < 0 + 128; omega⟩

/-! ### A trip -/

section Trips
variable {F : FTy → Type} [FloatOps F]
variable (c : Dev nD) (i : grid0.Coords) (arg2 : Memref sig .tc .smem S8x43 .i32) (harg2 : arg2.IsWhole) (arg3 : Memref sig .tc .vmem S384x128 .bf16) (harg3 : arg3.IsWhole) (arg4 : Memref sig .tc .vmem S16512x128 .bf16) (harg4 : arg4.IsWhole) (arg5 : Memref sig .tc .vmem S16512x128 .bf16) (harg5 : arg5.IsWhole) (arg6 : Memref sig .tc .vmem S1x1x8x128 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S16512x128 .f32) (harg9 : arg9.IsWhole) (arg10 : Memref sig .tc .vmem S16512x128 .f32) (harg10 : arg10.IsWhole)
  (x1 : Vec F S384x128 .bf16) (x2 : Vec F S16512x128 .bf16) (x3 : Vec F S16512x128 .bf16) (x4 : Vec F S1x1x8x128 .f32) (x5 : Vec F S384x128 .f32)
  (G9 : BufTy.Contents (Elt F) arg9.view.ty) (G10 : BufTy.Contents (Elt F) arg10.view.ty)

/-- The sweep from block 0. -/
abbrev swept (k : ℕ) := sweep c i arg2 harg2 arg3 harg3 arg4 harg4 arg5 harg5 arg6 harg6 arg7 harg7 arg8 harg8 arg9 harg9 arg10 harg10 x1 x2 x3 x4 x5 0#32 (chk_zero i) G9 G10 k

theorem swept_zero : swept c i arg2 harg2 arg3 harg3 arg4 harg4 arg5 harg5 arg6 harg6 arg7 harg7 arg8 harg8 arg9 harg9 arg10 harg10 x1 x2 x3 x4 x5 G9 G10 0 = (opening (q0 arg3 harg3 x1) (q1 arg3 harg3 x1) (q2 arg3 harg3 x1), [], []) := rfl

theorem swept_succ (k : Fin (k0_t1_loop i 0#32).trips) : swept c i arg2 harg2 arg3 harg3 arg4 harg4 arg5 harg5 arg6 harg6 arg7 harg7 arg8 harg8 arg9 harg9 arg10 harg10 x1 x2 x3 x4 x5 G9 G10 (k.val + 1)
    = (next (BitVec.ofNat 32 (i 1).val) (Scf.iv 0#32 1#32 k) (arg4.view.readAt (Elt F) (here i 0#32 (chk_zero i) k) (harg4.unread x2)) (arg5.view.readAt (Elt F) (here i 0#32 (chk_zero i) k) (harg5.unread x3))
          (arg4.view.readAt (Elt F) (behind i 0#32 (chk_zero i) k).toLoadRect (harg4.unread x2)) (q0 arg3 harg3 x1) (q1 arg3 harg3 x1) (q2 arg3 harg3 x1) (g0 arg7 harg7 x5) (g1 arg7 harg7 x5) (g2 arg7 harg7 x5)
          (asRow (a0 arg6 harg6 x4)) (asRow (a1 arg6 harg6 x4)) (asRow (a2 arg6 harg6 x4)) (swept c i arg2 harg2 arg3 harg3 arg4 harg4 arg5 harg5 arg6 harg6 arg7 harg7 arg8 harg8 arg9 harg9 arg10 harg10 x1 x2 x3 x4 x5 G9 G10 k.val).1,
        ⟨behind i 0#32 (chk_zero i) k, nextK (BitVec.ofNat 32 (i 1).val) (Scf.iv 0#32 1#32 k)
            (arg9.view.readAt (Elt F) (behind i 0#32 (chk_zero i) k).toLoadRect (arg9.view.writes (Elt F) G9 (swept c i arg2 harg2 arg3 harg3 arg4 harg4 arg5 harg5 arg6 harg6 arg7 harg7 arg8 harg8 arg9 harg9 arg10 harg10 x1 x2 x3 x4 x5 G9 G10 k.val).2.1)) (qs arg3 harg3 x1)
            (asRow (a0 arg6 harg6 x4)) (asRow (a1 arg6 harg6 x4)) (asRow (a2 arg6 harg6 x4)) (swept c i arg2 harg2 arg3 harg3 arg4 harg4 arg5 harg5 arg6 harg6 arg7 harg7 arg8 harg8 arg9 harg9 arg10 harg10 x1 x2 x3 x4 x5 G9 G10 k.val).1⟩ :: (swept c i arg2 harg2 arg3 harg3 arg4 harg4 arg5 harg5 arg6 harg6 arg7 harg7 arg8 harg8 arg9 harg9 arg10 harg10 x1 x2 x3 x4 x5 G9 G10 k.val).2.1,
        ⟨behind i 0#32 (chk_zero i) k, nextV (BitVec.ofNat 32 (i 1).val) (Scf.iv 0#32 1#32 k)
            (arg10.view.readAt (Elt F) (behind i 0#32 (chk_zero i) k).toLoadRect (arg10.view.writes (Elt F) G10 (swept c i arg2 harg2 arg3 harg3 arg4 harg4 arg5 harg5 arg6 harg6 arg7 harg7 arg8 harg8 arg9 harg9 arg10 harg10 x1 x2 x3 x4 x5 G9 G10 k.val).2.2)) (gs arg7 harg7 x5)
            (asRow (a0 arg6 harg6 x4)) (asRow (a1 arg6 harg6 x4)) (asRow (a2 arg6 harg6 x4)) (swept c i arg2 harg2 arg3 harg3 arg4 harg4 arg5 harg5 arg6 harg6 arg7 harg7 arg8 harg8 arg9 harg9 arg10 harg10 x1 x2 x3 x4 x5 G9 G10 k.val).1⟩ :: (swept c i arg2 harg2 arg3 harg3 arg4 harg4 arg5 harg5 arg6 harg6 arg7 harg7 arg8 harg8 arg9 harg9 arg10 harg10 x1 x2 x3 x4 x5 G9 G10 k.val).2.2) := by
  unfold swept sweep
  rw [st_k0_t1_succ]
  unfold tripR_k0_t1 tripL_k0_t1
  rw [trip_next, trip_key, trip_value]
  rfl
end Trips

/-! ### All the trips -/

section Whole
variable (c : Dev nD) (i : grid0.Coords) (arg2 : Memref sig .tc .smem S8x43 .i32) (harg2 : arg2.IsWhole) (arg3 : Memref sig .tc .vmem S384x128 .bf16) (harg3 : arg3.IsWhole) (arg4 : Memref sig .tc .vmem S16512x128 .bf16) (harg4 : arg4.IsWhole) (arg5 : Memref sig .tc .vmem S16512x128 .bf16) (harg5 : arg5.IsWhole) (arg6 : Memref sig .tc .vmem S1x1x8x128 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S16512x128 .f32) (harg9 : arg9.IsWhole) (arg10 : Memref sig .tc .vmem S16512x128 .f32) (harg10 : arg10.IsWhole)
  (x4 : Vec Ideal S1x1x8x128 .f32) (G9 : BufTy.Contents (Elt Ideal) arg9.view.ty) (G10 : BufTy.Contents (Elt Ideal) arg10.view.ty)
  (Q K V D oldK oldV : ℕ → ℕ → ℝ)

/-- The total of each query, in the rows of the block of totals. -/
def IsTotals (x4 : Vec Ideal S1x1x8x128 .f32) (Q K : ℕ → ℕ → ℝ) (b : ℕ) : Prop :=
  ∀ j : S1x1x8x128.Idx, (j 2).val < 3 → x4 j = ((blockTotal cst Q K 16512 (b + 128 * (j 2).val) (j 3).val : ℝ) : EReal)

/-- The block of queries and of the cotangent at this point. -/
abbrev rowsFrom (φ : FTy) (Q : ℕ → ℕ → ℝ) (b : ℕ) : FVec Ideal S384x128 φ := mat fun l d => Q (b + l) d

theorem q0_mat (b : ℕ) : q0 arg3 harg3 (rowsFrom .bf16 Q b) = mat fun l d => Q (b + 128 * 0 + l) d := by
  unfold q0; rw [read_rows arg3 0 _ rfl _ _ _ (harg3.read_unread _)]; simp only [Nat.mul_zero, Nat.mul_one, Nat.zero_add, Nat.add_zero]
theorem q1_mat (b : ℕ) : q1 arg3 harg3 (rowsFrom .bf16 Q b) = mat fun l d => Q (b + 128 * 1 + l) d := by
  unfold q1; rw [read_rows arg3 128 _ rfl _ _ _ (harg3.read_unread _)]; simp only [Nat.mul_one, Nat.add_assoc]
theorem q2_mat (b : ℕ) : q2 arg3 harg3 (rowsFrom .bf16 Q b) = mat fun l d => Q (b + 128 * 2 + l) d := by
  unfold q2; rw [read_rows arg3 256 _ rfl _ _ _ (harg3.read_unread _)]; simp only [Nat.add_assoc]
theorem qs_mat (b : ℕ) : qs arg3 harg3 (rowsFrom .bf16 Q b) = mat fun l d => Q (b + l) d := by
  unfold qs; rw [read_rows arg3 0 _ rfl _ _ _ (harg3.read_unread _)]; simp only [Nat.zero_add]
theorem g0_mat (b : ℕ) : g0 arg7 harg7 (rowsFrom .f32 D b) = mat fun l d => D (b + 128 * 0 + l) d := by
  unfold g0; rw [read_rows32 arg7 0 _ rfl _ _ _ (harg7.read_unread _)]; simp only [Nat.mul_zero, Nat.mul_one, Nat.zero_add, Nat.add_zero]; rfl
theorem g1_mat (b : ℕ) : g1 arg7 harg7 (rowsFrom .f32 D b) = mat fun l d => D (b + 128 * 1 + l) d := by
  unfold g1; rw [read_rows32 arg7 128 _ rfl _ _ _ (harg7.read_unread _)]; simp only [Nat.mul_one, Nat.add_assoc]; rfl
theorem g2_mat (b : ℕ) : g2 arg7 harg7 (rowsFrom .f32 D b) = mat fun l d => D (b + 128 * 2 + l) d := by
  unfold g2; rw [read_rows32 arg7 256 _ rfl _ _ _ (harg7.read_unread _)]; simp only [Nat.add_assoc]; rfl
theorem gs_mat (b : ℕ) : gs arg7 harg7 (rowsFrom .f32 D b) = mat fun l d => D (b + l) d := by
  unfold gs; rw [read_rows32 arg7 0 _ rfl _ _ _ (harg7.read_unread _)]; simp only [Nat.zero_add]; rfl

theorem row_of (b r : ℕ) (hr : r < 3) (h4 : IsTotals x4 Q K b) (inb) :
    asRow (arg6.view.readAt (Elt Ideal) (Rect.unit (s := S1x1x8x128) ![0, 0, r, 0] S1x1x1x128.size inb).toLoadRect (harg6.unread x4)) = row (blockTotal cst Q K 16512 (b + 128 * r)) := by
  funext j
  pointwise [row]
  rw [View.readAt_apply, harg6.read_unread, h4 _ (by show r + 1 * 0 < 3; omega)]
  show ((blockTotal cst Q K 16512 (b + 128 * (r + 1 * 0)) (0 + 1 * (j 1).val) : ℝ) : EReal) = _
  rw [Nat.mul_zero, Nat.add_zero, Nat.one_mul, Nat.zero_add]

theorem cleared_mat (f : ℕ → ℕ → ℝ) : cleared (F := Ideal) (mat (φ := .bf16) f) = mat fun _ _ => 0 := by
  funext j
  pointwise [cleared, mat, zeros]
  exact mul_zero _

/-- After `k` trips. -/
theorem swept_mat (h4 : IsTotals x4 Q K (384 * (i 1).val)) (h9 : arg9.view.read (Elt Ideal) G9 = mat (φ := .f32) oldK) (h10 : arg10.view.read (Elt Ideal) G10 = mat (φ := .f32) oldV)
    (k : ℕ) (hk : k ≤ 3 * (i 1).val + 4) :
    (swept c i arg2 harg2 arg3 harg3 arg4 harg4 arg5 harg5 arg6 harg6 arg7 harg7 arg8 harg8 arg9 harg9 arg10 harg10 (rowsFrom .bf16 Q (384 * (i 1).val)) (mat (φ := .bf16) K) (mat (φ := .bf16) V) x4 (rowsFrom .f32 D (384 * (i 1).val)) G9 G10 k).1
      = carried (prev cst Q K V D 16512 (384 * (i 1).val + 128 * 0) k) (prev cst Q K V D 16512 (384 * (i 1).val + 128 * 1) k) (prev cst Q K V D 16512 (384 * (i 1).val + 128 * 2) k)
    ∧ arg9.view.read (Elt Ideal) (arg9.view.writes (Elt Ideal) G9 (swept c i arg2 harg2 arg3 harg3 arg4 harg4 arg5 harg5 arg6 harg6 arg7 harg7 arg8 harg8 arg9 harg9 arg10 harg10 (rowsFrom .bf16 Q (384 * (i 1).val)) (mat (φ := .bf16) K) (mat (φ := .bf16) V) x4 (rowsFrom .f32 D (384 * (i 1).val)) G9 G10 k).2.1)
      = mat (φ := .f32) (gained oldK (dscore cst Q K V D 16512) Q (384 * (i 1).val) k)
    ∧ arg10.view.read (Elt Ideal) (arg10.view.writes (Elt Ideal) G10 (swept c i arg2 harg2 arg3 harg3 arg4 harg4 arg5 harg5 arg6 harg6 arg7 harg7 arg8 harg8 arg9 harg9 arg10 harg10 (rowsFrom .bf16 Q (384 * (i 1).val)) (mat (φ := .bf16) K) (mat (φ := .bf16) V) x4 (rowsFrom .f32 D (384 * (i 1).val)) G9 G10 k).2.2)
      = mat (φ := .f32) (gained oldV (weight cst Q K 16512) D (384 * (i 1).val) k) := by
  have hi : (i 1).val < 43 := (i 1).isLt
  induction k with
  | zero =>
    rw [swept_zero, q0_mat, q1_mat, q2_mat]
    refine ⟨?_, ?_, ?_⟩
    · unfold opening
      simp only [cleared_mat, firstRow_mat]
      rfl
    · rw [show gained oldK (dscore cst Q K V D 16512) Q (384 * (i 1).val) 0 = oldK from by funext t d; simp [gained]]
      exact h9
    · rw [show gained oldV (weight cst Q K 16512) D (384 * (i 1).val) 0 = oldV from by funext t d; simp [gained]]
      exact h10
  | succ k ih =>
    obtain ⟨e1, e9, e10⟩ := ih (by omega)
    have hlt : k < (k0_t1_loop i 0#32).trips := by rw [trips_eq]; omega
    have hs := swept_succ c i arg2 harg2 arg3 harg3 arg4 harg4 arg5 harg5 arg6 harg6 arg7 harg7 arg8 harg8 arg9 harg9 arg10 harg10 (rowsFrom .bf16 Q (384 * (i 1).val)) (mat (φ := .bf16) K) (mat (φ := .bf16) V) x4 (rowsFrom .f32 D (384 * (i 1).val)) G9 G10 ⟨k, hlt⟩
    dsimp only at hs
    have hw : Affine.IsInt (Scf.iv 0#32 1#32 k) (k : Int) := (iv_int i ⟨k, hlt⟩).1
    have ha : Affine.IsInt (BitVec.ofNat 32 (i 1).val) ((i 1).val : Int) := Affine.ofNat _ (by omega)
    have m0 := mask_prev (i 1).val 0 k _ _ _ ha zero_int hw hi (by omega) (by omega)
    have m1 := mask_prev (i 1).val 1 k _ _ _ ha one_int hw hi (by omega) (by omega)
    have m2 := mask_prev (i 1).val 2 k _ _ _ ha w2_int hw hi (by omega) (by omega)
    have n0 := mask_here (i 1).val 0 k _ _ _ ha zero_int hw hi (by omega) (by omega)
    have n1 := mask_here (i 1).val 1 k _ _ _ ha one_int hw hi (by omega) (by omega)
    have n2 := mask_here (i 1).val 2 k _ _ _ ha w2_int hw hi (by omega) (by omega)
    have r0 : asRow (a0 arg6 harg6 x4) = row (blockTotal cst Q K 16512 (384 * (i 1).val + 128 * 0)) := row_of arg6 harg6 x4 Q K _ 0 (by omega) h4 _
    have r1 : asRow (a1 arg6 harg6 x4) = row (blockTotal cst Q K 16512 (384 * (i 1).val + 128 * 1)) := row_of arg6 harg6 x4 Q K _ 1 (by omega) h4 _
    have r2 : asRow (a2 arg6 harg6 x4) = row (blockTotal cst Q K 16512 (384 * (i 1).val + 128 * 2)) := row_of arg6 harg6 x4 Q K _ 2 (by omega) h4 _
    have b4 : arg4.view.readAt (Elt Ideal) (here i 0#32 (chk_zero i) ⟨k, hlt⟩) (harg4.unread (mat (φ := .bf16) K)) = mat fun t d => K (128 * min 128 k + t) d :=
      read_rows arg4 _ _ (off2_eq i ⟨k, hlt⟩) _ _ _ (harg4.read_unread _)
    have b5 : arg5.view.readAt (Elt Ideal) (here i 0#32 (chk_zero i) ⟨k, hlt⟩) (harg5.unread (mat (φ := .bf16) V)) = mat fun t d => V (128 * min 128 k + t) d :=
      read_rows arg5 _ _ (off2_eq i ⟨k, hlt⟩) _ _ _ (harg5.read_unread _)
    have p4 : arg4.view.readAt (Elt Ideal) (behind i 0#32 (chk_zero i) ⟨k, hlt⟩).toLoadRect (harg4.unread (mat (φ := .bf16) K)) = mat fun t d => K (128 * (k - 1) + t) d :=
      read_rows arg4 _ _ (off3_eq i ⟨k, hlt⟩) _ _ _ (harg4.read_unread _)
    have p9 := read_rows32 (r := 128) arg9 _ _ (off3_eq i ⟨k, hlt⟩) (k0_off3_inb i 0#32 (chk_zero i) ⟨k, hlt⟩) _ _ e9
    have p10 := read_rows32 (r := 128) arg10 _ _ (off3_eq i ⟨k, hlt⟩) (k0_off3_inb i 0#32 (chk_zero i) ⟨k, hlt⟩) _ _ e10
    rw [hs, q0_mat, q1_mat, q2_mat, g0_mat, g1_mat, g2_mat, qs_mat, gs_mat, r0, r1, r2, b4, b5, p4, e1]
    refine ⟨?_, ?_, ?_⟩
    · refine (next_mat _ _ _ _ _ _ _ _ m0 m1 m2 n0 n1 n2 _ _ _ _ _ _ _ _ _ _ _ _ _ _ _).trans ?_
      refine congr (congr (congrArg carried ?_) ?_) ?_
      · exact prev_next cst Q K V D 16512 _ k (by omega) rfl
      · exact prev_next cst Q K V D 16512 _ k (by omega) rfl
      · exact prev_next cst Q K V D 16512 _ k (by omega) rfl
    · have hp := nextK_mat _ _ _ _ _ m0 m1 m2 (blockTotal cst Q K 16512 (384 * (i 1).val + 128 * 0)) (blockTotal cst Q K 16512 (384 * (i 1).val + 128 * 1)) (blockTotal cst Q K 16512 (384 * (i 1).val + 128 * 2))
        (prev cst Q K V D 16512 (384 * (i 1).val + 128 * 0) k) (prev cst Q K V D 16512 (384 * (i 1).val + 128 * 1) k) (prev cst Q K V D 16512 (384 * (i 1).val + 128 * 2) k)
        (fun t d => gained oldK (dscore cst Q K V D 16512) Q (384 * (i 1).val) k (128 * (k - 1) + t) d) (fun l d => Q (384 * (i 1).val + l) d)
      rw [show nextK _ _ _ _ _ _ _ _ = _ from (congrArg (fun old => nextK _ _ old _ _ _ _ _) p9).trans hp]
      refine read_store arg9 _ _ (off3_eq i ⟨k, hlt⟩) _ _ _ _ _ _ e9 (fun t ht d => ?_) fun t d ht => ?_
      · exact gained_in _ _ _ _ _ k ht d fun q => beside_queries (fun _ q => if k = 0 then 0 else dscore cst Q K V D 16512 (128 * (k - 1) + t) q) _ _ _ _ t q
          (fun l => prev_dz cst Q K V D 16512 _ k t l (by omega) rfl ht) (fun l => prev_dz cst Q K V D 16512 _ k t l (by omega) rfl ht) (fun l => prev_dz cst Q K V D 16512 _ k t l (by omega) rfl ht)
      · exact gained_out _ _ _ _ k t d ht
    · have hp := nextV_mat _ _ _ _ _ m0 m1 m2 (blockTotal cst Q K 16512 (384 * (i 1).val + 128 * 0)) (blockTotal cst Q K 16512 (384 * (i 1).val + 128 * 1)) (blockTotal cst Q K 16512 (384 * (i 1).val + 128 * 2))
        (prev cst Q K V D 16512 (384 * (i 1).val + 128 * 0) k) (prev cst Q K V D 16512 (384 * (i 1).val + 128 * 1) k) (prev cst Q K V D 16512 (384 * (i 1).val + 128 * 2) k)
        (fun t d => gained oldV (weight cst Q K 16512) D (384 * (i 1).val) k (128 * (k - 1) + t) d) (fun l d => D (384 * (i 1).val + l) d)
      rw [show nextV _ _ _ _ _ _ _ _ = _ from (congrArg (fun old => nextV _ _ old _ _ _ _ _) p10).trans hp]
      refine read_store arg10 _ _ (off3_eq i ⟨k, hlt⟩) _ _ _ _ _ _ e10 (fun t ht d => ?_) fun t d ht => ?_
      · exact gained_in _ _ _ _ _ k ht d fun q => beside_queries (fun _ q => if k = 0 then 0 else weight cst Q K 16512 (128 * (k - 1) + t) q) _ _ _ _ t q
          (fun l => prev_wt cst Q K V D 16512 _ k t l (by omega) rfl ht) (fun l => prev_wt cst Q K V D 16512 _ k t l (by omega) rfl ht) (fun l => prev_wt cst Q K V D 16512 _ k t l (by omega) rfl ht)
      · exact gained_out _ _ _ _ k t d ht

/-- What the sweep leaves: the gradient of the point's queries, -/
theorem left_query (h4 : IsTotals x4 Q K (384 * (i 1).val)) (h9 : arg9.view.read (Elt Ideal) G9 = mat (φ := .f32) oldK) (h10 : arg10.view.read (Elt Ideal) G10 = mat (φ := .f32) oldV)
    {sp : Space} (M : Memref sig .tc sp S384x128 .f32) (f : BufTy.Contents (Elt Ideal) M.view.ty) :
    M.view.read (Elt Ideal) (M.view.writes (Elt Ideal) f (threeRows (swept c i arg2 harg2 arg3 harg3 arg4 harg4 arg5 harg5 arg6 harg6 arg7 harg7 arg8 harg8 arg9 harg9 arg10 harg10 (rowsFrom .bf16 Q (384 * (i 1).val)) (mat (φ := .bf16) K) (mat (φ := .bf16) V) x4 (rowsFrom .f32 D (384 * (i 1).val)) G9 G10 (3 * (i 1).val + 4)).1))
      = rowsFrom .f32 (dq cst Q K V D 16512) (384 * (i 1).val) := by
  have hi : (i 1).val < 43 := (i 1).isLt
  have e := (swept_mat c i arg2 harg2 arg3 harg3 arg4 harg4 arg5 harg5 arg6 harg6 arg7 harg7 arg8 harg8 arg9 harg9 arg10 harg10 x4 G9 G10 Q K V D oldK oldV h4 h9 h10 (3 * (i 1).val + 4) le_rfl).1
  rw [e]
  have hx : ∀ r < 3, ∀ l < 128, ∀ d, Sweep.x (prev cst Q K V D 16512 (384 * (i 1).val + 128 * r) (3 * (i 1).val + 4)) l d = dq cst Q K V D 16512 (384 * (i 1).val + 128 * r + l) d := fun r hr l hl d => by
    show ∑ t ∈ range (128 * (3 * (i 1).val + 3)), _ = ∑ t ∈ range 16512, _
    refine Finset.sum_subset (fun t ht => Finset.mem_range.mpr (by have := Finset.mem_range.mp ht; omega)) fun t _ ht => ?_
    rw [dscore_of_not (fun h => ht (Finset.mem_range.mpr (by have := h.1; omega))), zero_mul]
  funext y
  refine View.read_writes_apply_of_pieces M.view f (rowsFrom .f32 (dq cst Q K V D 16512) (384 * (i 1).val)) _ ?_ y
    (View.cover_of_tiledL (threeRows _) S128x128.size (by sl_kernel_rfl) y)
  intro p hp x
  simp only [threeRows, carried, List.mem_cons, List.not_mem_nil, or_false] at hp
  have hx0 : ∀ r < 3, ∀ (x : S128x128.Idx), ((Sweep.x (prev cst Q K V D 16512 (384 * (i 1).val + 128 * r) (3 * (i 1).val + 4)) (x 0).val (x 1).val : ℝ) : EReal)
      = ((dq cst Q K V D 16512 (384 * (i 1).val + (128 * r + 1 * (x 0).val)) (0 + 1 * (x 1).val) : ℝ) : EReal) := fun r hr x => by
    rw [hx r hr _ (x 0).isLt, Nat.one_mul, Nat.one_mul, Nat.zero_add, Nat.add_assoc]
  rcases hp with rfl | rfl | rfl
  · exact hx0 2 (by omega) x
  · exact hx0 1 (by omega) x
  · exact hx0 0 (by omega) x

/-- and in the accumulators the old contents and the point's queries' contributions. -/
theorem left_rows (old f y : ℕ → ℕ → ℝ) (hf : ∀ t q, ¬Sees t q → f t q = 0) (b i : ℕ) (hb : b = 384 * i) (t d : ℕ) :
    gained old f y b (3 * i + 4) t d = old t d + ∑ q ∈ range 384, f t (b + q) * y (b + q) d := by
  unfold gained
  congr 1
  split_ifs with h
  · rfl
  · refine (Finset.sum_eq_zero fun q hq => ?_).symm
    rw [hf _ _ (fun hs => h (by have := hs.1; have := Finset.mem_range.mp hq; omega)), zero_mul]
end Whole

end Cert.KernelIdeal.Sb

end
-- ==== Proof.Fold.lean ====
/- The three outputs after each grid point, on real numbers: the point's queries' gradient, and the two accumulators' sums over the
   queries so far. -/
module

public import proofs.«01_k».proof.Proof.Whole
public import proofs.«01_k».proof.Proof.Body
public import Idealize.ShloMosaic.Lib.VecWindow
public import Idealize.ShloMosaic.Lib.Pipeline.ValueKit.Geometry

@[expose] public section

set_option maxRecDepth 16384

noncomputable section

namespace Cert.KernelIdeal.Sb

open Idealize.ShloMosaic Idealize.ShloMosaic.TcCoe Idealize.ShloMosaic.Tactic
open Idealize.SL Idealize.SL.Sem
open Idealize.ShloMosaic.Pipeline (Dat Cfg Window)
open Cert.KernelIdeal.Gen
open Cert.Stick
open Finset (range)

attribute [local irreducible] runA runB

/-! ### One point, on any buffers -/

section Point
variable (c : Dev nD) (i : grid0.Coords) (arg2 : Memref sig .tc .smem S8x43 .i32) (harg2 : arg2.IsWhole) (arg3 : Memref sig .tc .vmem S384x128 .bf16) (harg3 : arg3.IsWhole) (arg4 : Memref sig .tc .vmem S16512x128 .bf16) (harg4 : arg4.IsWhole) (arg5 : Memref sig .tc .vmem S16512x128 .bf16) (harg5 : arg5.IsWhole) (arg6 : Memref sig .tc .vmem S1x1x8x128 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S16512x128 .f32) (harg9 : arg9.IsWhole) (arg10 : Memref sig .tc .vmem S16512x128 .f32) (harg10 : arg10.IsWhole)
  (x0 : Vec Ideal S8x43 .i32) (x4 : Vec Ideal S1x1x8x128 .f32) (Q K V D : ℕ → ℕ → ℝ) (h4 : IsTotals x4 Q K (384 * (i 1).val))
  (hw : k0_chk1 i (word (F := Ideal) i arg2 harg2 x0)) (h : word (F := Ideal) i arg2 harg2 x0 = 0#32)

theorem allZero_read {sp : Space} (M : Memref sig .tc sp S16512x128 .f32) : M.view.read (Elt Ideal) (M.view.writes (Elt Ideal) M.view.junk allZero) = mat (φ := .f32) fun _ _ => 0 := by
  rw [View.read_writes_full]
  funext j
  pointwise [mat]
  rfl

section First
variable (hc0 : isFirst i)
include h h4
theorem first_query {sp : Space} (M : Memref sig .tc sp S384x128 .f32) (f : BufTy.Contents (Elt Ideal) M.view.ty) :
    M.view.read (Elt Ideal) (M.view.writes (Elt Ideal) f (runA c i arg2 harg2 arg3 harg3 arg4 harg4 arg5 harg5 arg6 harg6 arg7 harg7 arg8 harg8 arg9 harg9 arg10 harg10 hc0 x0 (rowsFrom .bf16 Q (384 * (i 1).val)) (mat (φ := .bf16) K) (mat (φ := .bf16) V) x4 (rowsFrom .f32 D (384 * (i 1).val)) hw).1)
      = rowsFrom .f32 (dq cst Q K V D 16512) (384 * (i 1).val) := by
  rw [first6 c i arg2 harg2 arg3 harg3 arg4 harg4 arg5 harg5 arg6 harg6 arg7 harg7 arg8 harg8 arg9 harg9 arg10 harg10 x0 _ _ _ _ _ hc0 hw h]
  exact left_query c i arg2 harg2 arg3 harg3 arg4 harg4 arg5 harg5 arg6 harg6 arg7 harg7 arg8 harg8 arg9 harg9 arg10 harg10 x4 _ _ Q K V D _ _ h4 (allZero_read arg9) (allZero_read arg10) M f
theorem first_key :
    arg9.view.read (Elt Ideal) (arg9.view.writes (Elt Ideal) arg9.view.junk (runA c i arg2 harg2 arg3 harg3 arg4 harg4 arg5 harg5 arg6 harg6 arg7 harg7 arg8 harg8 arg9 harg9 arg10 harg10 hc0 x0 (rowsFrom .bf16 Q (384 * (i 1).val)) (mat (φ := .bf16) K) (mat (φ := .bf16) V) x4 (rowsFrom .f32 D (384 * (i 1).val)) hw).2.1)
      = mat (φ := .f32) (gained (fun _ _ => 0) (dscore cst Q K V D 16512) Q (384 * (i 1).val) (3 * (i 1).val + 4)) := by
  rw [first7 c i arg2 harg2 arg3 harg3 arg4 harg4 arg5 harg5 arg6 harg6 arg7 harg7 arg8 harg8 arg9 harg9 arg10 harg10 x0 _ _ _ _ _ hc0 hw h, View.writes_append]
  exact (swept_mat c i arg2 harg2 arg3 harg3 arg4 harg4 arg5 harg5 arg6 harg6 arg7 harg7 arg8 harg8 arg9 harg9 arg10 harg10 x4 _ _ Q K V D _ _ h4 (allZero_read arg9) (allZero_read arg10) _ le_rfl).2.1
theorem first_value :
    arg10.view.read (Elt Ideal) (arg10.view.writes (Elt Ideal) arg10.view.junk (runA c i arg2 harg2 arg3 harg3 arg4 harg4 arg5 harg5 arg6 harg6 arg7 harg7 arg8 harg8 arg9 harg9 arg10 harg10 hc0 x0 (rowsFrom .bf16 Q (384 * (i 1).val)) (mat (φ := .bf16) K) (mat (φ := .bf16) V) x4 (rowsFrom .f32 D (384 * (i 1).val)) hw).2.2.1)
      = mat (φ := .f32) (gained (fun _ _ => 0) (weight cst Q K 16512) D (384 * (i 1).val) (3 * (i 1).val + 4)) := by
  rw [first8 c i arg2 harg2 arg3 harg3 arg4 harg4 arg5 harg5 arg6 harg6 arg7 harg7 arg8 harg8 arg9 harg9 arg10 harg10 x0 _ _ _ _ _ hc0 hw h, View.writes_append]
  exact (swept_mat c i arg2 harg2 arg3 harg3 arg4 harg4 arg5 harg5 arg6 harg6 arg7 harg7 arg8 harg8 arg9 harg9 arg10 harg10 x4 _ _ Q K V D _ _ h4 (allZero_read arg9) (allZero_read arg10) _ le_rfl).2.2
end First

section Later
variable (hc0 : ¬isFirst i) (oldK oldV : ℕ → ℕ → ℝ)
include h h4
theorem later_query {sp : Space} (M : Memref sig .tc sp S384x128 .f32) (f : BufTy.Contents (Elt Ideal) M.view.ty) :
    M.view.read (Elt Ideal) (M.view.writes (Elt Ideal) f (runB c i arg2 harg2 arg3 harg3 arg4 harg4 arg5 harg5 arg6 harg6 arg7 harg7 arg8 harg8 arg9 harg9 arg10 harg10 hc0 x0 (rowsFrom .bf16 Q (384 * (i 1).val)) (mat (φ := .bf16) K) (mat (φ := .bf16) V) x4 (rowsFrom .f32 D (384 * (i 1).val)) hw (mat (φ := .f32) oldK) (mat (φ := .f32) oldV)).1)
      = rowsFrom .f32 (dq cst Q K V D 16512) (384 * (i 1).val) := by
  rw [later6 c i arg2 harg2 arg3 harg3 arg4 harg4 arg5 harg5 arg6 harg6 arg7 harg7 arg8 harg8 arg9 harg9 arg10 harg10 x0 _ _ _ _ _ hc0 hw _ _ h]
  exact left_query c i arg2 harg2 arg3 harg3 arg4 harg4 arg5 harg5 arg6 harg6 arg7 harg7 arg8 harg8 arg9 harg9 arg10 harg10 x4 _ _ Q K V D _ _ h4 (harg9.read_unread _) (harg10.read_unread _) M f
theorem later_key :
    arg9.view.read (Elt Ideal) (arg9.view.writes (Elt Ideal) (harg9.unread (mat (φ := .f32) oldK)) (runB c i arg2 harg2 arg3 harg3 arg4 harg4 arg5 harg5 arg6 harg6 arg7 harg7 arg8 harg8 arg9 harg9 arg10 harg10 hc0 x0 (rowsFrom .bf16 Q (384 * (i 1).val)) (mat (φ := .bf16) K) (mat (φ := .bf16) V) x4 (rowsFrom .f32 D (384 * (i 1).val)) hw (mat (φ := .f32) oldK) (mat (φ := .f32) oldV)).2.1)
      = mat (φ := .f32) (gained oldK (dscore cst Q K V D 16512) Q (384 * (i 1).val) (3 * (i 1).val + 4)) := by
  rw [later7 c i arg2 harg2 arg3 harg3 arg4 harg4 arg5 harg5 arg6 harg6 arg7 harg7 arg8 harg8 arg9 harg9 arg10 harg10 x0 _ _ _ _ _ hc0 hw _ _ h]
  exact (swept_mat c i arg2 harg2 arg3 harg3 arg4 harg4 arg5 harg5 arg6 harg6 arg7 harg7 arg8 harg8 arg9 harg9 arg10 harg10 x4 _ _ Q K V D _ _ h4 (harg9.read_unread _) (harg10.read_unread _) _ le_rfl).2.1
theorem later_value :
    arg10.view.read (Elt Ideal) (arg10.view.writes (Elt Ideal) (harg10.unread (mat (φ := .f32) oldV)) (runB c i arg2 harg2 arg3 harg3 arg4 harg4 arg5 harg5 arg6 harg6 arg7 harg7 arg8 harg8 arg9 harg9 arg10 harg10 hc0 x0 (rowsFrom .bf16 Q (384 * (i 1).val)) (mat (φ := .bf16) K) (mat (φ := .bf16) V) x4 (rowsFrom .f32 D (384 * (i 1).val)) hw (mat (φ := .f32) oldK) (mat (φ := .f32) oldV)).2.2.1)
      = mat (φ := .f32) (gained oldV (weight cst Q K 16512) D (384 * (i 1).val) (3 * (i 1).val + 4)) := by
  rw [later8 c i arg2 harg2 arg3 harg3 arg4 harg4 arg5 harg5 arg6 harg6 arg7 harg7 arg8 harg8 arg9 harg9 arg10 harg10 x0 _ _ _ _ _ hc0 hw _ _ h]
  exact (swept_mat c i arg2 harg2 arg3 harg3 arg4 harg4 arg5 harg5 arg6 harg6 arg7 harg7 arg8 harg8 arg9 harg9 arg10 harg10 x4 _ _ Q K V D _ _ h4 (harg9.read_unread _) (harg10.read_unread _) _ le_rfl).2.2
end Later
end Point

/-! ### The blocks of the arguments -/

/-- Head `h`'s columns of the queries, the keys and the values in one array, and of the cotangent. -/
def headQ (X : ℕ → ℕ → ℝ) (h q d : ℕ) : ℝ := X q (h * 128 + d)
def headK (X : ℕ → ℕ → ℝ) (h t d : ℕ) : ℝ := X t ((8 + h) * 128 + d)
def headV (X : ℕ → ℕ → ℝ) (h t d : ℕ) : ℝ := X t ((16 + h) * 128 + d)

theorem index1 : ∀ t : Fin cfg0.N, win0_1.index t = ![t.val % 43, t.val / 43] := (by decide +kernel : ∀ t : Fin grid0.N, _)
theorem index2 : ∀ t : Fin cfg0.N, win0_2.index t = ![0, 8 + t.val / 43] := (by decide +kernel : ∀ t : Fin grid0.N, _)
theorem index3 : ∀ t : Fin cfg0.N, win0_3.index t = ![0, 16 + t.val / 43] := (by decide +kernel : ∀ t : Fin grid0.N, _)
theorem index4 : ∀ t : Fin cfg0.N, win0_4.index t = ![t.val / 43, t.val % 43, 0, 0] := (by decide +kernel : ∀ t : Fin grid0.N, _)
theorem index5 : ∀ t : Fin cfg0.N, win0_5.index t = ![t.val % 43, t.val / 43] := (by decide +kernel : ∀ t : Fin grid0.N, _)
theorem index6 : ∀ t : Fin cfg0.N, win0_6.index t = ![t.val % 43, t.val / 43] := (by decide +kernel : ∀ t : Fin grid0.N, _)
theorem index7 : ∀ t : Fin cfg0.N, win0_7.index t = ![0, t.val / 43] := (by decide +kernel : ∀ t : Fin grid0.N, _)
theorem index8 : ∀ t : Fin cfg0.N, win0_8.index t = ![0, t.val / 43] := (by decide +kernel : ∀ t : Fin grid0.N, _)
theorem coord1 (t : Fin cfg0.N) : (grid0.coords t 1).val = t.val % 43 := by
  have e1 : (grid0.coords t 1).val = t.val / 1 % 43 := Pipeline.Grid.coords_val t 1 (by decide) rfl
  rw [e1, Nat.div_one]

section Run
variable (m : (ℓ : Loc nD τ sig) → Buf (Elt Ideal) ℓ) (c : Dev nD) (X Y : ℕ → ℕ → ℝ)
  (hX : m ((c.tc : Thread nD τ).loc main_arg0) = (mat (φ := .bf16) X : FVec Ideal S16512x3072 .bf16))
  (hY : m ((c.tc : Thread nD τ).loc main_arg1) = (mat (φ := .f32) Y : FVec Ideal S16512x1024 .f32))

include hX in
theorem block1 (t : Fin cfg0.N) : iblk m c 1 t = (rowsFrom .bf16 (headQ X (t.val / 43)) (384 * (t.val % 43)) : FVec Ideal S384x128 .bf16) := by
  funext y
  blk_simp [iblk, index1]
  rw [V_main_arg0, show m (_ : Loc nD τ sig) = _ from hX]
  show (((X (((cfg0.win 1).blk t).view.emb y 0).val (((cfg0.win 1).blk t).view.emb y 1).val : ℝ)) : EReal) = ((X (384 * (t.val % 43) + (y 0).val) (t.val / 43 * 128 + (y 1).val) : ℝ) : EReal)
  blk_simp [index1]
  rw [Nat.mul_comm 384]
include hX in
theorem block2 (t : Fin cfg0.N) : iblk m c 2 t = (mat (φ := .bf16) (headK X (t.val / 43)) : FVec Ideal S16512x128 .bf16) := by
  funext y
  blk_simp [iblk, index2]
  rw [V_main_arg0, show m (_ : Loc nD τ sig) = _ from hX]
  show (((X (((cfg0.win 2).blk t).view.emb y 0).val (((cfg0.win 2).blk t).view.emb y 1).val : ℝ)) : EReal) = ((X (y 0).val ((8 + t.val / 43) * 128 + (y 1).val) : ℝ) : EReal)
  blk_simp [index2]
include hX in
theorem block3 (t : Fin cfg0.N) : iblk m c 3 t = (mat (φ := .bf16) (headV X (t.val / 43)) : FVec Ideal S16512x128 .bf16) := by
  funext y
  blk_simp [iblk, index3]
  rw [V_main_arg0, show m (_ : Loc nD τ sig) = _ from hX]
  show (((X (((cfg0.win 3).blk t).view.emb y 0).val (((cfg0.win 3).blk t).view.emb y 1).val : ℝ)) : EReal) = ((X (y 0).val ((16 + t.val / 43) * 128 + (y 1).val) : ℝ) : EReal)
  blk_simp [index3]
include hY in
theorem block5 (t : Fin cfg0.N) : iblk m c 5 t = (rowsFrom .f32 (headQ Y (t.val / 43)) (384 * (t.val % 43)) : FVec Ideal S384x128 .f32) := by
  funext y
  blk_simp [iblk, index5]
  rw [V_main_arg1, show m (_ : Loc nD τ sig) = _ from hY]
  show (((Y (((cfg0.win 5).blk t).view.emb y 0).val (((cfg0.win 5).blk t).view.emb y 1).val : ℝ)) : EReal) = ((Y (384 * (t.val % 43) + (y 0).val) (t.val / 43 * 128 + (y 1).val) : ℝ) : EReal)
  blk_simp [index5]
  rw [Nat.mul_comm 384]

/-- The array of the totals: one row for each block of 128 queries, three to a group of eight rows. -/
def TotalsAre : Prop :=
  ∀ j : S8x43x8x128.Idx, (j 2).val < 3 →
    (V m c main_v25 : FVec Ideal S8x43x8x128 .f32) j
      = ((total cst (headQ X (j 0).val) (headK X (j 0).val) 16512 (384 * (j 1).val + 128 * (j 2).val + (j 3).val) : ℝ) : EReal)

variable (hT : TotalsAre m c X)
include hT in
theorem block4 (t : Fin cfg0.N) : IsTotals (iblk m c 4 t) (headQ X (t.val / 43)) (headK X (t.val / 43)) (384 * (t.val % 43)) := by
  intro y hy
  have h2 : (((cfg0.win 4).blk t).view.emb y 2).val = (y 2).val := by blk_simp [index4]
  have h3 : (((cfg0.win 4).blk t).view.emb y 3).val = (y 3).val := by blk_simp [index4]
  have h0 : (((cfg0.win 4).blk t).view.emb y 0).val = t.val / 43 := by
    have : (y 0).val < 1 := (y 0).isLt
    blk_simp [index4]
  have h1 : (((cfg0.win 4).blk t).view.emb y 1).val = t.val % 43 := by
    have : (y 1).val < 1 := (y 1).isLt
    blk_simp [index4]
  have key := hT (((cfg0.win 4).blk t).view.emb y) (by rw [h2]; exact hy)
  rw [h0, h1, h2, h3] at key
  exact key

/-- A sum over the first `n` queries. -/
def upTo (f y : ℕ → ℕ → ℝ) (n : ℕ) (t d : ℕ) : ℝ := ∑ q ∈ range n, f t q * y q d

theorem gained_first (f y : ℕ → ℕ → ℝ) (hf : ∀ t q, ¬Sees t q → f t q = 0) (b i : ℕ) (hi : i = 0) (hb : b = 384 * i) :
    gained (fun _ _ => 0) f y b (3 * i + 4) = upTo f y (384 * (i + 1)) := by
  funext t d
  rw [left_rows _ f y hf b i hb, hb, hi]
  simp [upTo]
theorem gained_later (f y : ℕ → ℕ → ℝ) (hf : ∀ t q, ¬Sees t q → f t q = 0) (b i : ℕ) (hb : b = 384 * i) :
    gained (upTo f y (384 * i)) f y b (3 * i + 4) = upTo f y (384 * (i + 1)) := by
  funext t d
  rw [left_rows _ f y hf b i hb, hb, upTo, upTo, show 384 * (i + 1) = 384 * i + 384 from rfl, Finset.sum_range_add]

/-- What the three outputs' buffers hold after point `t`. -/
def held (t : ℕ) : FVec Ideal S384x128 .f32 × FVec Ideal S16512x128 .f32 × FVec Ideal S16512x128 .f32 :=
  (rowsFrom .f32 (dq cst (headQ X (t / 43)) (headK X (t / 43)) (headV X (t / 43)) (headQ Y (t / 43)) 16512) (384 * (t % 43)),
    mat (φ := .f32) (upTo (dscore cst (headQ X (t / 43)) (headK X (t / 43)) (headV X (t / 43)) (headQ Y (t / 43)) 16512) (headQ X (t / 43)) (384 * (t % 43 + 1))),
    mat (φ := .f32) (upTo (weight cst (headQ X (t / 43)) (headK X (t / 43)) 16512) (headQ Y (t / 43)) (384 * (t % 43 + 1))))

section Named
variable (t : Fin cfg0.N) (x1 : Vec Ideal S384x128 .bf16) (x2 x3 : Vec Ideal S16512x128 .bf16) (x5 : Vec Ideal S384x128 .f32)
  (e1 : iblk m c 1 t = x1) (e2 : iblk m c 2 t = x2) (e3 : iblk m c 3 t = x3) (e5 : iblk m c 5 t = x5)
include e1 e2 e3 e5
theorem firstAt_of (h0 : t.val % 43 = 0) (hw) :
    outA m c t h0 = (out6.read (Elt Ideal) (out6.writes (Elt Ideal) out6.junk (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((isFirst_iff t).mpr h0) (iblk m c 0 t) x1 x2 x3 (iblk m c 4 t) x5 hw).1),
      (ms0_7 t).view.read (Elt Ideal) ((ms0_7 t).view.writes (Elt Ideal) (ms0_7 t).view.junk (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((isFirst_iff t).mpr h0) (iblk m c 0 t) x1 x2 x3 (iblk m c 4 t) x5 hw).2.1),
      (ms0_8 t).view.read (Elt Ideal) ((ms0_8 t).view.writes (Elt Ideal) (ms0_8 t).view.junk (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((isFirst_iff t).mpr h0) (iblk m c 0 t) x1 x2 x3 (iblk m c 4 t) x5 hw).2.2.1)) := by
  subst e1 e2 e3 e5
  unfold outA
  rw [View.read_writes_of_cover out7 out7.junk (ms0_7 t).view (ms0_7 t).view.junk _ (cover_first7 m c t h0),
    View.read_writes_of_cover out8 out8.junk (ms0_8 t).view (ms0_8 t).view.junk _ (cover_first8 m c t h0)]
  unfold firstAt
  rfl
theorem laterAt_of (h0 : ¬t.val % 43 = 0) (hw) (xo7 xo8 : Vec Ideal S16512x128 .f32) :
    outB m c t h0 xo7 xo8 = (out6.read (Elt Ideal) (out6.writes (Elt Ideal) out6.junk (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((isFirst_iff t).mp h)) (iblk m c 0 t) x1 x2 x3 (iblk m c 4 t) x5 hw xo7 xo8).1),
      (ms0_7 t).view.read (Elt Ideal) ((ms0_7 t).view.writes (Elt Ideal) ((hs0_7 t).unread xo7) (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((isFirst_iff t).mp h)) (iblk m c 0 t) x1 x2 x3 (iblk m c 4 t) x5 hw xo7 xo8).2.1),
      (ms0_8 t).view.read (Elt Ideal) ((ms0_8 t).view.writes (Elt Ideal) ((hs0_8 t).unread xo8) (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((isFirst_iff t).mp h)) (iblk m c 0 t) x1 x2 x3 (iblk m c 4 t) x5 hw xo7 xo8).2.2.1)) := by
  subst e1 e2 e3 e5
  unfold outB laterAt
  rfl
end Named

theorem word_at (t : Fin cfg0.N) : word (F := Ideal) (grid0.coords t) (ms0_0 t) (hs0_0 t) (iblk m c 0 t) = 0#32 := by
  simp only [word, View.readAt_apply, (hs0_0 t).read_unread]
  exact word_zero m c t _

include hX in
theorem block1' (t : Fin cfg0.N) : iblk m c 1 t = (rowsFrom .bf16 (headQ X (t.val / 43)) (384 * (grid0.coords t 1).val) : FVec Ideal S384x128 .bf16) := by
  rw [coord1 t]; exact block1 m c X hX t
include hY in
theorem block5' (t : Fin cfg0.N) : iblk m c 5 t = (rowsFrom .f32 (headQ Y (t.val / 43)) (384 * (grid0.coords t 1).val) : FVec Ideal S384x128 .f32) := by
  rw [coord1 t]; exact block5 m c Y hY t
include hT in
theorem block4' (t : Fin cfg0.N) : IsTotals (iblk m c 4 t) (headQ X (t.val / 43)) (headK X (t.val / 43)) (384 * (grid0.coords t 1).val) := by
  rw [coord1 t]; exact block4 m c X hT t

theorem held_eq (t : Fin cfg0.N) : held X Y t.val =
    (rowsFrom .f32 (dq cst (headQ X (t.val / 43)) (headK X (t.val / 43)) (headV X (t.val / 43)) (headQ Y (t.val / 43)) 16512) (384 * (grid0.coords t 1).val),
    mat (φ := .f32) (upTo (dscore cst (headQ X (t.val / 43)) (headK X (t.val / 43)) (headV X (t.val / 43)) (headQ Y (t.val / 43)) 16512) (headQ X (t.val / 43)) (384 * ((grid0.coords t 1).val + 1))),
    mat (φ := .f32) (upTo (weight cst (headQ X (t.val / 43)) (headK X (t.val / 43)) 16512) (headQ Y (t.val / 43)) (384 * ((grid0.coords t 1).val + 1)))) := by
  unfold held; rw [coord1 t]
theorem held_before (t : Fin cfg0.N) (h0 : ¬t.val % 43 = 0) : (held X Y (t.val - 1)).2 =
    (mat (φ := .f32) (upTo (dscore cst (headQ X (t.val / 43)) (headK X (t.val / 43)) (headV X (t.val / 43)) (headQ Y (t.val / 43)) 16512) (headQ X (t.val / 43)) (384 * (grid0.coords t 1).val)),
    mat (φ := .f32) (upTo (weight cst (headQ X (t.val / 43)) (headK X (t.val / 43)) 16512) (headQ Y (t.val / 43)) (384 * (grid0.coords t 1).val))) := by
  have hd : (t.val - 1) / 43 = t.val / 43 := by omega
  have hr : (t.val - 1) % 43 + 1 = (grid0.coords t 1).val := by rw [coord1 t]; omega
  unfold held; rw [hd, hr]

include hX hY hT
theorem first_held (t : Fin cfg0.N) (h0 : t.val % 43 = 0) : outA m c t h0 = held X Y t.val := by
  have hi : (grid0.coords t 1).val = 0 := (coord1 t).trans h0
  rw [firstAt_of m c t _ _ _ _ (block1' m c X hX t) (block2 m c X hX t) (block3 m c X hX t) (block5' m c Y hY t) h0 (word_ok m c t _ _ _), held_eq]
  have h4 := block4' m c X hT t
  have hz := word_at m c t
  refine Prod.ext ?_ (Prod.ext ?_ ?_)
  · exact first_query c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 4 t) _ _ (headV X (t.val / 43)) (headQ Y (t.val / 43)) h4 (word_ok m c t _ _ _) hz ((isFirst_iff t).mpr h0) (Memref.whole cc0_stg6_0 : Memref sig .tc .vmem S384x128 .f32) out6.junk
  · refine (first_key c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 4 t) _ _ (headV X (t.val / 43)) (headQ Y (t.val / 43)) h4 (word_ok m c t _ _ _) hz ((isFirst_iff t).mpr h0)).trans ?_
    rw [gained_first _ _ (fun _ _ h => dscore_of_not h) _ _ hi rfl]
  · refine (first_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 4 t) _ _ (headV X (t.val / 43)) (headQ Y (t.val / 43)) h4 (word_ok m c t _ _ _) hz ((isFirst_iff t).mpr h0)).trans ?_
    rw [gained_first _ _ (fun _ _ h => weight_of_not h) _ _ hi rfl]

theorem later_held (t : Fin cfg0.N) (h0 : ¬t.val % 43 = 0) :
    outB m c t h0 (held X Y (t.val - 1)).2.1 (held X Y (t.val - 1)).2.2 = held X Y t.val := by
  rw [held_before X Y t h0,
    laterAt_of m c t _ _ _ _ (block1' m c X hX t) (block2 m c X hX t) (block3 m c X hX t) (block5' m c Y hY t) h0 (word_ok m c t _ _ _), held_eq]
  have h4 := block4' m c X hT t
  have hz := word_at m c t
  refine Prod.ext ?_ (Prod.ext ?_ ?_)
  · exact later_query c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 4 t) _ _ (headV X (t.val / 43)) (headQ Y (t.val / 43)) h4 (word_ok m c t _ _ _) hz (fun h => h0 ((isFirst_iff t).mp h)) _ _ (Memref.whole cc0_stg6_0 : Memref sig .tc .vmem S384x128 .f32) out6.junk
  · refine (later_key c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 4 t) _ _ (headV X (t.val / 43)) (headQ Y (t.val / 43)) h4 (word_ok m c t _ _ _) hz (fun h => h0 ((isFirst_iff t).mp h)) _ _).trans ?_
    rw [gained_later _ _ (fun _ _ h => dscore_of_not h) _ _ rfl]
  · refine (later_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 4 t) _ _ (headV X (t.val / 43)) (headQ Y (t.val / 43)) h4 (word_ok m c t _ _ _) hz (fun h => h0 ((isFirst_iff t).mp h)) _ _).trans ?_
    rw [gained_later _ _ (fun _ _ h => weight_of_not h) _ _ rfl]

theorem outs_held (n : ℕ) (hn : n < cfg0.N) : outsAt m c n hn = held X Y n := by
  induction n with
  | zero => exact (outsAt_first m c ⟨0, hn⟩ (Nat.zero_mod _)).trans (first_held m c X Y hX hY hT ⟨0, hn⟩ (Nat.zero_mod _))
  | succ n ih =>
    by_cases h0 : (n + 1) % 43 = 0
    · exact (outsAt_first m c ⟨n + 1, hn⟩ h0).trans (first_held m c X Y hX hY hT ⟨n + 1, hn⟩ h0)
    · have e := outsAt_later m c ⟨n + 1, hn⟩ h0
      have ih' := ih (Nat.lt_of_succ_lt hn)
      simp only [Nat.add_sub_cancel] at e
      rw [ih'] at e
      exact e.trans (later_held m c X Y hX hY hT ⟨n + 1, hn⟩ h0)

end Run

end Cert.KernelIdeal.Sb

end
-- ==== Proof.Arrays.lean ====
/- The three output arrays after the run, on real numbers. -/
module

public import proofs.«01_k».proof.Proof.Fold
public import Idealize.ShloMosaic.Lib.Pipeline.ValueKit.Acc

@[expose] public section

set_option maxRecDepth 16384

noncomputable section

namespace Cert.KernelIdeal.Sb

open Idealize.ShloMosaic Idealize.ShloMosaic.TcCoe Idealize.ShloMosaic.Tactic
open Idealize.SL Idealize.SL.Sem
open Idealize.ShloMosaic.Pipeline (Dat Cfg Window)
open Cert.KernelIdeal.Gen
open Cert.Stick

variable (X Y : ℕ → ℕ → ℝ)

/-- The three gradients, as functions of a row and a column of the eight heads' 1024. -/
def gradQ (r w : ℕ) : ℝ := dq cst (headQ X (w / 128)) (headK X (w / 128)) (headV X (w / 128)) (headQ Y (w / 128)) 16512 r (w % 128)
def gradK (r w : ℕ) : ℝ := dk cst (headQ X (w / 128)) (headK X (w / 128)) (headV X (w / 128)) (headQ Y (w / 128)) 16512 r (w % 128)
def gradV (r w : ℕ) : ℝ := dv cst (headQ X (w / 128)) (headK X (w / 128)) (headQ Y (w / 128)) 16512 r (w % 128)

theorem head_div (h d : ℕ) (hd : d < 128) : (h * 128 + d) / 128 = h := by omega
theorem head_mod (h d : ℕ) (hd : d < 128) : (h * 128 + d) % 128 = d := by omega

section Run
variable (m : (ℓ : Loc nD τ sig) → Buf (Elt Ideal) ℓ) (ρ : Dev nD → PrngReg) (c : Dev nD)
  (hX : m ((c.tc : Thread nD τ).loc main_arg0) = (mat (φ := .bf16) X : FVec Ideal S16512x3072 .bf16))
  (hY : m ((c.tc : Thread nD τ).loc main_arg1) = (mat (φ := .f32) Y : FVec Ideal S16512x1024 .f32))
  (hT : TotalsAre m c X)
include hX hY hT

theorem array6 : (dats m 0 c).arrAt 6 cfg0.N = (mat (φ := .f32) (gradQ X Y) : FVec Ideal S16512x1024 .f32) := by
  refine (dats m 0 c).arrAt_eq_of_covers 6 _ (by decide +kernel) fun t hf y => ?_
  blk_simp
  rw [after0_6, outs_held m c X Y hX hY hT]
  show ((_ : ℝ) : EReal) = ((gradQ X Y (((cfg0.win 6).blk t).view.emb y 0).val (((cfg0.win 6).blk t).view.emb y 1).val : ℝ) : EReal)
  have hy : (y 1).val < 128 := (y 1).isLt
  blk_simp [index6]
  rw [gradQ, head_div _ _ hy, head_mod _ _ hy, Nat.mul_comm _ 384]

theorem array7 : (dats m 0 c).arrAt 7 cfg0.N = (mat (φ := .f32) (gradK X Y) : FVec Ideal S16512x1024 .f32) := by
  refine (dats m 0 c).arrAt_eq_of_covers 7 _ (by decide +kernel) fun t hf y => ?_
  have hl : t.val % 43 = 42 := (flush0_7 t).mp hf
  blk_simp
  rw [after0_7, outs_held m c X Y hX hY hT]
  show ((_ : ℝ) : EReal) = ((gradK X Y (((cfg0.win 7).blk t).view.emb y 0).val (((cfg0.win 7).blk t).view.emb y 1).val : ℝ) : EReal)
  have hy : (y 1).val < 128 := (y 1).isLt
  blk_simp [index7]
  rw [gradK, head_div _ _ hy, head_mod _ _ hy, hl]
  rfl

theorem array8 : (dats m 0 c).arrAt 8 cfg0.N = (mat (φ := .f32) (gradV X Y) : FVec Ideal S16512x1024 .f32) := by
  refine (dats m 0 c).arrAt_eq_of_covers 8 _ (by decide +kernel) fun t hf y => ?_
  have hl : t.val % 43 = 42 := (flush0_8 t).mp hf
  blk_simp
  rw [after0_8, outs_held m c X Y hX hY hT]
  show ((_ : ℝ) : EReal) = ((gradV X Y (((cfg0.win 8).blk t).view.emb y 0).val (((cfg0.win 8).blk t).view.emb y 1).val : ℝ) : EReal)
  have hy : (y 1).val < 128 := (y 1).isLt
  blk_simp [index8]
  rw [gradV, head_div _ _ hy, head_mod _ _ hy, hl]
  rfl
end Run

/-- The kernel's run: from arguments that hold the real arrays `X` and `Y` it leaves the three gradients, and the arguments as they
    were. -/
theorem run_grads (m : (ℓ : Loc nD τ sig) → Buf (Elt Ideal) ℓ) (ρ : Dev nD → PrngReg) (X Y : Dev nD → ℕ → ℕ → ℝ)
    (hX : ∀ c : Dev nD, m ((c.tc : Thread nD τ).loc main_arg0) = (mat (φ := .bf16) (X c) : FVec Ideal S16512x3072 .bf16))
    (hY : ∀ c : Dev nD, m ((c.tc : Thread nD τ).loc main_arg1) = (mat (φ := .f32) (Y c) : FVec Ideal S16512x1024 .f32))
    (hT : ∀ c, TotalsAre m c (X c)) :
    θ_run defs (onTc (τ := τ) (main (F := Ideal))) ⟨m, fun _ => 0, ρ⟩ fun r => ∀ c : Dev nD,
      r.2.mem ((c.tc : Thread nD τ).loc main_v27_0) = (mat (φ := .f32) (gradQ (X c) (Y c)) : FVec Ideal S16512x1024 .f32)
      ∧ r.2.mem ((c.tc : Thread nD τ).loc main_v27_1) = (mat (φ := .f32) (gradK (X c) (Y c)) : FVec Ideal S16512x1024 .f32)
      ∧ r.2.mem ((c.tc : Thread nD τ).loc main_v27_2) = (mat (φ := .f32) (gradV (X c) (Y c)) : FVec Ideal S16512x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 6).trans (array6 (X c) (Y c) m c (hX c) (hY c) (hT c)),
      ((h c).1 7).trans (array7 (X c) (Y c) m c (hX c) (hY c) (hT c)),
      ((h c).1 8).trans (array8 (X c) (Y c) m c (hX c) (hY c) (hT c)),
      ((h c).1 3).trans (((dats m 0 c).arrAt_in 3 rfl _).trans ((A_eq m c 3).trans (V_main_arg0 m c))),
      ((h c).1 5).trans (((dats m 0 c).arrAt_in 5 rfl _).trans ((A_eq m c 5).trans (V_main_arg1 m c)))⟩)
    (run_main m ρ)

end Cert.KernelIdeal.Sb

end
-- ==== Proof.Logs.lean ====
/- The logarithm of a gate as a program outside the kernel computes it, on real numbers. -/
module

public import proofs.«01_k».proof.Proof.Ops

@[expose] public section

noncomputable section

namespace Cert.Stick

open Idealize.ShloMosaic
open Cert.KernelIdeal.Sb (max_coe min_coe exp_coe log_coe sub_coe add_coe mul_coe zero_coe one_coe)

/-- `log (1 + e^x)`. -/
def soft (x : ℝ) : ℝ := x - gate x

theorem soft_eq (x : ℝ) : soft x = max x 0 + Real.log (1 + Real.exp (-max x (-x))) := by
  unfold soft gate
  rcases le_total x 0 with h | h
  · rw [min_eq_left h, max_eq_right h, zero_sub]; ring_nf
  · rw [min_eq_right h, max_eq_left h, zero_sub]; ring_nf

theorem gate_neg (x : ℝ) : gate (-x) = gate x - x := by
  unfold gate
  rw [neg_neg, max_comm (-x) x]
  rcases le_total x 0 with h | h
  · rw [min_eq_left h, min_eq_right (by linarith)]; ring_nf
  · rw [min_eq_right h, min_eq_left (by linarith)]; ring_nf

theorem neg_soft_neg (x : ℝ) : -soft (-x) = gate x := by
  unfold soft; rw [gate_neg]; ring
theorem neg_soft (x : ℝ) : -soft x = gate x - x := by unfold soft; ring

/-- The gate and the gate of the opposite add up to one. -/
theorem exp_gate (x : ℝ) : Real.exp (gate x) = 1 / (1 + Real.exp (-x)) := by
  have key : gate x = -Real.log (1 + Real.exp (-x)) := by
    unfold gate
    rcases le_total x 0 with h | h
    · rw [min_eq_left h, max_eq_right (by linarith), zero_sub, neg_neg]
      have : 1 + Real.exp (-x) = Real.exp (-x) * (1 + Real.exp x) := by rw [mul_add, ← Real.exp_add]; simp [add_comm]
      rw [this, Real.log_mul (Real.exp_pos _).ne' (by positivity), Real.log_exp]; ring_nf
    · rw [min_eq_right h, max_eq_left (by linarith), zero_sub, zero_sub]
  rw [key, Real.exp_neg, Real.exp_log (by positivity), one_div]
theorem exp_gate_neg (x : ℝ) : Real.exp (gate (-x)) = 1 - Real.exp (gate x) := by
  rw [exp_gate, exp_gate, neg_neg, eq_sub_iff_add_eq, div_add_div _ _ (by positivity) (by positivity), div_eq_one_iff_eq (by positivity)]
  have : Real.exp x * Real.exp (-x) = 1 := by rw [← Real.exp_add]; simp
  linear_combination -this
theorem slope_soft (x : ℝ) : Real.exp (x - soft x) = Real.exp (gate x) := by unfold soft; rw [sub_sub_cancel]

/-! The program's operations on single numbers. -/

theorem abs_coe (x : ℝ) : max (x : EReal) (-(x : EReal)) = ((max x (-x) : ℝ) : EReal) := by rw [← EReal.coe_neg, max_coe]
theorem neg_coe (x : ℝ) : -(x : EReal) = ((-x : ℝ) : EReal) := (EReal.coe_neg x).symm

theorem differs (x : EReal) : FloatOps.cmpf (F := Ideal) (φ := .f32) .une x x = 0#1 := by
  show Ideal.cmp .une x x = 0#1
  simp [Ideal.cmp]
theorem is_top (x : ℝ) : FloatOps.cmpf (F := Ideal) (φ := .f32) .oeq (x : EReal) (FloatOps.ofBits .f32 0x7F800000#32) = 0#1 := by
  show Ideal.cmp .oeq (x : EReal) (Ideal.ofBits .f32 0x7F800000#32) = 0#1
  have : Ideal.ofBits .f32 0x7F800000#32 = (⊤ : EReal) := by simp [Ideal.ofBits, Ideal.ieee]
  rw [this]
  simp [Ideal.cmp]
theorem bits_zero : (FloatOps.ofBits .f32 0#32 : Ideal .f32) = ((0 : ℝ) : EReal) := by
  show Ideal.ofBits .f32 0#32 = _
  simp [Ideal.ofBits, Ideal.ieee]

theorem soft_coe (x : ℝ) :
    Scalar.select (FloatOps.cmpf (F := Ideal) (φ := .f32) .une (FloatOps.subf (F := Ideal) (φ := .f32) (x : EReal) (FloatOps.ofBits .f32 0#32)) (FloatOps.subf (F := Ideal) (φ := .f32) (x : EReal) (FloatOps.ofBits .f32 0#32)))
      (FloatOps.addf (F := Ideal) (φ := .f32) (x : EReal) (FloatOps.ofBits .f32 0#32))
      (FloatOps.addf (F := Ideal) (φ := .f32) (FloatOps.maximumf (F := Ideal) (φ := .f32) (x : EReal) (FloatOps.ofBits .f32 0#32))
        (FloatOps.hostUnary (F := Ideal) (φ := .f32) .log1p (FloatOps.hostUnary .exp (FloatOps.hostNegf (FloatOps.hostAbsf (FloatOps.subf (F := Ideal) (φ := .f32) (x : EReal) (FloatOps.ofBits .f32 0#32)))))))
      = ((soft x : ℝ) : EReal) := by
  rw [differs]
  show max (x : EReal) (Ideal.ofBits .f32 0#32) + Ideal.log (1 + Ideal.exp (-(max ((x : EReal) - Ideal.ofBits .f32 0#32) (-((x : EReal) - Ideal.ofBits .f32 0#32))))) = _
  rw [show Ideal.ofBits .f32 0#32 = ((0 : ℝ) : EReal) from bits_zero, sub_coe, sub_zero, abs_coe, max_coe, neg_coe, exp_coe, one_coe, add_coe, log_coe _ (by positivity), add_coe, soft_eq]

end Cert.Stick

end
-- ==== Proof.Cumsum.lean ====
/- A running sum along the last axis of an array of real numbers, forwards and backwards. -/
module

public import Idealize.ShloMosaic.PureOps.Ideal
public import Mathlib.Algebra.BigOperators.Intervals

@[expose] public section

noncomputable section

namespace Cert.Running

open Idealize.ShloMosaic
open Finset (range Ico)

theorem foldl_coe {ι : Type} (l : List ι) (g : ι → EReal) (h : ι → ℝ) (hg : ∀ i, g i = ((h i : ℝ) : EReal)) (a : ℝ) :
    l.foldl (fun r i => r + g i) (a : EReal) = ((a + (l.map h).sum : ℝ) : EReal) := by
  induction l generalizing a with
  | nil => simp
  | cons i l ih =>
    rw [List.foldl_cons, hg, ← EReal.coe_add, ih, List.map_cons, List.sum_cons, add_assoc]

/-- A position of a window that is one row long is a position along it. -/
def along (N : ℕ) : (⟨3, ![1, 1, N]⟩ : Shape).Idx ≃ Fin N where
  toFun i := i 2
  invFun n := fun a => match a with
    | ⟨0, _⟩ => (0 : Fin 1)
    | ⟨1, _⟩ => (0 : Fin 1)
    | ⟨2, _⟩ => n
  left_inv i := by
    funext a
    match a with
    | ⟨0, _⟩ => exact Subsingleton.elim (α := Fin 1) _ _
    | ⟨1, _⟩ => exact Subsingleton.elim (α := Fin 1) _ _
    | ⟨2, _⟩ => rfl
  right_inv n := rfl

variable {A B N : ℕ}

theorem window_sum {u : Shape} (lo hi : ℕ) (f : ℕ → ℕ → ℕ → ℝ) (x : FVec Ideal ⟨3, ![A, B, N]⟩ .f32)
    (hx : ∀ i, x i = ((f (i 0).val (i 1).val (i 2).val : ℝ) : EReal)) (init : FVec Ideal u .f32) (hu : 0 < u.numel)
    (hinit : init (Shape.Idx.first hu) = (0 : EReal))
    (h : (⟨3, ![A, B, N]⟩ : Shape).ReduceWindows ![1, 1, N] ![1, 1, 1] ![0, 0, lo] ![0, 0, hi] ⟨3, ![A, B, N]⟩)
    (j : (⟨3, ![A, B, N]⟩ : Shape).Idx) :
    Host.reduceWindowAdd (F := Ideal) (φ := .f32) ![1, 1, N] ![1, 1, 1] ![0, 0, lo] ![0, 0, hi] x init h hu j
      = ((∑ w ∈ range N, if lo ≤ (j 2).val + w ∧ (j 2).val + w - lo < N then f (j 0).val (j 1).val ((j 2).val + w - lo) else 0 : ℝ) : EReal) := by
  show Ideal.hostReduceWindowAdd ![1, 1, N] ![1, 1, 1] ![0, 0, lo] ![0, 0, hi] h x (init (Shape.Idx.first hu)) j = _
  rw [hinit]
  unfold Ideal.hostReduceWindowAdd Host.reduceWindow
  dsimp only
  have hone : ∀ i : (⟨3, ![1, 1, N]⟩ : Shape).Idx, (i 0).val = 0 ∧ (i 1).val = 0 := fun i =>
    ⟨Nat.lt_one_iff.mp (i 0).isLt, Nat.lt_one_iff.mp (i 1).isLt⟩
  refine (foldl_coe _ _ (fun n => (fun w : ℕ => if lo ≤ (j 2).val + w ∧ (j 2).val + w - lo < N then f (j 0).val (j 1).val ((j 2).val + w - lo) else 0)
    (along N ((⟨3, ![1, 1, N]⟩ : Shape).rowMajor.symm n)).val) (fun n => ?_) 0).trans ?_
  · obtain ⟨z0, z1⟩ := hone ((⟨3, ![1, 1, N]⟩ : Shape).rowMajor.symm n)
    have hj0 : (j 0).val < A := (j 0).isLt
    have hj1 : (j 1).val < B := (j 1).isLt
    show _ = ((if lo ≤ (j 2).val + ((⟨3, ![1, 1, N]⟩ : Shape).rowMajor.symm n 2).val ∧ (j 2).val + ((⟨3, ![1, 1, N]⟩ : Shape).rowMajor.symm n 2).val - lo < N
      then f (j 0).val (j 1).val ((j 2).val + ((⟨3, ![1, 1, N]⟩ : Shape).rowMajor.symm n 2).val - lo) else 0 : ℝ) : EReal)
    split
    · next hin =>
      have h2 := hin 2
      change lo ≤ (j 2).val * 1 + ((⟨3, ![1, 1, N]⟩ : Shape).rowMajor.symm n 2).val ∧ (j 2).val * 1 + ((⟨3, ![1, 1, N]⟩ : Shape).rowMajor.symm n 2).val - lo < N at h2
      rw [Nat.mul_one] at h2
      rw [if_pos h2, hx]
      congr 2
      · show (j 0).val * 1 + ((⟨3, ![1, 1, N]⟩ : Shape).rowMajor.symm n 0).val - 0 = _
        omega
      · show (j 1).val * 1 + ((⟨3, ![1, 1, N]⟩ : Shape).rowMajor.symm n 1).val - 0 = _
        omega
      · show (j 2).val * 1 + ((⟨3, ![1, 1, N]⟩ : Shape).rowMajor.symm n 2).val - lo = _
        omega
    · next hin =>
      rw [if_neg fun hle => hin fun a => by
        match a with
        | ⟨0, _⟩ =>
          show 0 ≤ (j 0).val * 1 + ((⟨3, ![1, 1, N]⟩ : Shape).rowMajor.symm n 0).val ∧ (j 0).val * 1 + ((⟨3, ![1, 1, N]⟩ : Shape).rowMajor.symm n 0).val - 0 < A
          omega
        | ⟨1, _⟩ =>
          show 0 ≤ (j 1).val * 1 + ((⟨3, ![1, 1, N]⟩ : Shape).rowMajor.symm n 1).val ∧ (j 1).val * 1 + ((⟨3, ![1, 1, N]⟩ : Shape).rowMajor.symm n 1).val - 0 < B
          omega
        | ⟨2, _⟩ =>
          show lo ≤ (j 2).val * 1 + ((⟨3, ![1, 1, N]⟩ : Shape).rowMajor.symm n 2).val ∧ (j 2).val * 1 + ((⟨3, ![1, 1, N]⟩ : Shape).rowMajor.symm n 2).val - lo < N
          rw [Nat.mul_one]; exact hle]
      rfl
  · congr 1
    rw [zero_add, ← Fin.sum_univ_def]
    refine (Equiv.sum_comp ((⟨3, ![1, 1, N]⟩ : Shape).rowMajor.symm.trans (along N)) (fun w : Fin N => (fun w : ℕ => if lo ≤ (j 2).val + w ∧ (j 2).val + w - lo < N then f (j 0).val (j 1).val ((j 2).val + w - lo) else 0) w.val)).trans ?_
    exact Fin.sum_univ_eq_sum_range (fun w : ℕ => if lo ≤ (j 2).val + w ∧ (j 2).val + w - lo < N then f (j 0).val (j 1).val ((j 2).val + w - lo) else 0) N

/-- Padded behind: the sum from each position on. -/
theorem sum_from (f : ℕ → ℝ) (j : ℕ) (hj : j < N) : (∑ w ∈ range N, if 0 ≤ j + w ∧ j + w - 0 < N then f (j + w - 0) else 0) = ∑ t ∈ Ico j N, f t := by
  rw [Finset.sum_Ico_eq_sum_range, ← Finset.sum_filter]
  refine Finset.sum_congr (Finset.ext fun w => ?_) fun w _ => by rw [Nat.sub_zero]
  simp only [Finset.mem_filter, Finset.mem_range]
  omega

/-- Padded before: the sum up to each position and including it. -/
theorem sum_upTo (f : ℕ → ℝ) (lo j : ℕ) (hN : lo + 1 = N) (hj : j < N) :
    (∑ w ∈ range N, if lo ≤ j + w ∧ j + w - lo < N then f (j + w - lo) else 0) = ∑ t ∈ range (j + 1), f t := by
  rw [← Finset.sum_filter]
  have e : (range N).filter (fun w => lo ≤ j + w ∧ j + w - lo < N) = Ico (lo - j) N := Finset.ext fun w => by
    simp only [Finset.mem_filter, Finset.mem_range, Finset.mem_Ico]; omega
  rw [e, Finset.sum_Ico_eq_sum_range, show N - (lo - j) = j + 1 by omega]
  exact Finset.sum_congr rfl fun w _ => by congr 1; omega

end Cert.Running

end
-- ==== Proof.Ref.lean ====
/- The reference's values on real numbers, buffer by buffer. -/
module

public import proofs.«01_k».proof.Proof.Arrays
public import proofs.«01_k».proof.Proof.Logs
public import proofs.«01_k».proof.Proof.Cumsum
public import proofs.«01_k».proof.Proof.Gen.ReferenceIdeal.Read

@[expose] public section

noncomputable section

namespace Cert.ReferenceIdeal.Sb

open Idealize.ShloMosaic
open Cert.ReferenceIdeal Cert.ReferenceIdeal.Read
open Cert.Stick Cert.Running
open Cert.KernelIdeal.Sb (mat cst cst_eq sum_coe sum_mul_coe max_coe min_coe exp_coe log_coe sub_coe add_coe mul_coe zero_coe one_coe headQ headK headV)
open Finset (range Ico)

variable (X Y : ℕ → ℕ → ℝ)

/-! Operations on single numbers. -/

theorem pick (p : Prop) [Decidable p] (a b : EReal) : Scalar.select (if p then 1#1 else 0#1) a b = if p then a else b := by
  split
  · exact if_pos rfl
  · exact if_neg (by decide)
theorem neg_word (x : ℝ) : FloatOps.hostNegf (F := Ideal) (φ := .f32) (x : EReal) = ((-x : ℝ) : EReal) := neg_coe x
theorem add_word (x y : ℝ) : FloatOps.addf (F := Ideal) (φ := .f32) (x : EReal) (y : EReal) = ((x + y : ℝ) : EReal) := add_coe x y
theorem sub_word (x y : ℝ) : FloatOps.subf (F := Ideal) (φ := .f32) (x : EReal) (y : EReal) = ((x - y : ℝ) : EReal) := sub_coe x y
theorem mul_word (x y : ℝ) : FloatOps.mulf (F := Ideal) (φ := .f32) (x : EReal) (y : EReal) = ((x * y : ℝ) : EReal) := mul_coe x y
theorem exp_word (x : ℝ) : FloatOps.hostUnary (F := Ideal) (φ := .f32) .exp (x : EReal) = ((Real.exp x : ℝ) : EReal) := exp_coe x
theorem ite_coe (p : Prop) [Decidable p] (x y : ℝ) : (if p then (x : EReal) else (y : EReal)) = (((if p then x else y) : ℝ) : EReal) := by split <;> rfl
theorem small (x : ℝ) : Scalar.select (FloatOps.cmpf (F := Ideal) (φ := .f32) .oeq (x : EReal) (FloatOps.ofBits .f32 0x7F800000#32)) ((0 : ℝ) : EReal) (x : EReal) = (x : EReal) := by
  rw [is_top]; exact if_neg (by decide)

/-! The buffers. -/

theorem queries (i : S16512x8x128.Idx) : val_main_v6 (F := Ideal) (mat (φ := .bf16) X) i = ((headQ X (i 1).val (i 0).val (i 2).val : ℝ) : EReal) := by
  have h1 : (i 1).val < 8 := (i 1).isLt
  have h2 : (i 2).val < 128 := (i 2).isLt
  rw [val_main_v6_apply, val_main_v1_apply, val_main_v0_apply]
  show ((X ((((i 0).val * 8 + (i 1).val) * 128 + (i 2).val) / 1024) ((((i 0).val * 8 + (i 1).val) * 128 + (i 2).val) % 1024) : ℝ) : EReal) = _
  rw [show (((i 0).val * 8 + (i 1).val) * 128 + (i 2).val) / 1024 = (i 0).val by omega, show (((i 0).val * 8 + (i 1).val) * 128 + (i 2).val) % 1024 = (i 1).val * 128 + (i 2).val by omega]
  rfl
theorem keys (i : S16512x8x128.Idx) : val_main_v7 (F := Ideal) (mat (φ := .bf16) X) i = ((headK X (i 1).val (i 0).val (i 2).val : ℝ) : EReal) := by
  have h1 : (i 1).val < 8 := (i 1).isLt
  have h2 : (i 2).val < 128 := (i 2).isLt
  rw [val_main_v7_apply, val_main_v3_apply, val_main_v2_apply]
  show ((X ((((i 0).val * 8 + (i 1).val) * 128 + (i 2).val) / 1024) (1024 + (((i 0).val * 8 + (i 1).val) * 128 + (i 2).val) % 1024) : ℝ) : EReal) = _
  rw [show (((i 0).val * 8 + (i 1).val) * 128 + (i 2).val) / 1024 = (i 0).val by omega, show 1024 + (((i 0).val * 8 + (i 1).val) * 128 + (i 2).val) % 1024 = (8 + (i 1).val) * 128 + (i 2).val by omega]
  rfl
theorem values (i : S16512x8x128.Idx) : val_main_v8 (F := Ideal) (mat (φ := .bf16) X) i = ((headV X (i 1).val (i 0).val (i 2).val : ℝ) : EReal) := by
  have h1 : (i 1).val < 8 := (i 1).isLt
  have h2 : (i 2).val < 128 := (i 2).isLt
  rw [val_main_v8_apply, val_main_v5_apply, val_main_v4_apply]
  show ((X ((((i 0).val * 8 + (i 1).val) * 128 + (i 2).val) / 1024) (2048 + (((i 0).val * 8 + (i 1).val) * 128 + (i 2).val) % 1024) : ℝ) : EReal) = _
  rw [show (((i 0).val * 8 + (i 1).val) * 128 + (i 2).val) / 1024 = (i 0).val by omega, show 2048 + (((i 0).val * 8 + (i 1).val) * 128 + (i 2).val) % 1024 = (16 + (i 1).val) * 128 + (i 2).val by omega]
  rfl
theorem cotangents (i : S8x128x16512.Idx) : val_main_v36 (F := Ideal) (mat (φ := .f32) Y) i = ((headQ Y (i 0).val (i 2).val (i 1).val : ℝ) : EReal) := by
  have h1 : (i 0).val < 8 := (i 0).isLt
  have h2 : (i 1).val < 128 := (i 1).isLt
  rw [val_main_v36_apply, val_main_v35_apply]
  show ((Y ((((i 2).val * 8 + (i 0).val) * 128 + (i 1).val) / 1024) ((((i 2).val * 8 + (i 0).val) * 128 + (i 1).val) % 1024) : ℝ) : EReal) = _
  rw [show (((i 2).val * 8 + (i 0).val) * 128 + (i 1).val) / 1024 = (i 2).val by omega, show (((i 2).val * 8 + (i 0).val) * 128 + (i 1).val) % 1024 = (i 0).val * 128 + (i 1).val by omega]
  rfl

section Cube
variable (i : S8x16512x16512.Idx)

theorem scores : val_main_v12 (F := Ideal) (mat (φ := .bf16) X) i = ((score cst (headQ X (i 0).val) (headK X (i 0).val) (i 2).val (i 1).val : ℝ) : EReal) := by
  rw [val_main_v12_apply, val_main_v10_apply, val_main_v11_apply, val_main_cst_apply]
  simp only [queries, keys]
  show (∑ k : Fin 128, ((headQ X (i 0).val (i 1).val k.val : ℝ) : EReal) * ((headK X (i 0).val (i 2).val k.val : ℝ) : EReal)) * Ideal.ofBits .f32 0x3DB504F3#32 = _
  rw [sum_mul_coe 128 (fun k => headQ X (i 0).val (i 1).val k) (fun k => headK X (i 0).val (i 2).val k), cst_eq, mul_coe]
  unfold score
  simp only [mul_comm]

theorem sees (j : S16512x16512.Idx) : val_main_v22 (F := Ideal) j = if Sees (j 1).val (j 0).val then 1#1 else 0#1 := by
  have h0 : (j 0).val < 16512 := (j 0).isLt
  have h1 : (j 1).val < 16512 := (j 1).isLt
  have w0 : Affine.IsInt (BitVec.ofNat 32 (j 0).val) ((j 0).val : Int) := Affine.ofNat _ (by omega)
  have w1 : Affine.IsInt (BitVec.ofNat 32 (j 1).val) ((j 1).val : Int) := Affine.ofNat _ (by omega)
  have c112 : Affine.IsInt 112#32 112 := Affine.ofNat _ (by omega)
  rw [val_main_v22_apply, val_main_v17_apply, val_main_v15_apply, val_main_v13_apply, val_main_v9_apply, val_main_v16_apply, val_main_v14_apply, val_main_v9_apply,
    val_main_v21_apply, val_main_v20_apply, val_main_v19_apply, val_main_v18_apply, val_main_c_apply]
  show Scalar.andi (Scalar.cmpi CmpIPredicate.slt (BitVec.ofNat 32 (j 1).val) (BitVec.ofNat 32 (j 0).val)) (Scalar.cmpi CmpIPredicate.sge (BitVec.ofNat 32 (j 1).val) 112#32) = _
  by_cases p : (j 1).val < (j 0).val
  · by_cases q : 112 ≤ (j 1).val
    · rw [if_pos (show Sees _ _ from ⟨p, q⟩)]; exact Affine.andi_holds (Affine.slt_holds w1 w0 (by omega)) (Affine.sge_holds w1 c112 (by omega))
    · rw [if_neg fun h => q h.2]; exact ValueIdx.eq_zero_of_ne_one (Affine.andi_fails_right (Affine.tH (Affine.slt_holds w1 w0 (by omega))) (Affine.sge_fails w1 c112 (by omega)))
  · rw [if_neg fun h => p h.1]; exact ValueIdx.eq_zero_of_ne_one (Affine.andi_fails_left (Affine.slt_fails w1 w0 (by omega)) (Affine.cmpi_term _ w1 c112))

theorem stay : val_main_call0_v1_0 (F := Ideal) (mat (φ := .bf16) X) i = ((soft (score cst (headQ X (i 0).val) (headK X (i 0).val) (i 2).val (i 1).val) : ℝ) : EReal) := by
  simp only [
    val_main_call0_v1_0_apply, val_main_call0_call0_v11_apply, val_main_call0_call0_v10_apply, val_main_call0_call0_v9_apply, val_main_call0_call0_v8_apply,
    val_main_call0_call0_v7_apply, val_main_call0_call0_v6_apply, val_main_call0_call0_v5_apply, val_main_call0_call0_v4_apply, val_main_call0_call0_v3_apply,
    val_main_call0_call0_v2_apply, val_main_call0_call0_v1_apply, val_main_call0_call0_v0_apply, val_main_call0_call0_cst_apply, val_main_call0_v0_apply,
    val_main_v23_apply, scores, neg_word, neg_neg]
  exact soft_coe _
theorem stay_neg : val_main_call2_v1_0 (F := Ideal) (mat (φ := .bf16) X) i = ((soft (-score cst (headQ X (i 0).val) (headK X (i 0).val) (i 2).val (i 1).val) : ℝ) : EReal) := by
  simp only [
    val_main_call2_v1_0_apply, val_main_call2_call0_v11_apply, val_main_call2_call0_v10_apply, val_main_call2_call0_v9_apply, val_main_call2_call0_v8_apply,
    val_main_call2_call0_v7_apply, val_main_call2_call0_v6_apply, val_main_call2_call0_v5_apply, val_main_call2_call0_v4_apply, val_main_call2_call0_v3_apply,
    val_main_call2_call0_v2_apply, val_main_call2_call0_v1_apply, val_main_call2_call0_v0_apply, val_main_call2_call0_cst_apply, val_main_call2_v0_apply, scores, neg_word]
  exact soft_coe _
theorem stayLog : val_main_v24_0 (F := Ideal) (mat (φ := .bf16) X) i = ((gate (score cst (headQ X (i 0).val) (headK X (i 0).val) (i 2).val (i 1).val) - score cst (headQ X (i 0).val) (headK X (i 0).val) (i 2).val (i 1).val : ℝ) : EReal) := by
  rw [val_main_v24_0_apply, stay, neg_word, neg_soft]
theorem gateLog : val_main_v26_0 (F := Ideal) (mat (φ := .bf16) X) i = ((gate (score cst (headQ X (i 0).val) (headK X (i 0).val) (i 2).val (i 1).val) : ℝ) : EReal) := by
  rw [val_main_v26_0_apply, stay_neg, neg_word, neg_soft_neg]
theorem gateExp : val_main_v24_1 (F := Ideal) (mat (φ := .bf16) X) i = ((Real.exp (gate (score cst (headQ X (i 0).val) (headK X (i 0).val) (i 2).val (i 1).val)) : ℝ) : EReal) := by
  simp only [
    val_main_v24_1_apply, val_main_call0_call0_v21_apply, val_main_call0_call0_v20_apply, val_main_call0_call0_v19_apply, val_main_call0_call0_v18_apply,
    val_main_call0_call0_v17_apply, val_main_call0_call0_v16_apply, val_main_call0_call0_v15_apply, val_main_call0_call0_v14_apply, val_main_call0_call0_v13_apply,
    val_main_call0_call0_cst_0_apply, val_main_call0_call0_cst_1_apply, val_main_call0_call0_cst_2_apply, val_main_call0_call0_cst_3_apply, stay, val_main_call0_v0_apply,
    val_main_v23_apply, scores, neg_word, neg_neg, bits_zero, small, sub_word, exp_word, slope_soft]
theorem stayExp : val_main_v26_1 (F := Ideal) (mat (φ := .bf16) X) i = ((1 - Real.exp (gate (score cst (headQ X (i 0).val) (headK X (i 0).val) (i 2).val (i 1).val)) : ℝ) : EReal) := by
  simp only [
    val_main_v26_1_apply, val_main_call2_call0_v21_apply, val_main_call2_call0_v20_apply, val_main_call2_call0_v19_apply, val_main_call2_call0_v18_apply,
    val_main_call2_call0_v17_apply, val_main_call2_call0_v16_apply, val_main_call2_call0_v15_apply, val_main_call2_call0_v14_apply, val_main_call2_call0_v13_apply,
    val_main_call2_call0_cst_0_apply, val_main_call2_call0_cst_1_apply, val_main_call2_call0_cst_2_apply, val_main_call2_call0_cst_3_apply, stay_neg,
    val_main_call2_v0_apply, scores, neg_word, bits_zero, small, sub_word, exp_word, slope_soft, exp_gate_neg]
theorem logKeep : val_main_v25_0 (F := Ideal) (mat (φ := .bf16) X) i = ((keep cst (headQ X (i 0).val) (headK X (i 0).val) (i 2).val (i 1).val : ℝ) : EReal) := by
  simp only [
    val_main_v25_0_apply, stayLog, val_main_v25_1_apply, val_main_call1_v2_apply, val_main_call1_v0_apply, val_main_cst_0_apply, sees, pick, bits_zero, ite_coe]
  rfl
theorem logLater : val_main_v27 (F := Ideal) (mat (φ := .bf16) X) i = ((∑ t ∈ Ico (i 2).val 16512, keep cst (headQ X (i 0).val) (headK X (i 0).val) t (i 1).val : ℝ) : EReal) := by
  have h2 : (i 2).val < 16512 := (i 2).isLt
  refine (window_sum 0 16511 (fun a q t => keep cst (headQ X a) (headK X a) t q) _ (logKeep X) _ _ ?_ _ i).trans (congrArg _ (sum_from (fun t => keep cst (headQ X (i 0).val) (headK X (i 0).val) t (i 1).val) _ h2))
  exact bits_zero
theorem passes : val_main_v30 (F := Ideal) (mat (φ := .bf16) X) i = ((Real.exp (gate (score cst (headQ X (i 0).val) (headK X (i 0).val) (i 2).val (i 1).val) + ∑ t ∈ Ico ((i 2).val + 1) 16512, keep cst (headQ X (i 0).val) (headK X (i 0).val) t (i 1).val) : ℝ) : EReal) := by
  have h2 : (i 2).val < 16512 := (i 2).isLt
  have e : gate (score cst (headQ X (i 0).val) (headK X (i 0).val) (i 2).val (i 1).val) + (∑ t ∈ Ico (i 2).val 16512, keep cst (headQ X (i 0).val) (headK X (i 0).val) t (i 1).val) - keep cst (headQ X (i 0).val) (headK X (i 0).val) (i 2).val (i 1).val = gate (score cst (headQ X (i 0).val) (headK X (i 0).val) (i 2).val (i 1).val) + ∑ t ∈ Ico ((i 2).val + 1) 16512, keep cst (headQ X (i 0).val) (headK X (i 0).val) t (i 1).val := by
    rw [← Finset.sum_Ioo_add_eq_sum_Ico h2]
    rw [show Finset.Ioo (i 2).val 16512 = Ico ((i 2).val + 1) 16512 from rfl]; ring
  simp only [val_main_v30_apply, val_main_v29_apply, val_main_v28_apply, gateLog, logLater, logKeep, add_word, sub_word, exp_word, e]
theorem weights : val_main_v31_0 (F := Ideal) (mat (φ := .bf16) X) i = ((weight cst (headQ X (i 0).val) (headK X (i 0).val) 16512 (i 2).val (i 1).val : ℝ) : EReal) := by
  simp only [val_main_v31_0_apply, val_main_v31_1_apply, val_main_call4_v2_apply, val_main_call4_v0_apply, val_main_cst_1_apply, passes, sees, bits_zero, pick, ite_coe]
  rfl
theorem products : val_main_v37 (F := Ideal) (mat (φ := .bf16) X) (mat (φ := .f32) Y) i = ((dw (headV X (i 0).val) (headQ Y (i 0).val) (i 2).val (i 1).val : ℝ) : EReal) := by
  rw [val_main_v37_apply]
  simp only [cotangents, values]
  refine (sum_mul_coe 128 (fun k => headQ Y (i 0).val (i 1).val k) (fun k => headV X (i 0).val (i 2).val k)).trans ?_
  unfold dw
  simp only [mul_comm]
theorem flows : val_main_v41 (F := Ideal) (mat (φ := .bf16) X) (mat (φ := .f32) Y) i = ((flow cst (headQ X (i 0).val) (headK X (i 0).val) (headV X (i 0).val) (headQ Y (i 0).val) 16512 (i 2).val (i 1).val : ℝ) : EReal) := by
  simp only [val_main_v41_apply, val_main_v40_apply, val_main_v31_1_apply, val_main_call5_v0_apply, val_main_call5_cst_apply, passes, products, sees, bits_zero, pick, ite_coe, mul_word]
  unfold flow weight
  congr 1
  split
  · exact mul_comm _ _
  · rw [zero_mul, zero_mul]
theorem flowsEarlier : val_main_v43 (F := Ideal) (mat (φ := .bf16) X) (mat (φ := .f32) Y) i = ((∑ t ∈ range ((i 2).val + 1), flow cst (headQ X (i 0).val) (headK X (i 0).val) (headV X (i 0).val) (headQ Y (i 0).val) 16512 t (i 1).val : ℝ) : EReal) := by
  have h2 : (i 2).val < 16512 := (i 2).isLt
  refine (window_sum 16511 0 (fun a q t => flow cst (headQ X a) (headK X a) (headV X a) (headQ Y a) 16512 t q) _ (flows X Y) _ _ ?_ _ i).trans (congrArg _ (sum_upTo (fun t => flow cst (headQ X (i 0).val) (headK X (i 0).val) (headV X (i 0).val) (headQ Y (i 0).val) 16512 t (i 1).val) 16511 _ rfl h2))
  exact bits_zero
theorem slopes : val_main_v51 (F := Ideal) (mat (φ := .bf16) X) (mat (φ := .f32) Y) i = ((dscore cst (headQ X (i 0).val) (headK X (i 0).val) (headV X (i 0).val) (headQ Y (i 0).val) 16512 (i 2).val (i 1).val : ℝ) : EReal) := by
  simp only [val_main_v51_apply, val_main_v50_apply, val_main_cst_2_apply, val_main_v49_apply, val_main_v48_apply, val_main_v47_apply, val_main_v46_apply, val_main_v45_apply, val_main_v44_apply, val_main_v42_apply,
    val_main_call7_v0_apply, val_main_call7_v1_apply, val_main_call8_cst_apply, val_main_call8_v0_apply, val_main_call9_v0_apply, val_main_call9_v1_apply, val_main_v25_1_apply,
    stayExp, gateExp, flows, flowsEarlier, sees, bits_zero, neg_word, add_word, mul_word, pick, ite_coe]
  rw [show (FloatOps.ofBits .f32 0x3DB504F3#32 : Ideal .f32) = ((cst : ℝ) : EReal) from cst_eq, mul_word]
  congr 1
  unfold dscore
  rw [Finset.sum_range_succ]
  split <;> ring
end Cube

/-! The three results. -/

theorem place_row (r w : ℕ) (h : w < 1024) : (r * 1024 + w) / 1024 = r := by omega
theorem place_head (r w : ℕ) (h : w < 1024) : (r * 1024 + w) / 128 % 8 = w / 128 := by omega
theorem place_dim (r w : ℕ) : (r * 1024 + w) % 128 = w % 128 := by omega

theorem result_q : val_main_v58 (F := Ideal) (mat (φ := .bf16) X) (mat (φ := .f32) Y) = (mat (φ := .f32) (Cert.KernelIdeal.Sb.gradQ X Y) : FVec Ideal S16512x1024 .f32) := by
  funext i
  have h1 : (i 1).val < 1024 := (i 1).isLt
  rw [val_main_v58_apply, val_main_v55_apply, val_main_v54_apply]
  simp only [slopes, keys, place_row _ _ h1, place_head _ _ h1, place_dim]
  exact sum_mul_coe 16512 (fun t => dscore cst (headQ X ((i 1).val / 128)) (headK X ((i 1).val / 128)) (headV X ((i 1).val / 128)) (headQ Y ((i 1).val / 128)) 16512 t (i 0).val)
    (fun t => headK X ((i 1).val / 128) t ((i 1).val % 128))
theorem result_k : val_main_v57 (F := Ideal) (mat (φ := .bf16) X) (mat (φ := .f32) Y) = (mat (φ := .f32) (Cert.KernelIdeal.Sb.gradK X Y) : FVec Ideal S16512x1024 .f32) := by
  funext i
  have h1 : (i 1).val < 1024 := (i 1).isLt
  rw [val_main_v57_apply, val_main_v53_apply, val_main_v52_apply]
  simp only [slopes, queries, place_row _ _ h1, place_head _ _ h1, place_dim]
  exact sum_mul_coe 16512 (fun q => dscore cst (headQ X ((i 1).val / 128)) (headK X ((i 1).val / 128)) (headV X ((i 1).val / 128)) (headQ Y ((i 1).val / 128)) 16512 (i 0).val q)
    (fun q => headQ X ((i 1).val / 128) q ((i 1).val % 128))
theorem result_v : val_main_v56 (F := Ideal) (mat (φ := .bf16) X) (mat (φ := .f32) Y) = (mat (φ := .f32) (Cert.KernelIdeal.Sb.gradV X Y) : FVec Ideal S16512x1024 .f32) := by
  funext i
  have h1 : (i 1).val < 1024 := (i 1).isLt
  rw [val_main_v56_apply, val_main_v39_apply, val_main_v38_apply]
  simp only [weights, cotangents, place_row _ _ h1, place_head _ _ h1, place_dim]
  refine (sum_mul_coe 16512 (fun q => headQ Y ((i 1).val / 128) q ((i 1).val % 128)) (fun q => weight cst (headQ X ((i 1).val / 128)) (headK X ((i 1).val / 128)) 16512 (i 0).val q)).trans ?_
  show _ = ((Cert.KernelIdeal.Sb.gradV X Y (i 0).val (i 1).val : ℝ) : EReal)
  unfold Cert.KernelIdeal.Sb.gradV dv
  simp only [mul_comm]

end Cert.ReferenceIdeal.Sb

end
-- ==== Proof.Totals.lean ====
/- The array of the totals that the host prepares, on real numbers: for each head and query the sum, over the keys, of the logarithms of
   what the gates keep. -/
module

public import proofs.«01_k».proof.Proof.Ref
public import Idealize.ShloMosaic.Lib.KernelVsHost
public import Idealize.ShloMosaic.Lib.Pointwise

@[expose] public section

set_option maxRecDepth 16384

noncomputable section

namespace Cert.KernelIdeal.Sb

open Idealize.ShloMosaic Idealize.ShloMosaic.TcCoe Idealize.ShloMosaic.Tactic
open Idealize.SL Idealize.SL.Sem
open Idealize.ShloMosaic.Pipeline (Dat Cfg Window)
open Cert.KernelIdeal.Gen
open Cert.Stick
open Finset (range)

/-- The sums over the last axis, cut into blocks of three rows of 128 and padded to eight rows. -/
def padded (K : FVec Ideal S8x16512x16512 .f32) (z : FVec Ideal S_ .f32) : FVec Ideal S8x43x8x128 .f32 :=
  pad S8x43x8x128 ![0, 0, 0, 0] ![0, 0, 5, 0] ![0, 0, 0, 0]
    (shapeCast S8x43x3x128 (Host.reduceAdd (axes := [2]) K (constant S_ .f32 0#32) reducesTo_S8x16512x16512_S8x16512_d2 h_S_ : FVec Ideal S8x16512 .f32) shapeCasts_S8x16512_S8x43x3x128)
    z pads_S8x43x3x128_S8x43x8x128_000_000_050_000 h_S_

theorem padded_apply (f : ℕ → ℕ → ℕ → ℝ) (K : FVec Ideal S8x16512x16512 .f32) (hK : ∀ i, K i = ((f (i 0).val (i 1).val (i 2).val : ℝ) : EReal)) (z : FVec Ideal S_ .f32)
    (j : S8x43x8x128.Idx) (hj : (j 2).val < 3) : padded K z j = ((∑ t ∈ range 16512, f (j 0).val (384 * (j 1).val + 128 * (j 2).val + (j 3).val) t : ℝ) : EReal) := by
  have h0 : (j 0).val < 8 := (j 0).isLt
  have h1 : (j 1).val < 43 := (j 1).isLt
  have h3 : (j 3).val < 128 := (j 3).isLt
  unfold padded
  refine (pad_apply_of_inside _ _ _ _ _ _ _ j (fun a => match a with
    | ⟨0, _⟩ => ⟨(j 0).val, h0⟩
    | ⟨1, _⟩ => ⟨(j 1).val, h1⟩
    | ⟨2, _⟩ => ⟨(j 2).val, hj⟩
    | ⟨3, _⟩ => ⟨(j 3).val, h3⟩) (fun a => match a with
    | ⟨0, _⟩ => by show (j 0).val = 0 + (j 0).val * (0 + 1); omega
    | ⟨1, _⟩ => by show (j 1).val = 0 + (j 1).val * (0 + 1); omega
    | ⟨2, _⟩ => by show (j 2).val = 0 + (j 2).val * (0 + 1); omega
    | ⟨3, _⟩ => by show (j 3).val = 0 + (j 3).val * (0 + 1); omega)).trans ?_
  refine (shapeCast_apply (s := S8x16512) _ shapeCasts_S8x16512_S8x43x3x128 _ (fun a => match a with
    | ⟨0, _⟩ => ⟨(j 0).val, h0⟩
    | ⟨1, _⟩ => ⟨384 * (j 1).val + 128 * (j 2).val + (j 3).val, by show _ < 16512; omega⟩) ?_).trans ?_
  · rw [Shape.rowMajor_val_four, Shape.rowMajor_val_two]
    show (j 0).val * 16512 + (384 * (j 1).val + 128 * (j 2).val + (j 3).val) = (((j 0).val * 43 + (j 1).val) * 3 + (j 2).val) * 128 + (j 3).val
    omega
  · rw [Host.reduceAdd_apply]
    refine (Ideal.hostReduceAdd_r3_a2 _ _ _ _).trans ?_
    simp only [hK]
    refine (congrArg₂ (· + ·) Cert.Stick.bits_zero (sum_coe 16512 (fun t => f (j 0).val (384 * (j 1).val + 128 * (j 2).val + (j 3).val) t))).trans ?_
    rw [add_coe, zero_add]

variable (m : (ℓ : Loc nD τ sig) → Buf (Elt Ideal) ℓ) (c : Dev nD) (X : ℕ → ℕ → ℝ)
  (hX : m ((c.tc : Thread nD τ).loc main_arg0) = (mat (φ := .bf16) X : FVec Ideal S16512x3072 .bf16))
include hX
theorem prepared : ∃ z, (V m c main_v25 : FVec Ideal S8x43x8x128 .f32) = padded (Cert.ReferenceIdeal.Read.val_main_v25_0 (F := Ideal) (mat (φ := .bf16) X)) z := by
  refine ⟨sitofp .f32 (constantI S_ 32 0#32), ?_⟩
  unfold V
  simp only [List.flatten_cons, List.flatten_nil, List.append_nil, List.cons_append, List.nil_append]
  after_reads_simp
  rw [show m (_ : Loc nD τ sig) = _ from hX]
  simp only [StableHlo.TRef.ofBuf_toBuf]
  rfl

theorem totals : TotalsAre m c X := by
  obtain ⟨z, hz⟩ := prepared m c X hX
  intro j hj
  rw [hz]
  exact padded_apply (fun h q t => keep cst (headQ X h) (headK X h) t q) _ (Cert.ReferenceIdeal.Sb.logKeep X) z j hj

end Cert.KernelIdeal.Sb

end
-- ==== Proof.Value.lean ====
/- The kernel and the reference leave the same gradients: both write the formulas of stick-breaking attention's gradient, on the real
   numbers that finite arguments hold. -/
module

public import proofs.«01_k».proof.Defs
public import proofs.«01_k».proof.Proof.Totals

@[expose] public section

noncomputable section

namespace Cert.Proof

open Idealize.ShloMosaic Idealize.SL.Sem
open Cert.KernelIdeal.Sb (mat gradQ gradK gradV)

theorem pre_facts : Cert.Pre_finite_inputs.Facts := ⟨by decide, by decide, by decide⟩

/-- A number below infinity in size is real. -/
theorem real_of_bounded (x : EReal) (h : FloatOps.cmpf (F := Ideal) (φ := .f32) .olt (FloatOps.hostAbsf (F := Ideal) (φ := .f32) x) (FloatOps.ofBits .f32 0x7F800000#32) = 1#1) :
    x = ((x.toReal : ℝ) : EReal) := by
  have t : (FloatOps.ofBits .f32 0x7F800000#32 : Ideal .f32) = (⊤ : EReal) := by
    show Ideal.ofBits .f32 0x7F800000#32 = ⊤
    simp [Ideal.ofBits, Ideal.ieee]
  rw [t] at h
  have h' : Ideal.cmp .olt (max x (-x)) ⊤ = 1#1 := h
  induction x with
  | bot => simp [Ideal.cmp] at h'
  | top => simp [Ideal.cmp] at h'
  | coe x => rfl

/-- The entries of an array as real numbers, nought outside it. -/
def entries {a b : ℕ} (φ : FTy) (x : FVec Ideal ⟨2, ![a, b]⟩ φ) (r w : ℕ) : ℝ :=
  if h : r < a ∧ w < b then (x (fun k => match k with | ⟨0, _⟩ => ⟨r, h.1⟩ | ⟨1, _⟩ => ⟨w, h.2⟩) : EReal).toReal else 0
theorem mat_entries {a b : ℕ} (φ : FTy) (x : FVec Ideal ⟨2, ![a, b]⟩ φ) (h : ∀ i, (x i : EReal) = (((x i : EReal).toReal : ℝ) : EReal)) :
    x = (mat (φ := φ) (entries φ x) : FVec Ideal ⟨2, ![a, b]⟩ φ) := by
  funext i
  refine (h i).trans (congrArg _ ?_)
  show _ = entries φ x (i 0).val (i 1).val
  unfold entries
  rw [dif_pos ⟨(i 0).isLt, (i 1).isLt⟩]
  refine congrArg (fun k => (x k : EReal).toReal) (funext fun k => ?_)
  match k with
  | ⟨0, _⟩ => rfl
  | ⟨1, _⟩ => rfl

theorem reals (m : (ℓ : Loc Cert.KernelIdeal.nD Cert.KernelIdeal.τ Cert.KernelIdeal.sig) → Buf (Elt Ideal) ℓ)
    (h : Cert.Pre_KernelIdeal_finite_inputs (hPre_finite_inputs := pre_facts) m) (c : Dev Cert.KernelIdeal.nD) :
    m ((c.tc : Thread Cert.KernelIdeal.nD Cert.KernelIdeal.τ).loc Cert.KernelIdeal.main_arg0)
        = (mat (φ := .bf16) (entries (a := 16512) (b := 3072) .bf16 (m ((c.tc : Thread Cert.KernelIdeal.nD Cert.KernelIdeal.τ).loc Cert.KernelIdeal.main_arg0))) : FVec Ideal Cert.KernelIdeal.S16512x3072 .bf16)
    ∧ m ((c.tc : Thread Cert.KernelIdeal.nD Cert.KernelIdeal.τ).loc Cert.KernelIdeal.main_arg1)
        = (mat (φ := .f32) (entries (a := 16512) (b := 1024) .f32 (m ((c.tc : Thread Cert.KernelIdeal.nD Cert.KernelIdeal.τ).loc Cert.KernelIdeal.main_arg1))) : FVec Ideal Cert.KernelIdeal.S16512x1024 .f32) :=
  ⟨mat_entries .bf16 _ fun i => real_of_bounded _ (congrFun (h c).1 i), mat_entries .f32 _ fun i => real_of_bounded _ (congrFun (h c).2 i)⟩

theorem value : Cert.algebraic_KernelIdeal_ReferenceIdeal_pre_finite_inputs (hKernelIdeal := Cert.KernelIdeal.Gen.facts) (hReferenceIdeal := Cert.ReferenceIdeal.Gen.facts)
    (hPre_finite_inputs := pre_facts) := by
  intro m g m' g' h same
  have hr := reals m h
  refine ⟨_, _, _, Cert.KernelIdeal.Sb.run_grads m g _ _ (fun c => (hr c).1) (fun c => (hr c).2) (fun c => Cert.KernelIdeal.Sb.totals m c _ (hr c).1), ?_⟩
  refine (θ_run Cert.ReferenceIdeal.defs _ _).mono (fun r k c => ?_) (Cert.ReferenceIdeal.Value.run (F := Ideal) m' g')
  obtain ⟨k0, k1, k2, k3, k4⟩ := k c
  have e0 := (same c).1.trans (hr c).1
  have e1 := (same c).2.trans (hr c).2
  exact ⟨(k0.trans (Cert.ReferenceIdeal.Read.val_main_v58_eq m' c)).trans ((congrArg₂ (Cert.ReferenceIdeal.Read.val_main_v58 (F := Ideal)) e0 e1).trans (Cert.ReferenceIdeal.Sb.result_q _ _)),
    (k1.trans (Cert.ReferenceIdeal.Read.val_main_v57_eq m' c)).trans ((congrArg₂ (Cert.ReferenceIdeal.Read.val_main_v57 (F := Ideal)) e0 e1).trans (Cert.ReferenceIdeal.Sb.result_k _ _)),
    (k2.trans (Cert.ReferenceIdeal.Read.val_main_v56_eq m' c)).trans ((congrArg₂ (Cert.ReferenceIdeal.Read.val_main_v56 (F := Ideal)) e0 e1).trans (Cert.ReferenceIdeal.Sb.result_v _ _)), k3, k4⟩

end Cert.Proof

end
-- ==== Proof.lean ====
module

public import proofs.«01_k».proof.Proof.Call2
public import proofs.«01_k».proof.Proof.Call3
public import proofs.«01_k».proof.Proof.Call4
public import proofs.«01_k».proof.Proof.Call5
public import proofs.«01_k».proof.Proof.Call6
public import proofs.«01_k».proof.Proof.Call7
public import proofs.«01_k».proof.Proof.Call8
public import proofs.«01_k».proof.Proof.Call9
public import proofs.«01_k».proof.Proof.Call10
public import proofs.«01_k».proof.Proof.Call11
public import proofs.«01_k».proof.Proof.Call12
public import proofs.«01_k».proof.Proof.Call13
public import proofs.«01_k».proof.Proof.Call14
public import proofs.«01_k».proof.Proof.Call15
public import proofs.«01_k».proof.Proof.Call16
public import proofs.«01_k».proof.Proof.Call17
public import proofs.«01_k».proof.Proof.Call18
public import proofs.«01_k».proof.Proof.Call19
public import proofs.«01_k».proof.Proof.Call20
public import proofs.«01_k».proof.Proof.Call21
public import proofs.«01_k».proof.Proof.Call22
public import proofs.«01_k».proof.Proof.Call23
public import proofs.«01_k».proof.Proof.Call24
public import proofs.«01_k».proof.Proof.Call25
public import proofs.«01_k».proof.Proof.Call26
public import proofs.«01_k».proof.Proof.Call27
public import proofs.«01_k».proof.Proof.Call28
public import proofs.«01_k».proof.Proof.Call29
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Read
public import Idealize.ShloMosaic.Adequacy
public import Idealize.ShloMosaic.Init
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  pre_facts, frame_kernel, frame_ideal, fun m ρ _ => frame_ideal m ρ trivial, frame_reference, fun m ρ _ => frame_reference m ρ trivial,
  quiescent2, quiescent2_ideal, quiescent2_reference,
  quiescent3, quiescent3_ideal, quiescent3_reference,
  quiescent4, quiescent4_ideal, quiescent4_reference,
  quiescent5, quiescent5_ideal, quiescent5_reference,
  quiescent6, quiescent6_ideal, quiescent6_reference,
  quiescent7, quiescent7_ideal, quiescent7_reference,
  quiescent8, quiescent8_ideal, quiescent8_reference,
  quiescent9, quiescent9_ideal, quiescent9_reference,
  quiescent10, quiescent10_ideal, quiescent10_reference,
  quiescent11, quiescent11_ideal, quiescent11_reference,
  quiescent12, quiescent12_ideal, quiescent12_reference,
  quiescent13, quiescent13_ideal, quiescent13_reference,
  quiescent14, quiescent14_ideal, quiescent14_reference,
  quiescent15, quiescent15_ideal, quiescent15_reference,
  quiescent16, quiescent16_ideal, quiescent16_reference,
  quiescent17, quiescent17_ideal, quiescent17_reference,
  quiescent18, quiescent18_ideal, quiescent18_reference,
  quiescent19, quiescent19_ideal, quiescent19_reference,
  quiescent20, quiescent20_ideal, quiescent20_reference,
  quiescent21, quiescent21_ideal, quiescent21_reference,
  quiescent22, quiescent22_ideal, quiescent22_reference,
  quiescent23, quiescent23_ideal, quiescent23_reference,
  quiescent24, quiescent24_ideal, quiescent24_reference,
  quiescent25, quiescent25_ideal, quiescent25_reference,
  quiescent26, quiescent26_ideal, quiescent26_reference,
  quiescent27, quiescent27_ideal, quiescent27_reference,
  quiescent28, quiescent28_ideal, quiescent28_reference,
  quiescent29, quiescent29_ideal, quiescent29_reference,
  trivial, value,
  trivial, value2, trivial, value3, trivial, value4, trivial, value5, trivial, value6, trivial, value7, trivial, value8, trivial, value9,
  trivial, value10, trivial, value11, trivial, value12, trivial, value13, trivial, value14, trivial, value15, trivial, value16, trivial,
  value17, trivial, value18, trivial, value19, trivial, value20, trivial, value21, trivial, value22, trivial, value23, trivial, value24,
  trivial, value25, trivial, value26, trivial, value27, trivial, value28, trivial, value29⟩

end Cert.Proof

end
